-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3)
      ∧ r.2.mem ((c.tc : Thread Cert.ResidRefIdeal.nD Cert.ResidRefIdeal.τ).loc Cert.ResidRefIdeal.main_arg4) = m ((c.tc : Thread Cert.ResidRefIdeal.nD Cert.ResidRefIdeal.τ).loc Cert.ResidRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def preserves_Kernel_KernelIdeal : Prop :=
  IdealRules.named_const.Statement Cert.KernelIdeal.κ "inv_dv" .f32 0x3BAAAAAB#32 ((192⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v23)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v23) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v28) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v17)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v17) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v13) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v0) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v25) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v43) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v28) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)
      ∧ m' ((c.tc : Thread Cert.ResidRefIdeal.nD Cert.ResidRefIdeal.τ).loc Cert.ResidRefIdeal.main_arg4) = m ((c.tc : Thread Cert.ResidIdeal.nD Cert.ResidIdeal.τ).loc Cert.ResidIdeal.main_arg4)) →
    ∃ (v0 : (c : Dev Cert.ResidIdeal.nD) → Buf (Elt Ideal) ((c.tc : Thread Cert.ResidIdeal.nD Cert.ResidIdeal.τ).loc Cert.ResidIdeal.main_v3_0)) (v1 : (c : Dev Cert.ResidIdeal.nD) → Buf (Elt Ideal) ((c.tc : Thread Cert.ResidIdeal.nD Cert.ResidIdeal.τ).loc Cert.ResidIdeal.main_v3_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v3_0) = v0 c
          ∧ r.2.mem ((c.tc : Thread Cert.ResidIdeal.nD Cert.ResidIdeal.τ).loc Cert.ResidIdeal.main_v3_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v38) = v0 c
          ∧ r.2.mem ((c.tc : Thread Cert.ResidRefIdeal.nD Cert.ResidRefIdeal.τ).loc Cert.ResidRefIdeal.main_v40) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)
          ∧ r.2.mem ((c.tc : Thread Cert.ResidRefIdeal.nD Cert.ResidRefIdeal.τ).loc Cert.ResidRefIdeal.main_arg4) = m' ((c.tc : Thread Cert.ResidRefIdeal.nD Cert.ResidRefIdeal.τ).loc Cert.ResidRefIdeal.main_arg4))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v23)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v23) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v83) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQuery : Cert.Query.Facts) (hQueryIdeal : Cert.QueryIdeal.Facts) (hQueryRefIdeal : Cert.QueryRefIdeal.Facts) (hFinal : Cert.Final.Facts) (hFinalIdeal : Cert.FinalIdeal.Facts) (hFinalRefIdeal : Cert.FinalRefIdeal.Facts) (hMod : Cert.Mod.Facts) (hModIdeal : Cert.ModIdeal.Facts) (hModRefIdeal : Cert.ModRefIdeal.Facts) (hNorm : Cert.Norm.Facts) (hNormIdeal : Cert.NormIdeal.Facts) (hNormRefIdeal : Cert.NormRefIdeal.Facts) (hResid : Cert.Resid.Facts) (hResidIdeal : Cert.ResidIdeal.Facts) (hResidRefIdeal : Cert.ResidRefIdeal.Facts) (hPool : Cert.Pool.Facts) (hPoolIdeal : Cert.PoolIdeal.Facts) (hPoolRefIdeal : Cert.PoolRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Query (hQuery := hQuery)
    ∧ quiescent_QueryIdeal (hQueryIdeal := hQueryIdeal)
    ∧ quiescent_QueryRefIdeal (hQueryRefIdeal := hQueryRefIdeal)
    ∧ quiescent_Final (hFinal := hFinal)
    ∧ quiescent_FinalIdeal (hFinalIdeal := hFinalIdeal)
    ∧ quiescent_FinalRefIdeal (hFinalRefIdeal := hFinalRefIdeal)
    ∧ quiescent_Mod (hMod := hMod)
    ∧ quiescent_ModIdeal (hModIdeal := hModIdeal)
    ∧ quiescent_ModRefIdeal (hModRefIdeal := hModRefIdeal)
    ∧ quiescent_Norm (hNorm := hNorm)
    ∧ quiescent_NormIdeal (hNormIdeal := hNormIdeal)
    ∧ quiescent_NormRefIdeal (hNormRefIdeal := hNormRefIdeal)
    ∧ quiescent_Resid (hResid := hResid)
    ∧ quiescent_ResidIdeal (hResidIdeal := hResidIdeal)
    ∧ quiescent_ResidRefIdeal (hResidRefIdeal := hResidRefIdeal)
    ∧ quiescent_Pool (hPool := hPool)
    ∧ quiescent_PoolIdeal (hPoolIdeal := hPoolIdeal)
    ∧ quiescent_PoolRefIdeal (hPoolRefIdeal := hPoolRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Query_QueryIdeal
    ∧ algebraic_QueryIdeal_QueryRefIdeal (hQueryIdeal := hQueryIdeal) (hQueryRefIdeal := hQueryRefIdeal)
    ∧ preserves_Final_FinalIdeal
    ∧ algebraic_FinalIdeal_FinalRefIdeal (hFinalIdeal := hFinalIdeal) (hFinalRefIdeal := hFinalRefIdeal)
    ∧ preserves_Mod_ModIdeal
    ∧ algebraic_ModIdeal_ModRefIdeal (hModIdeal := hModIdeal) (hModRefIdeal := hModRefIdeal)
    ∧ preserves_Norm_NormIdeal
    ∧ algebraic_NormIdeal_NormRefIdeal (hNormIdeal := hNormIdeal) (hNormRefIdeal := hNormRefIdeal)
    ∧ preserves_Resid_ResidIdeal
    ∧ algebraic_ResidIdeal_ResidRefIdeal (hResidIdeal := hResidIdeal) (hResidRefIdeal := hResidRefIdeal)
    ∧ preserves_Pool_PoolIdeal
    ∧ algebraic_PoolIdeal_PoolRefIdeal (hPoolIdeal := hPoolIdeal) (hPoolRefIdeal := hPoolRefIdeal)
-- ==== Kernel.lean ====
abbrev S2x4096x5392 : Shape := ⟨3, ![2, 4096, 5392]⟩
abbrev S16x384 : Shape := ⟨2, ![16, 384]⟩
abbrev S384 : Shape := ⟨1, ![384]⟩
abbrev S768 : Shape := ⟨1, ![768]⟩
abbrev S2x4096x512 : Shape := ⟨3, ![2, 4096, 512]⟩
abbrev S2x4096x384 : Shape := ⟨3, ![2, 4096, 384]⟩
abbrev S2x4096x4x96 : Shape := ⟨4, ![2, 4096, 4, 96]⟩
abbrev S_ : Shape := ⟨0, ![]⟩
abbrev S2x4096x4x128 : Shape := ⟨4, ![2, 4096, 4, 128]⟩
abbrev S2x4096x768 : Shape := ⟨3, ![2, 4096, 768]⟩
abbrev S2x4096x4x192 : Shape := ⟨4, ![2, 4096, 4, 192]⟩
abbrev S2x4096x4x256 : Shape := ⟨4, ![2, 4096, 4, 256]⟩
abbrev S2x4096x1024 : Shape := ⟨3, ![2, 4096, 1024]⟩
abbrev S2x4096x16 : Shape := ⟨3, ![2, 4096, 16]⟩
abbrev S2x4096x128 : Shape := ⟨3, ![2, 4096, 128]⟩
abbrev S2x4096x2560 : Shape := ⟨3, ![2, 4096, 2560]⟩
abbrev S2x4096x6272 : Shape := ⟨3, ![2, 4096, 6272]⟩
abbrev S8192x6272 : Shape := ⟨2, ![8192, 6272]⟩
abbrev S16x4x96 : Shape := ⟨3, ![16, 4, 96]⟩
abbrev S16x4x128 : Shape := ⟨3, ![16, 4, 128]⟩
abbrev S16x512 : Shape := ⟨2, ![16, 512]⟩
abbrev S128x512 : Shape := ⟨2, ![128, 512]⟩
abbrev S4x96 : Shape := ⟨2, ![4, 96]⟩
abbrev S4x128 : Shape := ⟨2, ![4, 128]⟩
abbrev S512 : Shape := ⟨1, ![512]⟩
abbrev S1x512 : Shape := ⟨2, ![1, 512]⟩
abbrev S4x192 : Shape := ⟨2, ![4, 192]⟩
abbrev S4x256 : Shape := ⟨2, ![4, 256]⟩
abbrev S1024 : Shape := ⟨1, ![1024]⟩
abbrev S1x1024 : Shape := ⟨2, ![1, 1024]⟩
abbrev S2x64x512 : Shape := ⟨3, ![2, 64, 512]⟩
abbrev S2x64x1024 : Shape := ⟨3, ![2, 64, 1024]⟩
abbrev S2x64x128 : Shape := ⟨3, ![2, 64, 128]⟩
abbrev S8x256x128 : Shape := ⟨3, ![8, 256, 128]⟩
abbrev S1x64x128 : Shape := ⟨3, ![1, 64, 128]⟩
abbrev S64x128 : Shape := ⟨2, ![64, 128]⟩
abbrev S128x128 : Shape := ⟨2, ![128, 128]⟩
abbrev S64x1 : Shape := ⟨2, ![64, 1]⟩
abbrev S64x64 : Shape := ⟨2, ![64, 64]⟩
abbrev S1x64x256 : Shape := ⟨3, ![1, 64, 256]⟩
abbrev S64x256 : Shape := ⟨2, ![64, 256]⟩
abbrev S1x256x128 : Shape := ⟨3, ![1, 256, 128]⟩
abbrev S256x128 : Shape := ⟨2, ![256, 128]⟩
abbrev S1x128 : Shape := ⟨2, ![1, 128]⟩
abbrev S64x512 : Shape := ⟨2, ![64, 512]⟩
abbrev S192x256 : Shape := ⟨2, ![192, 256]⟩
abbrev S192x128 : Shape := ⟨2, ![192, 128]⟩
abbrev S256x256 : Shape := ⟨2, ![256, 256]⟩
abbrev S64 : Shape := ⟨1, ![64]⟩
abbrev S1x256 : Shape := ⟨2, ![1, 256]⟩

abbrev nBuf : Space → Nat
  | .hbm => 58
  | .vmem => 16
  | .smem => 0
  | _ => 0

abbrev bufTy : (tb : Table) → Fin (tcTables nBuf tb) → BufTy
  | .hbm, ⟨0, _⟩ => ⟨S2x4096x5392, .f32⟩
  | .hbm, ⟨1, _⟩ => ⟨S16x384, .f32⟩
  | .hbm, ⟨2, _⟩ => ⟨S384, .f32⟩
  | .hbm, ⟨3, _⟩ => ⟨S768, .f32⟩
  | .hbm, ⟨4, _⟩ => ⟨S2x4096x512, .f32⟩
  | .hbm, ⟨5, _⟩ => ⟨S2x4096x384, .f32⟩
  | .hbm, ⟨6, _⟩ => ⟨S2x4096x4x96, .f32⟩
  | .hbm, ⟨7, _⟩ => ⟨S_, .i32⟩
  | .hbm, ⟨8, _⟩ => ⟨S_, .f32⟩
  | .hbm, ⟨9, _⟩ => ⟨S2x4096x4x128, .f32⟩
  | .hbm, ⟨10, _⟩ => ⟨S2x4096x512, .f32⟩
  | .hbm, ⟨11, _⟩ => ⟨S2x4096x384, .f32⟩
  | .hbm, ⟨12, _⟩ => ⟨S2x4096x4x96, .f32⟩
  | .hbm, ⟨13, _⟩ => ⟨S_, .i32⟩
  | .hbm, ⟨14, _⟩ => ⟨S_, .f32⟩
  | .hbm, ⟨15, _⟩ => ⟨S2x4096x4x128, .f32⟩
  | .hbm, ⟨16, _⟩ => ⟨S2x4096x512, .f32⟩
  | .hbm, ⟨17, _⟩ => ⟨S2x4096x768, .f32⟩
  | .hbm, ⟨18, _⟩ => ⟨S2x4096x4x192, .f32⟩
  | .hbm, ⟨19, _⟩ => ⟨S_, .i32⟩
  | .hbm, ⟨20, _⟩ => ⟨S_, .f32⟩
  | .hbm, ⟨21, _⟩ => ⟨S2x4096x4x256, .f32⟩
  | .hbm, ⟨22, _⟩ => ⟨S2x4096x1024, .f32⟩
  | .hbm, ⟨23, _⟩ => ⟨S2x4096x768, .f32⟩
  | .hbm, ⟨24, _⟩ => ⟨S2x4096x4x192, .f32⟩
  | .hbm, ⟨25, _⟩ => ⟨S_, .i32⟩
  | .hbm, ⟨26, _⟩ => ⟨S_, .f32⟩
  | .hbm, ⟨27, _⟩ => ⟨S2x4096x4x256, .f32⟩
  | .hbm, ⟨28, _⟩ => ⟨S2x4096x1024, .f32⟩
  | .hbm, ⟨29, _⟩ => ⟨S2x4096x16, .f32⟩
  | .hbm, ⟨30, _⟩ => ⟨S_, .i32⟩
  | .hbm, ⟨31, _⟩ => ⟨S_, .f32⟩
  | .hbm, ⟨32, _⟩ => ⟨S2x4096x128, .f32⟩
  | .hbm, ⟨33, _⟩ => ⟨S2x4096x2560, .f32⟩
  | .hbm, ⟨34, _⟩ => ⟨S2x4096x6272, .f32⟩
  | .hbm, ⟨35, _⟩ => ⟨S8192x6272, .f32⟩
  | .hbm, ⟨36, _⟩ => ⟨S16x4x96, .f32⟩
  | .hbm, ⟨37, _⟩ => ⟨S_, .i32⟩
  | .hbm, ⟨38, _⟩ => ⟨S_, .f32⟩
  | .hbm, ⟨39, _⟩ => ⟨S16x4x128, .f32⟩
  | .hbm, ⟨40, _⟩ => ⟨S16x512, .f32⟩
  | .hbm, ⟨41, _⟩ => ⟨S_, .i32⟩
  | .hbm, ⟨42, _⟩ => ⟨S_, .f32⟩
  | .hbm, ⟨43, _⟩ => ⟨S128x512, .f32⟩
  | .hbm, ⟨44, _⟩ => ⟨S4x96, .f32⟩
  | .hbm, ⟨45, _⟩ => ⟨S_, .i32⟩
  | .hbm, ⟨46, _⟩ => ⟨S_, .f32⟩
  | .hbm, ⟨47, _⟩ => ⟨S4x128, .f32⟩
  | .hbm, ⟨48, _⟩ => ⟨S512, .f32⟩
  | .hbm, ⟨49, _⟩ => ⟨S1x512, .f32⟩
  | .hbm, ⟨50, _⟩ => ⟨S4x192, .f32⟩
  | .hbm, ⟨51, _⟩ => ⟨S_, .i32⟩
  | .hbm, ⟨52, _⟩ => ⟨S_, .f32⟩
  | .hbm, ⟨53, _⟩ => ⟨S4x256, .f32⟩
  | .hbm, ⟨54, _⟩ => ⟨S1024, .f32⟩
  | .hbm, ⟨55, _⟩ => ⟨S1x1024, .f32⟩
  | .hbm, ⟨56, _⟩ => ⟨S2x4096x6272, .f32⟩
  | .hbm, ⟨57, _⟩ => ⟨S2x4096x1024, .bf16⟩
  | .local _ .vmem, ⟨0, _⟩ => ⟨S2x64x512, .f32⟩
  | .local _ .vmem, ⟨1, _⟩ => ⟨S2x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x1024, .f32⟩
  | .local _ .vmem, ⟨5, _⟩ => ⟨S2x64x1024, .f32⟩
  | .local _ .vmem, ⟨6, _⟩ => ⟨S2x64x1024, .f32⟩
  | .local _ .vmem, ⟨7, _⟩ => ⟨S2x64x1024, .f32⟩
  | .local _ .vmem, ⟨8, _⟩ => ⟨S2x64x128, .f32⟩
  | .local _ .vmem, ⟨9, _⟩ => ⟨S2x64x128, .f32⟩
  | .local _ .vmem, ⟨10, _⟩ => ⟨S128x512, .f32⟩
  | .local _ .vmem, ⟨11, _⟩ => ⟨S1x512, .f32⟩
  | .local _ .vmem, ⟨12, _⟩ => ⟨S1x1024, .f32⟩
  | .local _ .vmem, ⟨13, _⟩ => ⟨S2x64x1024, .bf16⟩
  | .local _ .vmem, ⟨14, _⟩ => ⟨S2x64x1024, .bf16⟩
  | .local _ .vmem, ⟨15, _⟩ => ⟨S8x256x128, .f32⟩
  | _, _ => ⟨S2x4096x5392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_call3_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_call4_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_call5_v0 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_call6_v0 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_call7_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_call8_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![c0_i32.toNat, arg0.toNat, c6_i32.toNat]

def cc0_transform_1 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![c0_i32.toNat, arg0.toNat, c7_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_3 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![c0_i32.toNat, arg0.toNat, c5_i32.toNat]

def cc0_transform_4 (i : grid0.Coords) : Fin 3 → Nat :=
  let arg0 : BitVec 32 := BitVec.ofNat 32 (i 0).val
  let c0_i32 : BitVec 32 := 0#32
  let c48_i32 : BitVec 32 := 48#32
  let c0_i32_0 : BitVec 32 := 0#32
  ![c0_i32.toNat, arg0.toNat, c48_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_dv" => some ((192⁻¹ : ℝ) : EReal)
  | _ => none
-- ==== ReferenceIdeal.lean ====
abbrev S2x4096x5392 : Shape := ⟨3, ![2, 4096, 5392]⟩
abbrev S16x384 : Shape := ⟨2, ![16, 384]⟩
abbrev S384 : Shape := ⟨1, ![384]⟩
abbrev S768 : Shape := ⟨1, ![768]⟩
abbrev S2x4096x384 : Shape := ⟨3, ![2, 4096, 384]⟩
abbrev S2x4096x768 : Shape := ⟨3, ![2, 4096, 768]⟩
abbrev S2x4096x16 : Shape := ⟨3, ![2, 4096, 16]⟩
abbrev S2x4096x4x96 : Shape := ⟨4, ![2, 4096, 4, 96]⟩
abbrev S_ : Shape := ⟨0, ![]⟩
abbrev S2x4096x4x192 : Shape := ⟨4, ![2, 4096, 4, 192]⟩
abbrev S1x1x384 : Shape := ⟨3, ![1, 1, 384]⟩
abbrev S64x64 : Shape := ⟨2, ![64, 64]⟩
abbrev S64x64x1 : Shape := ⟨3, ![64, 64, 1]⟩
abbrev S2x4x96x192 : Shape := ⟨4, ![2, 4, 96, 192]⟩
abbrev S2x64x64x4x96 : Shape := ⟨5, ![2, 64, 64, 4, 96]⟩
abbrev S64x2x4x64x96 : Shape := ⟨5, ![64, 2, 4, 64, 96]⟩
abbrev S2x64x64x4x192 : Shape := ⟨5, ![2, 64, 64, 4, 192]⟩
abbrev S64x2x4x64x192 : Shape := ⟨5, ![64, 2, 4, 64, 192]⟩
abbrev S1x2x4x64x96 : Shape := ⟨5, ![1, 2, 4, 64, 96]⟩
abbrev S2x4x64x96 : Shape := ⟨4, ![2, 4, 64, 96]⟩
abbrev S1x2x4x64x192 : Shape := ⟨5, ![1, 2, 4, 64, 192]⟩
abbrev S2x4x64x192 : Shape := ⟨4, ![2, 4, 64, 192]⟩
abbrev S2x4x64x1x96 : Shape := ⟨5, ![2, 4, 64, 1, 96]⟩
abbrev S2x4x1x64x96 : Shape := ⟨5, ![2, 4, 1, 64, 96]⟩
abbrev S2x4x64x64x96 : Shape := ⟨5, ![2, 4, 64, 64, 96]⟩
abbrev S2x4x64x64 : Shape := ⟨4, ![2, 4, 64, 64]⟩
abbrev S2x4x1x96 : Shape := ⟨4, ![2, 4, 1, 96]⟩
abbrev S2x4x96 : Shape := ⟨3, ![2, 4, 96]⟩
abbrev S2x4x96x1 : Shape := ⟨4, ![2, 4, 96, 1]⟩
abbrev S2x4096x4 : Shape := ⟨3, ![2, 4096, 4]⟩
abbrev S2x4096x4x1 : Shape := ⟨4, ![2, 4096, 4, 1]⟩
abbrev S1x1x768 : Shape := ⟨3, ![1, 1, 768]⟩
abbrev S2x4096x4x64 : Shape := ⟨4, ![2, 4096, 4, 64]⟩
abbrev S2x4096x4x256 : Shape := ⟨4, ![2, 4096, 4, 256]⟩
abbrev S2x4096x1024 : Shape := ⟨3, ![2, 4096, 1024]⟩

abbrev nBuf : Space → Nat
  | .hbm => 180
  | .vmem => 0
  | .smem => 0
  | _ => 0

abbrev hbmTy0_0 (i : Nat) : BufTy := match i % 128 with
  | 0 => ⟨S2x4096x5392, .f32⟩
  | 1 => ⟨S16x384, .f32⟩
  | 2 => ⟨S384, .f32⟩
  | 3 => ⟨S768, .f32⟩
  | 4 => ⟨S2x4096x384, .f32⟩
  | 5 => ⟨S2x4096x384, .f32⟩
  | 6 => ⟨S2x4096x768, .f32⟩
  | 7 => ⟨S2x4096x16, .f32⟩
  | 8 => ⟨S2x4096x4x96, .f32⟩
  | 9 => ⟨S_, .f32⟩
  | 10 => ⟨S2x4096x4x96, .f32⟩
  | 11 => ⟨S2x4096x4x96, .f32⟩
  | 12 => ⟨S2x4096x4x96, .f32⟩
  | 13 => ⟨S2x4096x4x192, .f32⟩
  | 14 => ⟨S2x4096x384, .f32⟩
  | 15 => ⟨S1x1x384, .f32⟩
  | 16 => ⟨S2x4096x384, .f32⟩
  | 17 => ⟨S2x4096x384, .f32⟩
  | 18 => ⟨S2x4096x384, .f32⟩
  | 19 => ⟨S_, .f32⟩
  | 20 => ⟨S2x4096x384, .f32⟩
  | 21 => ⟨S2x4096x384, .f32⟩
  | 22 => ⟨S2x4096x384, .f32⟩
  | 23 => ⟨S2x4096x384, .f32⟩
  | 24 => ⟨S2x4096x384, .i1⟩
  | 25 => ⟨S2x4096x384, .f32⟩
  | 26 => ⟨S2x4096x384, .f32⟩
  | 27 => ⟨S2x4096x384, .f32⟩
  | 28 => ⟨S2x4096x384, .f32⟩
  | 29 => ⟨S2x4096x384, .f32⟩
  | 30 => ⟨S2x4096x384, .f32⟩
  | 31 => ⟨S2x4096x384, .f32⟩
  | 32 => ⟨S2x4096x384, .f32⟩
  | 33 => ⟨S2x4096x384, .f32⟩
  | 34 => ⟨S_, .f32⟩
  | 35 => ⟨S2x4096x384, .f32⟩
  | 36 => ⟨S2x4096x384, .f32⟩
  | 37 => ⟨S2x4096x4x96, .f32⟩
  | 38 => ⟨S_, .i1⟩
  | 39 => ⟨S64x64, .i1⟩
  | 40 => ⟨S64x64, .i32⟩
  | 41 => ⟨S_, .i32⟩
  | 42 => ⟨S64x64, .i32⟩
  | 43 => ⟨S64x64, .i32⟩
  | 44 => ⟨S64x64, .i32⟩
  | 45 => ⟨S64x64, .i1⟩
  | 46 => ⟨S_, .i1⟩
  | 47 => ⟨S64x64, .i1⟩
  | 48 => ⟨S64x64, .i1⟩
  | 49 => ⟨S64x64x1, .i1⟩
  | 50 => ⟨S_, .f32⟩
  | 51 => ⟨S2x4x96x192, .f32⟩
  | 52 => ⟨S2x64x64x4x96, .f32⟩
  | 53 => ⟨S64x2x4x64x96, .f32⟩
  | 54 => ⟨S2x64x64x4x96, .f32⟩
  | 55 => ⟨S64x2x4x64x96, .f32⟩
  | 56 => ⟨S2x64x64x4x192, .f32⟩
  | 57 => ⟨S64x2x4x64x192, .f32⟩
  | 58 => ⟨S2x64x64x4x96, .f32⟩
  | 59 => ⟨S64x2x4x64x96, .f32⟩
  | 60 => ⟨S_, .f32⟩
  | 61 => ⟨S64x2x4x64x192, .f32⟩
  | 62 => ⟨S_, .i32⟩
  | 63 => ⟨S64x2x4x64x96, .f32⟩
  | 64 => ⟨S64x2x4x64x96, .f32⟩
  | 65 => ⟨S64x2x4x64x192, .f32⟩
  | 66 => ⟨S64x2x4x64x96, .f32⟩
  | 67 => ⟨S64x64x1, .i1⟩
  | 68 => ⟨S_, .i32⟩
  | 69 => ⟨S2x4x96x192, .f32⟩
  | 70 => ⟨S64x2x4x64x192, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S1x2x4x64x96, .f32⟩
  | 78 => ⟨S2x4x64x96, .f32⟩
  | 79 => ⟨S_, .i32⟩
  | 80 => ⟨S_, .i32⟩
  | 81 => ⟨S_, .i32⟩
  | 82 => ⟨S_, .i32⟩
  | 83 => ⟨S1x2x4x64x96, .f32⟩
  | 84 => ⟨S2x4x64x96, .f32⟩
  | 85 => ⟨S_, .i32⟩
  | 86 => ⟨S_, .i32⟩
  | 87 => ⟨S_, .i32⟩
  | 88 => ⟨S_, .i32⟩
  | 89 => ⟨S1x2x4x64x192, .f32⟩
  | 90 => ⟨S2x4x64x192, .f32⟩
  | 91 => ⟨S_, .i32⟩
  | 92 => ⟨S_, .i32⟩
  | 93 => ⟨S_, .i32⟩
  | 94 => ⟨S_, .i32⟩
  | 95 => ⟨S1x2x4x64x96, .f32⟩
  | 96 => ⟨S2x4x64x96, .f32⟩
  | 97 => ⟨S_, .f32⟩
  | 98 => ⟨S_, .f32⟩
  | 99 => ⟨S2x4x64x96, .f32⟩
  | 100 => ⟨S2x4x64x96, .f32⟩
  | 101 => ⟨S2x4x64x96, .f32⟩
  | 102 => ⟨S2x4x64x192, .f32⟩
  | 103 => ⟨S2x4x64x1x96, .f32⟩
  | 104 => ⟨S2x4x1x64x96, .f32⟩
  | 105 => ⟨S2x4x64x64x96, .f32⟩
  | 106 => ⟨S2x4x64x64x96, .f32⟩
  | 107 => ⟨S2x4x64x64x96, .f32⟩
  | 108 => ⟨S_, .f32⟩
  | 109 => ⟨S_, .f32⟩
  | 110 => ⟨S2x4x64x64x96, .i1⟩
  | 111 => ⟨S2x4x64x64x96, .f32⟩
  | 112 => ⟨S2x4x64x64x96, .f32⟩
  | 113 => ⟨S2x4x64x1x96, .f32⟩
  | 114 => ⟨S2x4x1x64x96, .f32⟩
  | 115 => ⟨S2x4x64x64x96, .f32⟩
  | 116 => ⟨S2x4x64x64x96, .f32⟩
  | 117 => ⟨S2x4x64x64x96, .f32⟩
  | 118 => ⟨S2x4x64x64x96, .f32⟩
  | 119 => ⟨S2x4x64x64x96, .f32⟩
  | 120 => ⟨S_, .f32⟩
  | 121 => ⟨S2x4x64x64, .f32⟩
  | 122 => ⟨S2x4x64x192, .f32⟩
  | 123 => ⟨S2x4x64x192, .f32⟩
  | 124 => ⟨S2x4x1x96, .f32⟩
  | 125 => ⟨S2x4x96, .f32⟩
  | 126 => ⟨S2x4x96, .f32⟩
  | 127 => ⟨S2x4x96x1, .f32⟩
  | _ => ⟨S2x4096x5392, .f32⟩

abbrev hbmTy0_1 (i : Nat) : BufTy := match i % 128 with
  | 0 => ⟨S2x4x96x192, .f32⟩
  | 1 => ⟨S2x4x96x192, .f32⟩
  | 2 => ⟨S2x4x64x96, .f32⟩
  | 3 => ⟨S2x4x64x96, .f32⟩
  | 4 => ⟨S2x4x64x96, .f32⟩
  | 5 => ⟨S2x4x64x96, .f32⟩
  | 6 => ⟨S2x4x96x192, .f32⟩
  | 7 => ⟨S2x4x96x192, .f32⟩
  | 8 => ⟨S1x2x4x64x192, .f32⟩
  | 9 => ⟨S_, .i32⟩
  | 10 => ⟨S_, .i32⟩
  | 11 => ⟨S_, .i32⟩
  | 12 => ⟨S_, .i32⟩
  | 13 => ⟨S64x2x4x64x192, .f32⟩
  | 14 => ⟨S_, .i32⟩
  | 15 => ⟨S_, .i32⟩
  | 16 => ⟨S2x64x64x4x192, .f32⟩
  | 17 => ⟨S2x4096x4x192, .f32⟩
  | 18 => ⟨S2x4096x4x192, .f32⟩
  | 19 => ⟨S_, .f32⟩
  | 20 => ⟨S2x4096x4, .f32⟩
  | 21 => ⟨S2x4096x4x1, .f32⟩
  | 22 => ⟨S_, .f32⟩
  | 23 => ⟨S2x4096x4x1, .f32⟩
  | 24 => ⟨S2x4096x4x1, .f32⟩
  | 25 => ⟨S_, .f32⟩
  | 26 => ⟨S2x4096x4x1, .f32⟩
  | 27 => ⟨S2x4096x4x1, .f32⟩
  | 28 => ⟨S2x4096x4x1, .f32⟩
  | 29 => ⟨S2x4096x4x192, .f32⟩
  | 30 => ⟨S2x4096x4x192, .f32⟩
  | 31 => ⟨S2x4096x768, .f32⟩
  | 32 => ⟨S2x4096x768, .f32⟩
  | 33 => ⟨S1x1x768, .f32⟩
  | 34 => ⟨S2x4096x768, .f32⟩
  | 35 => ⟨S2x4096x768, .f32⟩
  | 36 => ⟨S2x4096x768, .f32⟩
  | 37 => ⟨S2x4096x768, .f32⟩
  | 38 => ⟨S_, .f32⟩
  | 39 => ⟨S2x4096x768, .f32⟩
  | 40 => ⟨S2x4096x768, .f32⟩
  | 41 => ⟨S_, .f32⟩
  | 42 => ⟨S2x4096x768, .f32⟩
  | 43 => ⟨S2x4096x768, .f32⟩
  | 44 => ⟨S2x4096x768, .f32⟩
  | 45 => ⟨S2x4096x768, .f32⟩
  | 46 => ⟨S2x4096x4x192, .f32⟩
  | 47 => ⟨S_, .f32⟩
  | 48 => ⟨S2x4096x4x64, .f32⟩
  | 49 => ⟨S2x4096x4x256, .f32⟩
  | 50 => ⟨S2x4096x1024, .f32⟩
  | 51 => ⟨S2x4096x1024, .bf16⟩
  | _ => ⟨S2x4096x5392, .f32⟩

abbrev hbmTy (i : Nat) : BufTy := match i / 128 with
  | 0 => hbmTy0_0 i
  | 1 => hbmTy0_1 i
  | _ => ⟨S2x4096x5392, .f32⟩

abbrev bufTy : (tb : Table) → Fin (tcTables nBuf tb) → BufTy
  | .hbm, ⟨i, _⟩ => hbmTy i
  | _, _ => ⟨S2x4096x5392, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_0 : Ref sig .tc := ⟨.hbm, 46, rfl⟩
abbrev main_call1_v5 : Ref sig .tc := ⟨.hbm, 47, rfl⟩
abbrev main_v18 : Ref sig .tc := ⟨.hbm, 48, rfl⟩
abbrev main_v19 : Ref sig .tc := ⟨.hbm, 49, rfl⟩
abbrev main_cst_1 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_2 : Ref sig .tc := ⟨.hbm, 60, rfl⟩
abbrev main_v29 : Ref sig .tc := ⟨.hbm, 61, rfl⟩
abbrev main_c_3 : Ref sig .tc := ⟨.hbm, 62, rfl⟩
abbrev main_v30_0 : Ref sig .tc := ⟨.hbm, 63, rfl⟩
abbrev main_v30_1 : Ref sig .tc := ⟨.hbm, 64, rfl⟩
abbrev main_v30_2 : Ref sig .tc := ⟨.hbm, 65, rfl⟩
abbrev main_v30_3 : Ref sig .tc := ⟨.hbm, 66, rfl⟩
abbrev main_v30_4 : Ref sig .tc := ⟨.hbm, 67, rfl⟩
abbrev main_v30_5 : Ref sig .tc := ⟨.hbm, 68, rfl⟩
abbrev main_v30_6 : Ref sig .tc := ⟨.hbm, 69, rfl⟩
abbrev main_v30_7 : Ref sig .tc := ⟨.hbm, 70, rfl⟩
abbrev main_while0c_c_17 : Ref sig .tc := ⟨.hbm, 71, rfl⟩
abbrev main_while0c_v61 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_c_2 : Ref sig .tc := ⟨.hbm, 76, rfl⟩
abbrev main_while0b_call2_v0 : Ref sig .tc := ⟨.hbm, 77, rfl⟩
abbrev main_while0b_v61 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_c_2 : Ref sig .tc := ⟨.hbm, 82, rfl⟩
abbrev main_while0b_call3_v0 : Ref sig .tc := ⟨.hbm, 83, rfl⟩
abbrev main_while0b_v62 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_c_2 : Ref sig .tc := ⟨.hbm, 88, rfl⟩
abbrev main_while0b_call4_v0 : Ref sig .tc := ⟨.hbm, 89, rfl⟩
abbrev main_while0b_v63 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_c_2 : Ref sig .tc := ⟨.hbm, 94, rfl⟩
abbrev main_while0b_call5_v0 : Ref sig .tc := ⟨.hbm, 95, rfl⟩
abbrev main_while0b_v64 : Ref sig .tc := ⟨.hbm, 96, rfl⟩
abbrev main_while0b_call6_call0_cst : Ref sig .tc := ⟨.hbm, 97, rfl⟩
abbrev main_while0b_call6_call0_v0 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_v73 : Ref sig .tc := ⟨.hbm, 107, rfl⟩
abbrev main_while0b_cst_17 : Ref sig .tc := ⟨.hbm, 108, rfl⟩
abbrev main_while0b_call7_v0 : Ref sig .tc := ⟨.hbm, 109, rfl⟩
abbrev main_while0b_call7_v1 : Ref sig .tc := ⟨.hbm, 110, rfl⟩
abbrev main_while0b_call7_v2 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_cst_18 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_call8_v0 : Ref sig .tc := ⟨.hbm, 136, rfl⟩
abbrev main_while0b_call8_c : Ref sig .tc := ⟨.hbm, 137, rfl⟩
abbrev main_while0b_call8_c_0 : Ref sig .tc := ⟨.hbm, 138, rfl⟩
abbrev main_while0b_call8_c_1 : Ref sig .tc := ⟨.hbm, 139, rfl⟩
abbrev main_while0b_call8_c_2 : Ref sig .tc := ⟨.hbm, 140, rfl⟩
abbrev main_while0b_v97 : Ref sig .tc := ⟨.hbm, 141, rfl⟩
abbrev main_while0b_c_19 : Ref sig .tc := ⟨.hbm, 142, rfl⟩
abbrev main_while0b_v98 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_cst_4 : Ref sig .tc := ⟨.hbm, 147, rfl⟩
abbrev main_v34 : Ref sig .tc := ⟨.hbm, 148, rfl⟩
abbrev main_v35 : Ref sig .tc := ⟨.hbm, 149, rfl⟩
abbrev main_cst_5 : Ref sig .tc := ⟨.hbm, 150, rfl⟩
abbrev main_v36 : Ref sig .tc := ⟨.hbm, 151, rfl⟩
abbrev main_v37 : Ref sig .tc := ⟨.hbm, 152, rfl⟩
abbrev main_cst_6 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_cst_7 : Ref sig .tc := ⟨.hbm, 166, rfl⟩
abbrev main_v50 : Ref sig .tc := ⟨.hbm, 167, rfl⟩
abbrev main_v51 : Ref sig .tc := ⟨.hbm, 168, rfl⟩
abbrev main_cst_8 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_cst_9 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩

abbrev nD : Nat := 1
abbrev τ : Topo := Topo.v7x

variable {F : FTy → Type} [FloatOps F]

abbrev main_while0_count : Scf.Loop 32 := ⟨0#32, 64#32, 1#32⟩
-- ==== InProj.lean ====
abbrev S8192x2048 : Shape := ⟨2, ![8192, 2048]⟩
abbrev S2048x5392 : Shape := ⟨2, ![2048, 5392]⟩
abbrev S2048x512 : Shape := ⟨2, ![2048, 512]⟩
abbrev S2048x384 : Shape := ⟨2, ![2048, 384]⟩
abbrev S2048x4x96 : Shape := ⟨3, ![2048, 4, 96]⟩
abbrev S_ : Shape := ⟨0, ![]⟩
abbrev S2048x4x128 : Shape := ⟨3, ![2048, 4, 128]⟩
abbrev S2048x768 : Shape := ⟨2, ![2048, 768]⟩
abbrev S2048x4x192 : Shape := ⟨3, ![2048, 4, 192]⟩
abbrev S2048x4x256 : Shape := ⟨3, ![2048, 4, 256]⟩
abbrev S2048x1024 : Shape := ⟨2, ![2048, 1024]⟩
abbrev S2048x16 : Shape := ⟨2, ![2048, 16]⟩
abbrev S2048x128 : Shape := ⟨2, ![2048, 128]⟩
abbrev S2048x2560 : Shape := ⟨2, ![2048, 2560]⟩
abbrev S2048x6272 : Shape := ⟨2, ![2048, 6272]⟩
abbrev S8192x6272 : Shape := ⟨2, ![8192, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 36
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5392, .f32⟩
  | .hbm, ⟨2, _⟩ => ⟨S8192x2048, .bf16⟩
  | .hbm, ⟨3, _⟩ => ⟨S2048x512, .f32⟩
  | .hbm, ⟨4, _⟩ => ⟨S2048x384, .f32⟩
  | .hbm, ⟨5, _⟩ => ⟨S2048x4x96, .f32⟩
  | .hbm, ⟨6, _⟩ => ⟨S_, .i32⟩
  | .hbm, ⟨7, _⟩ => ⟨S_, .f32⟩
  | .hbm, ⟨8, _⟩ => ⟨S2048x4x128, .f32⟩
  | .hbm, ⟨9, _⟩ => ⟨S2048x512, .f32⟩
  | .hbm, ⟨10, _⟩ => ⟨S2048x384, .f32⟩
  | .hbm, ⟨11, _⟩ => ⟨S2048x4x96, .f32⟩
  | .hbm, ⟨12, _⟩ => ⟨S_, .i32⟩
  | .hbm, ⟨13, _⟩ => ⟨S_, .f32⟩
  | .hbm, ⟨14, _⟩ => ⟨S2048x4x128, .f32⟩
  | .hbm, ⟨15, _⟩ => ⟨S2048x512, .f32⟩
  | .hbm, ⟨16, _⟩ => ⟨S2048x768, .f32⟩
  | .hbm, ⟨17, _⟩ => ⟨S2048x4x192, .f32⟩
  | .hbm, ⟨18, _⟩ => ⟨S_, .i32⟩
  | .hbm, ⟨19, _⟩ => ⟨S_, .f32⟩
  | .hbm, ⟨20, _⟩ => ⟨S2048x4x256, .f32⟩
  | .hbm, ⟨21, _⟩ => ⟨S2048x1024, .f32⟩
  | .hbm, ⟨22, _⟩ => ⟨S2048x768, .f32⟩
  | .hbm, ⟨23, _⟩ => ⟨S2048x4x192, .f32⟩
  | .hbm, ⟨24, _⟩ => ⟨S_, .i32⟩
  | .hbm, ⟨25, _⟩ => ⟨S_, .f32⟩
  | .hbm, ⟨26, _⟩ => ⟨S2048x4x256, .f32⟩
  | .hbm, ⟨27, _⟩ => ⟨S2048x1024, .f32⟩
  | .hbm, ⟨28, _⟩ => ⟨S2048x16, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x2560, .f32⟩
  | .hbm, ⟨33, _⟩ => ⟨S2048x6272, .f32⟩
  | .hbm, ⟨34, _⟩ => ⟨S2048x6272, .bf16⟩
  | .hbm, ⟨35, _⟩ => ⟨S8192x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call2_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call3_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call4_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S2048x5392 : Shape := ⟨2, ![2048, 5392]⟩
abbrev S8192x5392 : Shape := ⟨2, ![8192, 5392]⟩
abbrev S8192x512 : Shape := ⟨2, ![8192, 512]⟩
abbrev S8192x384 : Shape := ⟨2, ![8192, 384]⟩
abbrev S8192x768 : Shape := ⟨2, ![8192, 768]⟩
abbrev S8192x16 : Shape := ⟨2, ![8192, 16]⟩
abbrev S8192x2560 : Shape := ⟨2, ![8192, 2560]⟩
abbrev S8192x4x96 : Shape := ⟨3, ![8192, 4, 96]⟩
abbrev S_ : Shape := ⟨0, ![]⟩
abbrev S8192x4x32 : Shape := ⟨3, ![8192, 4, 32]⟩
abbrev S8192x4x128 : Shape := ⟨3, ![8192, 4, 128]⟩
abbrev S8192x4x192 : Shape := ⟨3, ![8192, 4, 192]⟩
abbrev S8192x4x64 : Shape := ⟨3, ![8192, 4, 64]⟩
abbrev S8192x4x256 : Shape := ⟨3, ![8192, 4, 256]⟩
abbrev S8192x1024 : Shape := ⟨2, ![8192, 1024]⟩
abbrev S8192x1x16 : Shape := ⟨3, ![8192, 1, 16]⟩
abbrev S8192x1x112 : Shape := ⟨3, ![8192, 1, 112]⟩
abbrev S8192x1x128 : Shape := ⟨3, ![8192, 1, 128]⟩
abbrev S8192x128 : Shape := ⟨2, ![8192, 128]⟩
abbrev S8192x6272 : Shape := ⟨2, ![8192, 6272]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5392, .f32⟩
  | .hbm, ⟨2, _⟩ => ⟨S8192x5392, .f32⟩
  | .hbm, ⟨3, _⟩ => ⟨S8192x512, .f32⟩
  | .hbm, ⟨4, _⟩ => ⟨S8192x384, .f32⟩
  | .hbm, ⟨5, _⟩ => ⟨S8192x384, .f32⟩
  | .hbm, ⟨6, _⟩ => ⟨S8192x768, .f32⟩
  | .hbm, ⟨7, _⟩ => ⟨S8192x768, .f32⟩
  | .hbm, ⟨8, _⟩ => ⟨S8192x16, .f32⟩
  | .hbm, ⟨9, _⟩ => ⟨S8192x2560, .f32⟩
  | .hbm, ⟨10, _⟩ => ⟨S8192x4x96, .f32⟩
  | .hbm, ⟨11, _⟩ => ⟨S_, .f32⟩
  | .hbm, ⟨12, _⟩ => ⟨S8192x4x32, .f32⟩
  | .hbm, ⟨13, _⟩ => ⟨S8192x4x128, .f32⟩
  | .hbm, ⟨14, _⟩ => ⟨S8192x512, .f32⟩
  | .hbm, ⟨15, _⟩ => ⟨S8192x4x96, .f32⟩
  | .hbm, ⟨16, _⟩ => ⟨S_, .f32⟩
  | .hbm, ⟨17, _⟩ => ⟨S8192x4x32, .f32⟩
  | .hbm, ⟨18, _⟩ => ⟨S8192x4x128, .f32⟩
  | .hbm, ⟨19, _⟩ => ⟨S8192x512, .f32⟩
  | .hbm, ⟨20, _⟩ => ⟨S8192x4x192, .f32⟩
  | .hbm, ⟨21, _⟩ => ⟨S_, .f32⟩
  | .hbm, ⟨22, _⟩ => ⟨S8192x4x64, .f32⟩
  | .hbm, ⟨23, _⟩ => ⟨S8192x4x256, .f32⟩
  | .hbm, ⟨24, _⟩ => ⟨S8192x1024, .f32⟩
  | .hbm, ⟨25, _⟩ => ⟨S8192x4x192, .f32⟩
  | .hbm, ⟨26, _⟩ => ⟨S_, .f32⟩
  | .hbm, ⟨27, _⟩ => ⟨S8192x4x64, .f32⟩
  | .hbm, ⟨28, _⟩ => ⟨S8192x4x256, .f32⟩
  | .hbm, ⟨29, _⟩ => ⟨S8192x1024, .f32⟩
  | .hbm, ⟨30, _⟩ => ⟨S8192x1x16, .f32⟩
  | .hbm, ⟨31, _⟩ => ⟨S_, .f32⟩
  | .hbm, ⟨32, _⟩ => ⟨S8192x1x112, .f32⟩
  | .hbm, ⟨33, _⟩ => ⟨S8192x1x128, .f32⟩
  | .hbm, ⟨34, _⟩ => ⟨S8192x128, .f32⟩
  | .hbm, ⟨35, _⟩ => ⟨S8192x6272, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S2x12288 : Shape := ⟨2, ![2, 12288]⟩
abbrev S8192x768 : Shape := ⟨2, ![8192, 768]⟩
abbrev S8192x4x192 : Shape := ⟨3, ![8192, 4, 192]⟩
abbrev S_ : Shape := ⟨0, ![]⟩
abbrev S8192x4x256 : Shape := ⟨3, ![8192, 4, 256]⟩
abbrev S8192x1024 : Shape := ⟨2, ![8192, 1024]⟩
abbrev S768x2048 : Shape := ⟨2, ![768, 2048]⟩
abbrev S4x192x2048 : Shape := ⟨3, ![4, 192, 2048]⟩
abbrev S4x256x2048 : Shape := ⟨3, ![4, 256, 2048]⟩
abbrev S1024x2048 : Shape := ⟨2, ![1024, 2048]⟩
abbrev S8192x512 : Shape := ⟨2, ![8192, 512]⟩
abbrev S512x2048 : Shape := ⟨2, ![512, 2048]⟩
abbrev S2x1x12288 : Shape := ⟨3, ![2, 1, 12288]⟩
abbrev S1024x512 : Shape := ⟨2, ![1024, 512]⟩
abbrev S1024x1024 : Shape := ⟨2, ![1024, 1024]⟩
abbrev S1024x768 : Shape := ⟨2, ![1024, 768]⟩
abbrev S512x1024 : Shape := ⟨2, ![512, 1024]⟩
abbrev S768x1024 : Shape := ⟨2, ![768, 1024]⟩
abbrev S1x1x1024 : Shape := ⟨3, ![1, 1, 1024]⟩
abbrev S1x1024 : Shape := ⟨2, ![1, 1024]⟩

abbrev nBuf : Space → Nat
  | .hbm => 26
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2x12288, .f32⟩
  | .hbm, ⟨4, _⟩ => ⟨S8192x2048, .bf16⟩
  | .hbm, ⟨5, _⟩ => ⟨S8192x768, .bf16⟩
  | .hbm, ⟨6, _⟩ => ⟨S8192x4x192, .bf16⟩
  | .hbm, ⟨7, _⟩ => ⟨S_, .i32⟩
  | .hbm, ⟨8, _⟩ => ⟨S_, .bf16⟩
  | .hbm, ⟨9, _⟩ => ⟨S8192x4x256, .bf16⟩
  | .hbm, ⟨10, _⟩ => ⟨S8192x1024, .bf16⟩
  | .hbm, ⟨11, _⟩ => ⟨S768x2048, .f32⟩
  | .hbm, ⟨12, _⟩ => ⟨S4x192x2048, .f32⟩
  | .hbm, ⟨13, _⟩ => ⟨S_, .i32⟩
  | .hbm, ⟨14, _⟩ => ⟨S_, .f32⟩
  | .hbm, ⟨15, _⟩ => ⟨S4x256x2048, .f32⟩
  | .hbm, ⟨16, _⟩ => ⟨S1024x2048, .f32⟩
  | .hbm, ⟨17, _⟩ => ⟨S8192x512, .bf16⟩
  | .hbm, ⟨18, _⟩ => ⟨S8192x768, .bf16⟩
  | .hbm, ⟨19, _⟩ => ⟨S512x2048, .f32⟩
  | .hbm, ⟨20, _⟩ => ⟨S512x2048, .bf16⟩
  | .hbm, ⟨21, _⟩ => ⟨S1024x2048, .bf16⟩
  | .hbm, ⟨22, _⟩ => ⟨S768x2048, .f32⟩
  | .hbm, ⟨23, _⟩ => ⟨S768x2048, .bf16⟩
  | .hbm, ⟨24, _⟩ => ⟨S2x1x12288, .f32⟩
  | .hbm, ⟨25, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x768, .bf16⟩
  | .local _ .vmem, ⟨5, _⟩ => ⟨S1024x768, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S768x1024, .bf16⟩
  | .local _ .vmem, ⟨11, _⟩ => ⟨S768x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .f32⟩
  | .local _ .vmem, ⟨17, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 arg1
  let c0_i32_5 : BitVec 32 := 0#32
  let c0_i32_6 : BitVec 32 := 0#32
  ![v16.toNat, c0_i32_5.toNat, v17.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutProjRefIdeal.lean ====
abbrev S8192x2048 : Shape := ⟨2, ![8192, 2048]⟩
abbrev S2048x2048 : Shape := ⟨2, ![2048, 2048]⟩
abbrev S2x12288 : Shape := ⟨2, ![2, 12288]⟩
abbrev S2x1x12288 : Shape := ⟨3, ![2, 1, 12288]⟩
abbrev S2x1x2048 : Shape := ⟨3, ![2, 1, 2048]⟩
abbrev S2x4096x2048 : Shape := ⟨3, ![2, 4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2x12288, .f32⟩
  | .hbm, ⟨4, _⟩ => ⟨S2x1x12288, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x4096x2048, .f32⟩
  | .hbm, ⟨12, _⟩ => ⟨S8192x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Query.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Final.lean ====
abbrev S8192x2048 : Shape := ⟨2, ![8192, 2048]⟩
abbrev S2x12288 : Shape := ⟨2, ![2, 12288]⟩
abbrev S2048 : Shape := ⟨1, ![2048]⟩
abbrev S2x1x12288 : Shape := ⟨3, ![2, 1, 12288]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x12288, .f32⟩
  | .hbm, ⟨3, _⟩ => ⟨S2048, .f32⟩
  | .hbm, ⟨4, _⟩ => ⟨S2x1x12288, .f32⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S8192x2048 : Shape := ⟨2, ![8192, 2048]⟩
abbrev S2x12288 : Shape := ⟨2, ![2, 12288]⟩
abbrev S2048 : Shape := ⟨1, ![2048]⟩
abbrev S2x1x12288 : Shape := ⟨3, ![2, 1, 12288]⟩
abbrev S2x1x2048 : Shape := ⟨3, ![2, 1, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x12288, .f32⟩
  | .hbm, ⟨3, _⟩ => ⟨S2048, .f32⟩
  | .hbm, ⟨4, _⟩ => ⟨S2x1x12288, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Mod.lean ====
abbrev S2x2048 : Shape := ⟨2, ![2, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x2x12288 : Shape := ⟨3, ![4, 2, 12288]⟩
abbrev S1x2048x1024 : Shape := ⟨3, ![1, 2048, 1024]⟩
abbrev S1x1x1024 : Shape := ⟨3, ![1, 1, 1024]⟩
abbrev S1x2x1024 : Shape := ⟨3, ![1, 2, 1024]⟩
abbrev S2048x1024 : Shape := ⟨2, ![2048, 1024]⟩
abbrev S2x1024 : Shape := ⟨2, ![2, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x2x12288, .f32⟩
  | .local _ .vmem, ⟨0, _⟩ => ⟨S2x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x2x1024, .f32⟩
  | .local _ .vmem, ⟨6, _⟩ => ⟨S1x2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S2x2048 : Shape := ⟨2, ![2, 2048]⟩
abbrev S4x2048x12288 : Shape := ⟨3, ![4, 2048, 12288]⟩
abbrev S4x12288 : Shape := ⟨2, ![4, 12288]⟩
abbrev S_ : Shape := ⟨0, ![]⟩
abbrev S1x2048x12288 : Shape := ⟨3, ![1, 2048, 12288]⟩
abbrev S2048x12288 : Shape := ⟨2, ![2048, 12288]⟩
abbrev S2x12288 : Shape := ⟨2, ![2, 12288]⟩
abbrev S1x12288 : Shape := ⟨2, ![1, 12288]⟩
abbrev S12288 : Shape := ⟨1, ![12288]⟩
abbrev S1x2x12288 : Shape := ⟨3, ![1, 2, 12288]⟩
abbrev S4x2x12288 : Shape := ⟨3, ![4, 2, 12288]⟩

abbrev nBuf : Space → Nat
  | .hbm => 49
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S4x2048x12288, .f32⟩
  | .hbm, ⟨2, _⟩ => ⟨S4x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S1x2048x12288, .f32⟩
  | .hbm, ⟨13, _⟩ => ⟨S2048x12288, .f32⟩
  | .hbm, ⟨14, _⟩ => ⟨S2x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S2x12288, .f32⟩
  | .hbm, ⟨19, _⟩ => ⟨S2x12288, .f32⟩
  | .hbm, ⟨20, _⟩ => ⟨S1x2048x12288, .f32⟩
  | .hbm, ⟨21, _⟩ => ⟨S2048x12288, .f32⟩
  | .hbm, ⟨22, _⟩ => ⟨S2x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S2x12288, .f32⟩
  | .hbm, ⟨27, _⟩ => ⟨S2x12288, .f32⟩
  | .hbm, ⟨28, _⟩ => ⟨S1x2048x12288, .f32⟩
  | .hbm, ⟨29, _⟩ => ⟨S2048x12288, .f32⟩
  | .hbm, ⟨30, _⟩ => ⟨S2x12288, .f32⟩
  | .hbm, ⟨31, _⟩ => ⟨S1x12288, .f32⟩
  | .hbm, ⟨32, _⟩ => ⟨S12288, .f32⟩
  | .hbm, ⟨33, _⟩ => ⟨S1x12288, .f32⟩
  | .hbm, ⟨34, _⟩ => ⟨S2x12288, .f32⟩
  | .hbm, ⟨35, _⟩ => ⟨S2x12288, .f32⟩
  | .hbm, ⟨36, _⟩ => ⟨S1x2048x12288, .f32⟩
  | .hbm, ⟨37, _⟩ => ⟨S2048x12288, .f32⟩
  | .hbm, ⟨38, _⟩ => ⟨S2x12288, .f32⟩
  | .hbm, ⟨39, _⟩ => ⟨S1x12288, .f32⟩
  | .hbm, ⟨40, _⟩ => ⟨S12288, .f32⟩
  | .hbm, ⟨41, _⟩ => ⟨S1x12288, .f32⟩
  | .hbm, ⟨42, _⟩ => ⟨S2x12288, .f32⟩
  | .hbm, ⟨43, _⟩ => ⟨S2x12288, .f32⟩
  | .hbm, ⟨44, _⟩ => ⟨S1x2x12288, .f32⟩
  | .hbm, ⟨45, _⟩ => ⟨S1x2x12288, .f32⟩
  | .hbm, ⟨46, _⟩ => ⟨S1x2x12288, .f32⟩
  | .hbm, ⟨47, _⟩ => ⟨S1x2x12288, .f32⟩
  | .hbm, ⟨48, _⟩ => ⟨S4x2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S2x12288 : Shape := ⟨2, ![2, 12288]⟩
abbrev S2x1x12288 : Shape := ⟨3, ![2, 1, 12288]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x12288, .f32⟩
  | .hbm, ⟨3, _⟩ => ⟨S2x1x12288, .f32⟩
  | .hbm, ⟨4, _⟩ => ⟨S1x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S8192x2048 : Shape := ⟨2, ![8192, 2048]⟩
abbrev S2048 : Shape := ⟨1, ![2048]⟩
abbrev S2x12288 : Shape := ⟨2, ![2, 12288]⟩
abbrev S2x1x12288 : Shape := ⟨3, ![2, 1, 12288]⟩
abbrev S2x1x2048 : Shape := ⟨3, ![2, 1, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x12288, .f32⟩
  | .hbm, ⟨3, _⟩ => ⟨S2x1x12288, .f32⟩
  | .hbm, ⟨4, _⟩ => ⟨S2x1x2048, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x2048, .f32⟩
  | .hbm, ⟨23, _⟩ => ⟨S2x4096x2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Resid.lean ====
abbrev S8192x2048 : Shape := ⟨2, ![8192, 2048]⟩
abbrev S2x12288 : Shape := ⟨2, ![2, 12288]⟩
abbrev S2048 : Shape := ⟨1, ![2048]⟩
abbrev S2x1x12288 : Shape := ⟨3, ![2, 1, 12288]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x12288, .f32⟩
  | .hbm, ⟨3, _⟩ => ⟨S2048, .f32⟩
  | .hbm, ⟨4, _⟩ => ⟨S2x12288, .f32⟩
  | .hbm, ⟨5, _⟩ => ⟨S2x1x12288, .f32⟩
  | .hbm, ⟨6, _⟩ => ⟨S2x1x12288, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidRefIdeal.lean ====
abbrev S8192x2048 : Shape := ⟨2, ![8192, 2048]⟩
abbrev S2x12288 : Shape := ⟨2, ![2, 12288]⟩
abbrev S2048 : Shape := ⟨1, ![2048]⟩
abbrev S2x1x12288 : Shape := ⟨3, ![2, 1, 12288]⟩
abbrev S2x1x2048 : Shape := ⟨3, ![2, 1, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x12288, .f32⟩
  | .hbm, ⟨3, _⟩ => ⟨S2048, .f32⟩
  | .hbm, ⟨4, _⟩ => ⟨S2x12288, .f32⟩
  | .hbm, ⟨5, _⟩ => ⟨S2x1x12288, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x1x12288, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S2x1x2048, .f32⟩
  | .hbm, ⟨24, _⟩ => ⟨S2x4096x2048, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x2048, .f32⟩
  | .hbm, ⟨36, _⟩ => ⟨S2x4096x2048, .f32⟩
  | .hbm, ⟨37, _⟩ => ⟨S1x1x2048, .f32⟩
  | .hbm, ⟨38, _⟩ => ⟨S2x4096x2048, .f32⟩
  | .hbm, ⟨39, _⟩ => ⟨S2x4096x2048, .f32⟩
  | .hbm, ⟨40, _⟩ => ⟨S_, .f32⟩
  | .hbm, ⟨41, _⟩ => ⟨S2x1x2048, .f32⟩
  | .hbm, ⟨42, _⟩ => ⟨S2x1x2048, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Pool.lean ====
abbrev S2x4096x5392 : Shape := ⟨3, ![2, 4096, 5392]⟩
abbrev S4x128x128 : Shape := ⟨3, ![4, 128, 128]⟩
abbrev S512 : Shape := ⟨1, ![512]⟩
abbrev S2x4096x512 : Shape := ⟨3, ![2, 4096, 512]⟩
abbrev S2x4096x384 : Shape := ⟨3, ![2, 4096, 384]⟩
abbrev S2x4096x4x96 : Shape := ⟨4, ![2, 4096, 4, 96]⟩
abbrev S_ : Shape := ⟨0, ![]⟩
abbrev S2x4096x4x128 : Shape := ⟨4, ![2, 4096, 4, 128]⟩
abbrev S2x4096x768 : Shape := ⟨3, ![2, 4096, 768]⟩
abbrev S2x4096x4x192 : Shape := ⟨4, ![2, 4096, 4, 192]⟩
abbrev S2x4096x4x256 : Shape := ⟨4, ![2, 4096, 4, 256]⟩
abbrev S2x4096x1024 : Shape := ⟨3, ![2, 4096, 1024]⟩
abbrev S2x4096x16 : Shape := ⟨3, ![2, 4096, 16]⟩
abbrev S2x4096x128 : Shape := ⟨3, ![2, 4096, 128]⟩
abbrev S2x4096x2560 : Shape := ⟨3, ![2, 4096, 2560]⟩
abbrev S2x4096x6272 : Shape := ⟨3, ![2, 4096, 6272]⟩
abbrev S8192x6272 : Shape := ⟨2, ![8192, 6272]⟩
abbrev S1x512 : Shape := ⟨2, ![1, 512]⟩
abbrev S8192x512 : Shape := ⟨2, ![8192, 512]⟩
abbrev S512x512 : Shape := ⟨2, ![512, 512]⟩
abbrev S528x512 : Shape := ⟨2, ![528, 512]⟩
abbrev S16x512 : Shape := ⟨2, ![16, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 37
  | .vmem => 7
  | .smem => 0
  | _ => 0

abbrev bufTy : (tb : Table) → Fin (tcTables nBuf tb) → BufTy
  | .hbm, ⟨0, _⟩ => ⟨S2x4096x5392, .f32⟩
  | .hbm, ⟨1, _⟩ => ⟨S4x128x128, .f32⟩
  | .hbm, ⟨2, _⟩ => ⟨S512, .f32⟩
  | .hbm, ⟨3, _⟩ => ⟨S2x4096x512, .f32⟩
  | .hbm, ⟨4, _⟩ => ⟨S2x4096x384, .f32⟩
  | .hbm, ⟨5, _⟩ => ⟨S2x4096x4x96, .f32⟩
  | .hbm, ⟨6, _⟩ => ⟨S_, .i32⟩
  | .hbm, ⟨7, _⟩ => ⟨S_, .f32⟩
  | .hbm, ⟨8, _⟩ => ⟨S2x4096x4x128, .f32⟩
  | .hbm, ⟨9, _⟩ => ⟨S2x4096x512, .f32⟩
  | .hbm, ⟨10, _⟩ => ⟨S2x4096x384, .f32⟩
  | .hbm, ⟨11, _⟩ => ⟨S2x4096x4x96, .f32⟩
  | .hbm, ⟨12, _⟩ => ⟨S_, .i32⟩
  | .hbm, ⟨13, _⟩ => ⟨S_, .f32⟩
  | .hbm, ⟨14, _⟩ => ⟨S2x4096x4x128, .f32⟩
  | .hbm, ⟨15, _⟩ => ⟨S2x4096x512, .f32⟩
  | .hbm, ⟨16, _⟩ => ⟨S2x4096x768, .f32⟩
  | .hbm, ⟨17, _⟩ => ⟨S2x4096x4x192, .f32⟩
  | .hbm, ⟨18, _⟩ => ⟨S_, .i32⟩
  | .hbm, ⟨19, _⟩ => ⟨S_, .f32⟩
  | .hbm, ⟨20, _⟩ => ⟨S2x4096x4x256, .f32⟩
  | .hbm, ⟨21, _⟩ => ⟨S2x4096x1024, .f32⟩
  | .hbm, ⟨22, _⟩ => ⟨S2x4096x768, .f32⟩
  | .hbm, ⟨23, _⟩ => ⟨S2x4096x4x192, .f32⟩
  | .hbm, ⟨24, _⟩ => ⟨S_, .i32⟩
  | .hbm, ⟨25, _⟩ => ⟨S_, .f32⟩
  | .hbm, ⟨26, _⟩ => ⟨S2x4096x4x256, .f32⟩
  | .hbm, ⟨27, _⟩ => ⟨S2x4096x1024, .f32⟩
  | .hbm, ⟨28, _⟩ => ⟨S2x4096x16, .f32⟩
  | .hbm, ⟨29, _⟩ => ⟨S_, .i32⟩
  | .hbm, ⟨30, _⟩ => ⟨S_, .f32⟩
  | .hbm, ⟨31, _⟩ => ⟨S2x4096x128, .f32⟩
  | .hbm, ⟨32, _⟩ => ⟨S2x4096x2560, .f32⟩
  | .hbm, ⟨33, _⟩ => ⟨S2x4096x6272, .f32⟩
  | .hbm, ⟨34, _⟩ => ⟨S8192x6272, .f32⟩
  | .hbm, ⟨35, _⟩ => ⟨S1x512, .f32⟩
  | .hbm, ⟨36, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S4x128x128, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S528x512, .f32⟩
  | _, _ => ⟨S2x4096x5392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call3_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_call4_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PoolRefIdeal.lean ====
abbrev S2x4096x5392 : Shape := ⟨3, ![2, 4096, 5392]⟩
abbrev S4x128x128 : Shape := ⟨3, ![4, 128, 128]⟩
abbrev S512 : Shape := ⟨1, ![512]⟩
abbrev S2x4096x512 : Shape := ⟨3, ![2, 4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x4096x128 : Shape := ⟨3, ![2, 4096, 128]⟩
abbrev S1x4096x1 : Shape := ⟨3, ![1, 4096, 1]⟩
abbrev S2x128x4096 : Shape := ⟨3, ![2, 128, 4096]⟩
abbrev S2x4096x1x128 : Shape := ⟨4, ![2, 4096, 1, 128]⟩
abbrev S2x4096x4x128 : Shape := ⟨4, ![2, 4096, 4, 128]⟩
abbrev S4x128x2x4096 : Shape := ⟨4, ![4, 128, 2, 4096]⟩
abbrev S1x1x512 : Shape := ⟨3, ![1, 1, 512]⟩
abbrev S8192x512 : Shape := ⟨2, ![8192, 512]⟩

abbrev nBuf : Space → Nat
  | .hbm => 116
  | .vmem => 0
  | .smem => 0
  | _ => 0

abbrev bufTy : (tb : Table) → Fin (tcTables nBuf tb) → BufTy
  | .hbm, ⟨0, _⟩ => ⟨S2x4096x5392, .f32⟩
  | .hbm, ⟨1, _⟩ => ⟨S4x128x128, .f32⟩
  | .hbm, ⟨2, _⟩ => ⟨S512, .f32⟩
  | .hbm, ⟨3, _⟩ => ⟨S2x4096x512, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .i32⟩
  | .hbm, ⟨9, _⟩ => ⟨S4096x1, .i32⟩
  | .hbm, ⟨10, _⟩ => ⟨S4096, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S2x4096x128, .f32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S1x4096x1, .f32⟩
  | .hbm, ⟨32, _⟩ => ⟨S2x128x4096, .f32⟩
  | .hbm, ⟨33, _⟩ => ⟨S2x4096x128, .f32⟩
  | .hbm, ⟨34, _⟩ => ⟨S2x4096x128, .f32⟩
  | .hbm, ⟨35, _⟩ => ⟨S2x4096x128, .f32⟩
  | .hbm, ⟨36, _⟩ => ⟨S2x4096x128, .f32⟩
  | .hbm, ⟨37, _⟩ => ⟨S2x4096x128, .f32⟩
  | .hbm, ⟨38, _⟩ => ⟨S_, .i32⟩
  | .hbm, ⟨39, _⟩ => ⟨S4096x4096, .i32⟩
  | .hbm, ⟨40, _⟩ => ⟨S4096x4096, .i1⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S4096x4096, .i1⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S1x4096x1, .f32⟩
  | .hbm, ⟨54, _⟩ => ⟨S2x128x4096, .f32⟩
  | .hbm, ⟨55, _⟩ => ⟨S2x4096x128, .f32⟩
  | .hbm, ⟨56, _⟩ => ⟨S2x4096x128, .f32⟩
  | .hbm, ⟨57, _⟩ => ⟨S2x4096x128, .f32⟩
  | .hbm, ⟨58, _⟩ => ⟨S2x4096x128, .f32⟩
  | .hbm, ⟨59, _⟩ => ⟨S2x4096x128, .f32⟩
  | .hbm, ⟨60, _⟩ => ⟨S_, .i32⟩
  | .hbm, ⟨61, _⟩ => ⟨S4096x4096, .i32⟩
  | .hbm, ⟨62, _⟩ => ⟨S4096x4096, .i1⟩
  | .hbm, ⟨63, _⟩ => ⟨S_, .i32⟩
  | .hbm, ⟨64, _⟩ => ⟨S4096x4096, .i32⟩
  | .hbm, ⟨65, _⟩ => ⟨S4096x4096, .i1⟩
  | .hbm, ⟨66, _⟩ => ⟨S4096x4096, .i1⟩
  | .hbm, ⟨67, _⟩ => ⟨S_, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S1x4096x1, .f32⟩
  | .hbm, ⟨76, _⟩ => ⟨S2x128x4096, .f32⟩
  | .hbm, ⟨77, _⟩ => ⟨S2x4096x128, .f32⟩
  | .hbm, ⟨78, _⟩ => ⟨S2x4096x128, .f32⟩
  | .hbm, ⟨79, _⟩ => ⟨S2x4096x128, .f32⟩
  | .hbm, ⟨80, _⟩ => ⟨S2x4096x128, .f32⟩
  | .hbm, ⟨81, _⟩ => ⟨S2x4096x128, .f32⟩
  | .hbm, ⟨82, _⟩ => ⟨S_, .i32⟩
  | .hbm, ⟨83, _⟩ => ⟨S4096x4096, .i32⟩
  | .hbm, ⟨84, _⟩ => ⟨S4096x4096, .i1⟩
  | .hbm, ⟨85, _⟩ => ⟨S_, .i32⟩
  | .hbm, ⟨86, _⟩ => ⟨S4096x4096, .i32⟩
  | .hbm, ⟨87, _⟩ => ⟨S4096x4096, .i1⟩
  | .hbm, ⟨88, _⟩ => ⟨S4096x4096, .i1⟩
  | .hbm, ⟨89, _⟩ => ⟨S_, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S4096, .f32⟩
  | .hbm, ⟨96, _⟩ => ⟨S4096, .f32⟩
  | .hbm, ⟨97, _⟩ => ⟨S1x4096x1, .f32⟩
  | .hbm, ⟨98, _⟩ => ⟨S2x128x4096, .f32⟩
  | .hbm, ⟨99, _⟩ => ⟨S2x4096x128, .f32⟩
  | .hbm, ⟨100, _⟩ => ⟨S2x4096x128, .f32⟩
  | .hbm, ⟨101, _⟩ => ⟨S2x4096x128, .f32⟩
  | .hbm, ⟨102, _⟩ => ⟨S2x4096x128, .f32⟩
  | .hbm, ⟨103, _⟩ => ⟨S2x4096x1x128, .f32⟩
  | .hbm, ⟨104, _⟩ => ⟨S2x4096x1x128, .f32⟩
  | .hbm, ⟨105, _⟩ => ⟨S2x4096x1x128, .f32⟩
  | .hbm, ⟨106, _⟩ => ⟨S2x4096x1x128, .f32⟩
  | .hbm, ⟨107, _⟩ => ⟨S2x4096x4x128, .f32⟩
  | .hbm, ⟨108, _⟩ => ⟨S4x128x2x4096, .f32⟩
  | .hbm, ⟨109, _⟩ => ⟨S2x4096x4x128, .f32⟩
  | .hbm, ⟨110, _⟩ => ⟨S2x4096x512, .f32⟩
  | .hbm, ⟨111, _⟩ => ⟨S1x1x512, .f32⟩
  | .hbm, ⟨112, _⟩ => ⟨S2x4096x512, .f32⟩
  | .hbm, ⟨113, _⟩ => ⟨S2x4096x512, .f32⟩
  | .hbm, ⟨114, _⟩ => ⟨S8192x512, .f32⟩
  | .hbm, ⟨115, _⟩ => ⟨S8192x512, .bf16⟩
  | _, _ => ⟨S2x4096x5392, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_cst_12 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_cst_17 : Ref sig .tc := ⟨.hbm, 90, rfl⟩
abbrev main_call3_v0 : Ref sig .tc := ⟨.hbm, 91, rfl⟩
abbrev main_call3_v1 : Ref sig .tc := ⟨.hbm, 92, rfl⟩
abbrev main_v62 : Ref sig .tc := ⟨.hbm, 93, rfl⟩
abbrev main_cst_18 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Proof.Chain.lean ====
module

public import proofs.«01_k».proof.Proof.Gen.KernelIdeal.Value

@[expose] public section

set_option maxRecDepth 65536

noncomputable section

namespace Cert.KernelIdeal.Gla

open Idealize.ShloMosaic Idealize.ShloMosaic.TcCoe Cert.KernelIdeal Cert.KernelIdeal.Gen

variable {F : FTy → Type} [FloatOps F] [Named F]

/-! What one chunk of one chain computes, as vectors, written once for all eight chains (two sequences of four heads). -/

/-- The accumulated logarithms of the decays, for the 128 rows of the two sequences' chunks and all the padded lanes. -/
def cumAll (ad0 ad1 : Vec F S1x64x128 .f32) (up : Vec F S128x512 .f32) (ab : Vec F S1x512 .f32) : FVec F S128x512 .f32 :=
  k0_pay7 (k0_pay3 ad0 ad1 up ab) k0_pay4 k0_pay5 k0_pay6

/-- The row numbers of a chunk. -/
def rowNo : IVec S64x1 32 := iota .tc S64x1 32 [0] iota_S64x1_d0_w32

/-- The queries, cut in four blocks of rows and laid side by side, each scaled by the decay since its block's start. -/
def qBlocks (q b : FVec F S64x128 .f32) : FVec F S64x512 .f32 :=
  k0_pay105 q b k0_pay49 (k0_pay50 b) (k0_pay51 b) (k0_pay52 b) (k0_pay81 rowNo) (k0_pay82 rowNo) (k0_pay83 rowNo) (k0_pay84 rowNo)

/-- The keys, four times side by side, each scaled by the decay up to one block's start. -/
def kBlocks (k b : FVec F S64x128 .f32) : FVec F S64x512 .f32 :=
  k0_pay121 rowNo k b k0_pay49 (k0_pay50 b) (k0_pay51 b) (k0_pay52 b)

/-- The weights of a chunk's rows on its earlier rows. -/
def weights (q k b : FVec F S64x128 .f32) : FVec F S64x64 .f32 :=
  k0_pay140 k0_pay8 (qBlocks q b) (kBlocks k b)

/-- What a chunk's rows read: the state through the queries, and the chunk's values through the weights. -/
def mixed (q k : FVec F S64x128 .f32) (v : FVec F S64x256 .f32) (b : FVec F S64x128 .f32) (st : FVec F S256x128 .f32) : FVec F S64x256 .f32 :=
  k0_pay149 q v b st (weights q k b)

/-- One chain's part of the output block. -/
def headOut (qL kL : Vec F S1x64x128 .f32) (vL : Vec F S1x64x256 .f32) (b : FVec F S64x128 .f32) (stL : Vec F S1x256x128 .f32)
    (ngL : Vec F S1x256 .f32) (gL : Vec F S1x64x256 .f32) : FVec F S1x64x256 .bf16 :=
  k0_pay191 (mixed (k0_pay9 qL) (k0_pay17 kL) (k0_pay25 vL) b (k0_pay41 stL)) ngL gL

/-- One chain's state after the chunk. -/
def headState (kL : Vec F S1x64x128 .f32) (vL : Vec F S1x64x256 .f32) (b : FVec F S64x128 .f32) (stL : Vec F S1x256x128 .f32) :
    FVec F S1x256x128 .f32 :=
  k0_pay180 (k0_pay41 stL) (k0_pay157 b) (k0_pay171 (k0_pay17 kL) (k0_pay25 vL) b (k0_pay157 b) k0_pay165 k0_pay166)

/-! ### Where the pieces lie -/

theorem inbKey (bb : Fin 2) (hd : Fin 4) : ∀ a : Fin 3, (![bb.val, 0, 128 * hd.val] : Fin 3 → ℕ) a + S1x64x128.size a ≤ S2x64x512.size a := by
  decide +revert

theorem inbVal (bb : Fin 2) (hd : Fin 4) : ∀ a : Fin 3, (![bb.val, 0, 256 * hd.val] : Fin 3 → ℕ) a + S1x64x256.size a ≤ S2x64x1024.size a := by
  decide +revert

theorem inbLow (bb : Fin 2) : ∀ a : Fin 3, (![bb.val, 0, 0] : Fin 3 → ℕ) a + S1x64x128.size a ≤ S2x64x128.size a := by
  decide +revert

theorem inbScale (hd : Fin 4) : ∀ a : Fin 2, (![0, 256 * hd.val] : Fin 2 → ℕ) a + S1x256.size a ≤ S1x1024.size a := by
  decide +revert

theorem inbState (bb : Fin 2) (hd : Fin 4) : ∀ a : Fin 3, (![4 * bb.val + hd.val, 0, 0] : Fin 3 → ℕ) a + S1x256x128.size a ≤ S8x256x128.size a := by
  decide +revert

theorem slices_chain (bb : Fin 2) (hd : Fin 4) : S128x512.Slices ![64 * bb.val, 128 * hd.val] S64x128 := by
  decide +revert

/-- A chain's part of the running sums. -/
def chainSum (bb : Fin 2) (hd : Fin 4) (all : FVec F S128x512 .f32) : FVec F S64x128 .f32 :=
  extractStridedSlice S64x128 ![64 * bb.val, 128 * hd.val] all (slices_chain bb hd)

/-- The output block's pieces, the last chain's first. -/
def outList (P : Fin 2 → Fin 4 → Vec F S1x64x256 .bf16) : List (View.Piece (Elt F) S2x64x1024 .bf16) :=
  [(1, 3), (1, 2), (1, 1), (1, 0), (0, 3), (0, 2), (0, 1), (0, 0)].map fun p : Fin 2 × Fin 4 =>
    ⟨Rect.unit (s := S2x64x1024) ![p.1.val, 0, 256 * p.2.val] S1x64x256.size (inbVal p.1 p.2), P p.1 p.2⟩

/-- The state's pieces, the last chain's first. -/
def stateList (P : Fin 2 → Fin 4 → Vec F S1x256x128 .f32) : List (View.Piece (Elt F) S8x256x128 .f32) :=
  [(1, 3), (1, 2), (1, 1), (1, 0), (0, 3), (0, 2), (0, 1), (0, 0)].map fun p : Fin 2 × Fin 4 =>
    ⟨Rect.unit (s := S8x256x128) ![4 * p.1.val + p.2.val, 0, 0] S1x256x128.size (inbState p.1 p.2), P p.1 p.2⟩

/-- The piece that clears the state. -/
def zeroPiece : View.Piece (Elt F) S8x256x128 .f32 :=
  ⟨Rect.unit (s := S8x256x128) ![0, 0, 0] S8x256x128.size inb_S8x256x128_S8x256x128_0_0_0, k0_pay2⟩

section
variable (c : Dev nD) (i : grid0.Coords)
    (arg1 : Memref sig .tc .vmem S2x64x512 .f32) (harg1 : arg1.IsWhole)
    (arg2 : Memref sig .tc .vmem S2x64x512 .f32) (harg2 : arg2.IsWhole)
    (arg3 : Memref sig .tc .vmem S2x64x1024 .f32) (harg3 : arg3.IsWhole)
    (arg4 : Memref sig .tc .vmem S2x64x1024 .f32) (harg4 : arg4.IsWhole)
    (arg5 : Memref sig .tc .vmem S2x64x128 .f32) (harg5 : arg5.IsWhole)
    (arg6 : Memref sig .tc .vmem S128x512 .f32) (harg6 : arg6.IsWhole)
    (arg7 : Memref sig .tc .vmem S1x512 .f32) (harg7 : arg7.IsWhole)
    (arg8 : Memref sig .tc .vmem S1x1024 .f32) (harg8 : arg8.IsWhole)
    (arg9 : Memref sig .tc .vmem S2x64x1024 .bf16) (harg9 : arg9.IsWhole)
    (arg10 : Memref sig .tc .vmem S8x256x128 .f32) (harg10 : arg10.IsWhole)
    (x0 : Vec F S2x64x512 .f32) (x1 : Vec F S2x64x512 .f32) (x2 : Vec F S2x64x1024 .f32) (x3 : Vec F S2x64x1024 .f32)
    (x4 : Vec F S2x64x128 .f32) (x5 : Vec F S128x512 .f32) (x6 : Vec F S1x512 .f32) (x7 : Vec F S1x1024 .f32)

/-- The running sums of the point, of the windows' contents. -/
def sums : FVec F S128x512 .f32 :=
  cumAll (arg5.view.readAt (Elt F) (Rect.unit (s := S2x64x128) ![(0 : Fin 2).val, 0, 0] S1x64x128.size (inbLow 0)).toLoadRect (harg5.unread x4))
    (arg5.view.readAt (Elt F) (Rect.unit (s := S2x64x128) ![(1 : Fin 2).val, 0, 0] S1x64x128.size (inbLow 1)).toLoadRect (harg5.unread x4))
    (arg6.view.readAt (Elt F) (Rect.unit (s := S128x512) ![0, 0] S128x512.size inb_S128x512_S128x512_0_0).toLoadRect (harg6.unread x5))
    (arg7.view.readAt (Elt F) (Rect.unit (s := S1x512) ![0, 0] S1x512.size inb_S1x512_S1x512_0_0).toLoadRect (harg7.unread x6))

/-- One chain's part of the output block, of the windows' contents and of the state it finds. -/
def outOf (st : Vec F S1x256x128 .f32) (bb : Fin 2) (hd : Fin 4) : FVec F S1x64x256 .bf16 :=
  headOut
    (arg1.view.readAt (Elt F) (Rect.unit (s := S2x64x512) ![bb.val, 0, 128 * hd.val] S1x64x128.size (inbKey bb hd)).toLoadRect (harg1.unread x0))
    (arg2.view.readAt (Elt F) (Rect.unit (s := S2x64x512) ![bb.val, 0, 128 * hd.val] S1x64x128.size (inbKey bb hd)).toLoadRect (harg2.unread x1))
    (arg3.view.readAt (Elt F) (Rect.unit (s := S2x64x1024) ![bb.val, 0, 256 * hd.val] S1x64x256.size (inbVal bb hd)).toLoadRect (harg3.unread x2))
    (chainSum bb hd (sums arg5 harg5 arg6 harg6 arg7 harg7 x4 x5 x6))
    st
    (arg8.view.readAt (Elt F) (Rect.unit (s := S1x1024) ![0, 256 * hd.val] S1x256.size (inbScale hd)).toLoadRect (harg8.unread x7))
    (arg4.view.readAt (Elt F) (Rect.unit (s := S2x64x1024) ![bb.val, 0, 256 * hd.val] S1x64x256.size (inbVal bb hd)).toLoadRect (harg4.unread x3))

/-- One chain's next state, of the windows' contents and of the state it finds. -/
def stateOf (st : Vec F S1x256x128 .f32) (bb : Fin 2) (hd : Fin 4) : FVec F S1x256x128 .f32 :=
  headState
    (arg2.view.readAt (Elt F) (Rect.unit (s := S2x64x512) ![bb.val, 0, 128 * hd.val] S1x64x128.size (inbKey bb hd)).toLoadRect (harg2.unread x1))
    (arg3.view.readAt (Elt F) (Rect.unit (s := S2x64x1024) ![bb.val, 0, 256 * hd.val] S1x64x256.size (inbVal bb hd)).toLoadRect (harg3.unread x2))
    (chainSum bb hd (sums arg5 harg5 arg6 harg6 arg7 harg7 x4 x5 x6))
    st

/-- The state a chain finds at a first point: what a load reads after the clearing. -/
def stateA (bb : Fin 2) (hd : Fin 4) : Vec F S1x256x128 .f32 :=
  arg10.view.readCov (Val := Elt F) [zeroPiece]
    (Rect.unit (s := S8x256x128) ![4 * bb.val + hd.val, 0, 0] S1x256x128.size (inbState bb hd)).toLoadRect

/-- The state a chain finds at a later point: what the last point left. -/
def stateB (xs0 : Vec F S8x256x128 .f32) (bb : Fin 2) (hd : Fin 4) : Vec F S1x256x128 .f32 :=
  arg10.view.readAt (Elt F) (Rect.unit (s := S8x256x128) ![4 * bb.val + hd.val, 0, 0] S1x256x128.size (inbState bb hd)).toLoadRect
    (harg10.unread xs0)

/-- The pieces that the body stores into the output block at a first point: one per chain. -/
theorem outPieces_A (hc0 : cond0_0 i) :
    (kernelRun0_A c i arg1 harg1 arg2 harg2 arg3 harg3 arg4 harg4 arg5 harg5 arg6 harg6 arg7 harg7 arg8 harg8 arg9 harg9 arg10 harg10
      hc0 x0 x1 x2 x3 x4 x5 x6 x7).1
      = outList fun bb hd => outOf arg1 harg1 arg2 harg2 arg3 harg3 arg4 harg4 arg5 harg5 arg6 harg6 arg7 harg7 arg8 harg8
          x0 x1 x2 x3 x4 x5 x6 x7 (stateA arg10 bb hd) bb hd := rfl

/-- The pieces that the body stores into the state at a first point: one per chain, after the clearing. -/
theorem statePieces_A (hc0 : cond0_0 i) :
    (kernelRun0_A c i arg1 harg1 arg2 harg2 arg3 harg3 arg4 harg4 arg5 harg5 arg6 harg6 arg7 harg7 arg8 harg8 arg9 harg9 arg10 harg10
      hc0 x0 x1 x2 x3 x4 x5 x6 x7).2.1
      = (stateList fun bb hd => stateOf arg2 harg2 arg3 harg3 arg5 harg5 arg6 harg6 arg7 harg7 x1 x2 x4 x5 x6 (stateA arg10 bb hd) bb hd) ++ [zeroPiece] := rfl

/-- The pieces that the body stores into the output block at a later point: one per chain. -/
theorem outPieces_B (hc0 : ¬cond0_0 i) (xs0 : Vec F S8x256x128 .f32) :
    (kernelRun0_B c i arg1 harg1 arg2 harg2 arg3 harg3 arg4 harg4 arg5 harg5 arg6 harg6 arg7 harg7 arg8 harg8 arg9 harg9 arg10 harg10
      hc0 x0 x1 x2 x3 x4 x5 x6 x7 xs0).1
      = outList fun bb hd => outOf arg1 harg1 arg2 harg2 arg3 harg3 arg4 harg4 arg5 harg5 arg6 harg6 arg7 harg7 arg8 harg8
          x0 x1 x2 x3 x4 x5 x6 x7 (stateB arg10 harg10 xs0 bb hd) bb hd := rfl

/-- The pieces that the body stores into the state at a later point: one per chain. -/
theorem statePieces_B (hc0 : ¬cond0_0 i) (xs0 : Vec F S8x256x128 .f32) :
    (kernelRun0_B c i arg1 harg1 arg2 harg2 arg3 harg3 arg4 harg4 arg5 harg5 arg6 harg6 arg7 harg7 arg8 harg8 arg9 harg9 arg10 harg10
      hc0 x0 x1 x2 x3 x4 x5 x6 x7 xs0).2.1
      = (stateList fun bb hd => stateOf arg2 harg2 arg3 harg3 arg5 harg5 arg6 harg6 arg7 harg7 x1 x2 x4 x5 x6 (stateB arg10 harg10 xs0 bb hd) bb hd) := rfl

end

end Cert.KernelIdeal.Gla

end
-- ==== Proof.Spec.lean ====
/-
  Gated linear attention over the extended reals, chunk by chunk, with the number of key lanes left open, and the few
  facts about sums, exponentials and running sums of nonpositive numbers that comparing two schedules of it needs.
-/
module

public import Idealize.ShloMosaic.PureOps.Ideal
public import Idealize.ShloMosaic.Lib.FinSumWindow

@[expose] public section

noncomputable section

namespace Cert.Gla

open Idealize.ShloMosaic
open scoped BigOperators

/-! ### The mathematics of one chunk -/

/-- The running sum of the log decays of a chunk's rows, up to and including row `i`. -/
def cum {n : ℕ} (la : Fin 64 → Fin n → EReal) (i : Fin 64) (d : Fin n) : EReal := ∑ j : Fin 64, if j ≤ i then la j d else 0

/-- The weight row `i` gives to row `j` of the same chunk: zero for later rows, and otherwise the product of query and
    key over the lanes, each lane decayed by what was accumulated between the two rows. -/
def att {n : ℕ} (q k b : Fin 64 → Fin n → EReal) (i j : Fin 64) : EReal :=
  if j ≤ i then ∑ d, q i d * k j d * Ideal.exp (b i d - b j d) else 0

/-- Row `i` of the chunk's output at value lane `v · e`: the decayed query against the state the chunk starts from, plus
    the weighted rows of the chunk itself. -/
def mix {n : ℕ} (q k b : Fin 64 → Fin n → EReal) (v : Fin 64 → EReal) (st : Fin n → EReal) (i : Fin 64) : EReal :=
  ∑ d, q i d * Ideal.exp (b i d) * st d + ∑ j, att q k b i j * v j

/-- The state after the chunk at one key lane and one value lane. -/
def next (k b v : Fin 64 → EReal) (st : EReal) : EReal :=
  Ideal.exp (b 63) * st + ∑ i, k i * Ideal.exp (b 63 - b i) * v i

/-- The log decay of a gate's preactivation: minus the softplus of its negative, over sixteen. -/
def logDecay (z : EReal) : EReal :=
  (0 - (max (0 - z) 0 + Ideal.log1p (Ideal.exp (0 - max (0 - z) (-(0 - z)))))) * Ideal.ofBits .f32 0x3D800000#32

/-! ### Exponentials and signs -/

theorem exp_nonneg (x : EReal) : 0 ≤ Ideal.exp x := by
  induction x with
  | bot => exact le_refl _
  | top => exact le_top
  | coe r => exact EReal.coe_nonneg.2 (Real.exp_pos r).le

theorem exp_bot : Ideal.exp ⊥ = 0 := rfl

theorem exp_zero : Ideal.exp 0 = 1 := by
  show ((Real.exp 0 : ℝ) : EReal) = 1
  rw [Real.exp_zero, EReal.coe_one]

theorem log_nonneg {x : EReal} (h : 1 ≤ x) : 0 ≤ Ideal.log x := by
  induction x with
  | bot => exact absurd (le_bot_iff.1 h) (EReal.coe_ne_bot 1)
  | top => exact le_top
  | coe r =>
    have hr : (1 : ℝ) ≤ r := by exact_mod_cast h
    have h0 : ¬ r ≤ 0 := by linarith
    show 0 ≤ (if r ≤ 0 then (⊥ : EReal) else (Real.log r : EReal))
    rw [if_neg h0]
    exact EReal.coe_nonneg.2 (Real.log_nonneg hr)

theorem log1p_exp_nonneg (x : EReal) : 0 ≤ Ideal.log1p (Ideal.exp x) := by
  refine log_nonneg ?_
  have := add_le_add (le_refl (1 : EReal)) (exp_nonneg x)
  simpa using this

theorem sixteenth : Ideal.ofBits .f32 0x3D800000#32 = ((16⁻¹ : ℝ) : EReal) := by
  simp [Ideal.ofBits, Ideal.ieee, -EReal.coe_mul]
  norm_num

/-- A log decay is never positive. -/
theorem logDecay_nonpos (z : EReal) : logDecay z ≤ 0 := by
  have h : 0 ≤ max (0 - z) 0 + Ideal.log1p (Ideal.exp (0 - max (0 - z) (-(0 - z)))) :=
    add_nonneg (le_max_right _ _) (log1p_exp_nonneg _)
  have h2 : 0 - (max (0 - z) 0 + Ideal.log1p (Ideal.exp (0 - max (0 - z) (-(0 - z))))) ≤ 0 := by
    rw [zero_sub]
    exact EReal.neg_le_zero.2 h
  unfold logDecay
  rw [sixteenth]
  exact EReal.mul_nonpos_iff.2 (Or.inr ⟨h2, EReal.coe_nonneg.2 (by norm_num)⟩)

/-- Decays compose: decaying from `x` to `r` and from `r` to `y` is decaying from `x` to `y`, when `x` is the least of
    three nonpositive numbers. -/
theorem exp_split {x r y : EReal} (hxr : x ≤ r) (hr : r ≤ 0) (hxy : x ≤ y) (hy : y ≤ 0) :
    Ideal.exp (x - r) * Ideal.exp (r - y) = Ideal.exp (x - y) := by
  induction x with
  | bot => rw [EReal.bot_sub, EReal.bot_sub, exp_bot, zero_mul]
  | top => exact absurd (hxr.trans hr) (by simp)
  | coe x =>
    induction r with
    | bot => simp at hxr
    | top => simp at hr
    | coe r =>
      induction y with
      | bot => simp at hxy
      | top => simp at hy
      | coe y =>
        rw [← EReal.coe_sub, ← EReal.coe_sub, ← EReal.coe_sub]
        show ((Real.exp (x - r) : ℝ) : EReal) * ((Real.exp (r - y) : ℝ) : EReal) = ((Real.exp (x - y) : ℝ) : EReal)
        rw [← EReal.coe_mul, ← Real.exp_add]
        congr 2; ring

/-! ### The running sum -/

section
variable {n : ℕ} {la : Fin 64 → Fin n → EReal}

theorem cum_nonpos (h : ∀ i d, la i d ≤ 0) (i : Fin 64) (d : Fin n) : cum la i d ≤ 0 :=
  Finset.sum_nonpos fun j _ => by split; exacts [h _ _, le_refl _]

theorem cum_anti (h : ∀ i d, la i d ≤ 0) {i j : Fin 64} (hij : j ≤ i) (d : Fin n) : cum la i d ≤ cum la j d :=
  Finset.sum_le_sum fun k _ => by
    by_cases hk : k ≤ j
    · rw [if_pos hk, if_pos (hk.trans hij)]
    · rw [if_neg hk]; split; exacts [h _ _, le_refl _]

end

/-- For a number that is not `+∞`, adding what is left of it after taking it away from itself changes nothing. -/
theorem add_sub_self_bot {ι : Type} (s : Finset ι) (f : ι → EReal) (h : ∀ i ∈ s, f i ≤ 0) :
    ∑ i ∈ s, f i + ∑ i ∈ s, (f i - f i) = ∑ i ∈ s, f i := by
  classical
  rw [← Finset.sum_add_distrib]
  refine Finset.sum_congr rfl fun i hi => ?_
  have := h i hi
  generalize f i = x at this
  induction x with
  | bot => simp
  | top => simp at this
  | coe x => rw [← EReal.coe_sub]; simp

/-! ### More lanes than are used -/

/-- A sum over `m` lanes that vanishes from lane `n` on is the sum over the first `n`. -/
theorem sum_lanes {n m : ℕ} (h : n ≤ m) (f : Fin m → EReal) (hf : ∀ x : Fin m, n ≤ x.val → f x = 0) :
    ∑ x : Fin m, f x = ∑ x : Fin n, f (x.castLE h) := by
  refine (FinSumWindow.sum_window (W := n) 0 (by omega) f fun P hP => hf P (by omega)).trans ?_
  exact Finset.sum_congr rfl fun x _ => congrArg f (Fin.ext (by show 0 + x.val = x.val; omega))

theorem att_lanes {n m : ℕ} (h : n ≤ m) (q k b : Fin 64 → Fin m → EReal)
    (hq : ∀ i (x : Fin m), n ≤ x.val → q i x = 0) (i j : Fin 64) :
    att q k b i j = att (fun i d => q i (d.castLE h)) (fun i d => k i (d.castLE h)) (fun i d => b i (d.castLE h)) i j := by
  unfold att
  split
  · exact sum_lanes h _ fun x hx => by rw [hq i x hx, zero_mul, zero_mul]
  · rfl

theorem mix_lanes {n m : ℕ} (h : n ≤ m) (q k b : Fin 64 → Fin m → EReal) (v : Fin 64 → EReal) (st : Fin m → EReal)
    (hq : ∀ i (x : Fin m), n ≤ x.val → q i x = 0) (i : Fin 64) :
    mix q k b v st i
      = mix (fun i d => q i (d.castLE h)) (fun i d => k i (d.castLE h)) (fun i d => b i (d.castLE h)) v
          (fun d => st (d.castLE h)) i := by
  unfold mix
  rw [sum_lanes h _ fun x hx => by rw [hq i x hx, zero_mul, zero_mul]]
  congr 1
  exact Finset.sum_congr rfl fun j _ => by rw [att_lanes h q k b hq]

end Cert.Gla

end
-- ==== Proof.ChainValue.lean ====
/-
  What one chain of a grid point computes, over the extended reals: its decays' running sums, its output rows and its
  next state, entry by entry, as the mathematics of one chunk.
-/
module

public import proofs.«01_k».proof.Proof.Chain
public import proofs.«01_k».proof.Proof.Spec
public import Idealize.ShloMosaic.Lib.Pointwise
public import Idealize.ShloMosaic.Lib.WordCmp

@[expose] public section

set_option maxRecDepth 16384
noncomputable section

namespace Cert.KernelIdeal.Gla

open Idealize.ShloMosaic Idealize.ShloMosaic.TcCoe Cert.KernelIdeal Cert.KernelIdeal.Gen Cert.Gla
open scoped BigOperators

/-- The gate's preactivation at row `i` and lane `l`: the low-rank projection and its bias. -/
def preact (ad : Vec Ideal S1x64x128 .f32) (up : Vec Ideal S128x512 .f32) (ab : Vec Ideal S1x512 .f32) (i : Fin 64)
    (l : Fin 512) : EReal := ∑ x : Fin 128, ad (ix3 0 i x) * up (ix2 x l) + ab (ix2 0 l)

theorem la_apply (ad0 ad1 : Vec Ideal S1x64x128 .f32) (up : Vec Ideal S128x512 .f32) (ab : Vec Ideal S1x512 .f32) (r : Fin 128)
    (l : Fin 512) :
    k0_pay3 ad0 ad1 up ab (ix2 r l)
      = logDecay (if h : r.val < 64 then preact ad0 up ab ⟨r.val, h⟩ l else preact ad1 up ab ⟨r.val - 64, by omega⟩ l) := by
  pointwise [k0_pay3]
  unfold logDecay preact
  split <;> rfl

/-- The lower triangle inside each of the two chunks laid below each other. -/
theorem tri_word (r x : Fin 128) :
    (FloatOps.sitofp FTy.f32
      (BitVec.setWidth 32
        (IntOp.andi (IntOp.cmpi CmpIPredicate.sge (BitVec.ofNat 32 ↑r) (BitVec.ofNat 32 ↑x))
          (IntOp.cmpi CmpIPredicate.eq (IntOp.shrui ArithUnit.vector (BitVec.ofNat 32 ↑r) 6#32)
            (IntOp.shrui ArithUnit.vector (BitVec.ofNat 32 ↑x) 6#32)))) : Ideal .f32)
      = if x.val ≤ r.val ∧ r.val / 64 = x.val / 64 then (1 : EReal) else 0 := by
  have hs : ∀ y : Fin 128, IntOp.shrui ArithUnit.vector (BitVec.ofNat 32 ↑y) 6#32 = BitVec.ofNat 32 (y.val / 64) := by decide
  have hr := r.isLt; have hx := x.isLt
  rw [hs, hs]
  have h1 : IntOp.cmpi CmpIPredicate.sge (BitVec.ofNat 32 ↑r) (BitVec.ofNat 32 ↑x) = BitVec.ofBool (decide (x.val ≤ r.val)) := by
    rw [WordCmp.cmpi_sge_eq, WordCmp.toInt_ofNat_of_lt (by omega), WordCmp.toInt_ofNat_of_lt (by omega)]
    congr 1; exact decide_eq_decide.mpr Int.ofNat_le
  have h2 : IntOp.cmpi CmpIPredicate.eq (BitVec.ofNat 32 (r.val / 64)) (BitVec.ofNat 32 (x.val / 64))
      = BitVec.ofBool (decide (r.val / 64 = x.val / 64)) := by
    rw [WordCmp.cmpi_eq_eq]
    congr 1; exact decide_eq_decide.mpr (WordCmp.ofNat_eq_ofNat_iff (by omega) (by omega))
  rw [h1, h2, WordCmp.andi_ofBool, ← Bool.decide_and]
  by_cases h : x.val ≤ r.val ∧ r.val / 64 = x.val / 64
  · rw [decide_eq_true h, if_pos h]
    show (((((BitVec.ofBool true).setWidth 32).toInt : ℝ)) : EReal) = 1
    rw [show ((BitVec.ofBool true).setWidth 32).toInt = 1 by decide]; simp
  · rw [decide_eq_false h, if_neg h]
    show (((((BitVec.ofBool false).setWidth 32).toInt : ℝ)) : EReal) = 0
    rw [show ((BitVec.ofBool false).setWidth 32).toInt = 0 by decide]; simp

theorem tri_row (la : FVec Ideal S128x512 .f32) (r : Fin 128) (l : Fin 512) :
    k0_pay7 la k0_pay4 k0_pay5 k0_pay6 (ix2 r l)
      = ∑ x : Fin 128, (if x.val ≤ r.val ∧ r.val / 64 = x.val / 64 then (1 : EReal) else 0) * la (ix2 x l)
        + ∑ x : Fin 128, (if x.val ≤ r.val ∧ r.val / 64 = x.val / 64 then (1 : EReal) else 0) * (la (ix2 x l) - la (ix2 x l)) := by
  pointwise [k0_pay7, k0_pay4, k0_pay5, k0_pay6]
  simp only [tri_word]

/-- The product with the triangle of the log decays' leading part and of what it leaves: the running sums of each of
    the two chunks. -/
theorem tri_apply (la : FVec Ideal S128x512 .f32) (hla : ∀ r l, la (ix2 r l) ≤ 0) (bb : Fin 2) (i : Fin 64) (l : Fin 512) :
    k0_pay7 la k0_pay4 k0_pay5 k0_pay6 (ix2 ⟨64 * bb.val + i.val, by omega⟩ l)
      = cum (fun i l => la (ix2 ⟨64 * bb.val + i.val, by omega⟩ l)) i l := by
  rw [tri_row]
  have key : ∀ f : Fin 128 → EReal,
      (∑ x : Fin 128, (if x.val ≤ 64 * bb.val + i.val ∧ (64 * bb.val + i.val) / 64 = x.val / 64 then (1 : EReal) else 0) * f x)
        = ∑ j ∈ Finset.univ.filter (fun j : Fin 64 => j ≤ i), f ⟨64 * bb.val + j.val, by omega⟩ := by
    intro f
    rw [FinSumWindow.sum_window (W := 64) (64 * bb.val) (by omega) _ fun P hP => by
      rw [if_neg (by omega), zero_mul]]
    rw [Finset.sum_filter]
    refine Finset.sum_congr rfl fun j _ => ?_
    have hi := i.isLt; have hj := j.isLt
    by_cases hji : j ≤ i
    · have : j.val ≤ i.val := hji
      rw [if_pos hji, if_pos (by
        show 64 * bb.val + j.val ≤ 64 * bb.val + i.val ∧ (64 * bb.val + i.val) / 64 = (64 * bb.val + j.val) / 64
        constructor <;> omega), one_mul]
    · have : ¬ j.val ≤ i.val := hji
      rw [if_neg hji, if_neg (by
        show ¬ (64 * bb.val + j.val ≤ 64 * bb.val + i.val ∧ (64 * bb.val + i.val) / 64 = (64 * bb.val + j.val) / 64)
        omega), zero_mul]
  rw [key (fun x => la (ix2 x l)), key (fun x => la (ix2 x l) - la (ix2 x l)), add_sub_self_bot _ _ fun j _ => hla _ _,
    Finset.sum_filter]
  rfl

/-- What the decays of block `s` of a chunk's rows are counted from: nothing, or the row before the block. -/
def refAt (b : FVec Ideal S64x128 .f32) (s : Fin 4) (d : Fin 128) : EReal :=
  if h : s.val = 0 then 0 else b (ix2 ⟨16 * s.val - 1, by omega⟩ d)

theorem select_ite {α : Type} (c : Prop) [Decidable c] (x y : α) :
    Scalar.select (if c then (1 : BitVec 1) else 0) x y = if c then x else y := by
  unfold Scalar.select
  split <;> simp

theorem qBlocks_at (q b : FVec Ideal S64x128 .f32) (i : Fin 64) (x : Fin 512) :
    qBlocks q b (ix2 i x)
      = if h : x.val < 128 then
          (if i.val / 16 = 0 then q (ix2 i ⟨x.val, h⟩) * Ideal.exp (b (ix2 i ⟨x.val, h⟩)) else 0)
        else if h : x.val - 128 < 128 then
          (if i.val / 16 = 1 then q (ix2 i ⟨x.val - 128, h⟩) * Ideal.exp (b (ix2 i ⟨x.val - 128, h⟩) - b (ix2 15 ⟨x.val - 128, h⟩)) else 0)
        else if h : x.val - 128 - 128 < 128 then
          (if i.val / 16 = 2 then q (ix2 i ⟨x.val - 128 - 128, h⟩)
            * Ideal.exp (b (ix2 i ⟨x.val - 128 - 128, h⟩) - b (ix2 31 ⟨x.val - 128 - 128, h⟩)) else 0)
        else
          (if i.val / 16 = 3 then q (ix2 i ⟨x.val - 128 - 128 - 128, by omega⟩)
            * Ideal.exp (b (ix2 i ⟨x.val - 128 - 128 - 128, by omega⟩) - b (ix2 47 ⟨x.val - 128 - 128 - 128, by omega⟩)) else 0) := by
  have w0 : ∀ i : Fin 64, (IntOp.andi (IntOp.cmpi CmpIPredicate.sge (BitVec.ofNat 32 ↑i) 0#32)
      (IntOp.cmpi CmpIPredicate.slt (BitVec.ofNat 32 ↑i) 16#32)) = if i.val / 16 = 0 then 1 else 0 := by decide
  have w1 : ∀ i : Fin 64, (IntOp.andi (IntOp.cmpi CmpIPredicate.sge (BitVec.ofNat 32 ↑i) 16#32)
      (IntOp.cmpi CmpIPredicate.slt (BitVec.ofNat 32 ↑i) 32#32)) = if i.val / 16 = 1 then 1 else 0 := by decide
  have w2 : ∀ i : Fin 64, (IntOp.andi (IntOp.cmpi CmpIPredicate.sge (BitVec.ofNat 32 ↑i) 32#32)
      (IntOp.cmpi CmpIPredicate.slt (BitVec.ofNat 32 ↑i) 48#32)) = if i.val / 16 = 2 then 1 else 0 := by decide
  have w3 : ∀ i : Fin 64, (IntOp.andi (IntOp.cmpi CmpIPredicate.sge (BitVec.ofNat 32 ↑i) 48#32)
      (IntOp.cmpi CmpIPredicate.slt (BitVec.ofNat 32 ↑i) 64#32)) = if i.val / 16 = 3 then 1 else 0 := by decide
  pointwise [qBlocks, k0_pay105, k0_pay49, k0_pay50, k0_pay51, k0_pay52, k0_pay81, k0_pay82, k0_pay83, k0_pay84, rowNo]
  simp only [w0, w1, w2, w3, select_ite]

theorem qBlocks_apply (q b : FVec Ideal S64x128 .f32) (i : Fin 64) (s : Fin 4) (d : Fin 128) :
    qBlocks q b (ix2 i ⟨128 * s.val + d.val, by omega⟩)
      = if i.val / 16 = s.val then q (ix2 i d) * Ideal.exp (b (ix2 i d) - refAt b s d) else 0 := by
  have hd := d.isLt
  have hs := s.isLt
  generalize hx : (⟨128 * s.val + d.val, by omega⟩ : Fin 512) = x
  have hx : x.val = 128 * s.val + d.val := by rw [← hx]
  rw [qBlocks_at]
  split
  · next h =>
    obtain rfl : s = 0 := Fin.ext (by show s.val = 0; omega)
    rw [show (⟨x.val, h⟩ : Fin 128) = d from Fin.ext (by change x.val = 128 * 0 + d.val at hx; show x.val = d.val; omega)]
    simp [refAt]
  · split
    · next h =>
      obtain rfl : s = 1 := Fin.ext (by show s.val = 1; omega)
      rw [show (⟨x.val - 128, h⟩ : Fin 128) = d from Fin.ext (by change x.val = 128 * 1 + d.val at hx; show x.val - 128 = d.val; omega)]
      rfl
    · split
      · next h =>
        obtain rfl : s = 2 := Fin.ext (by show s.val = 2; omega)
        rw [show (⟨x.val - 128 - 128, h⟩ : Fin 128) = d from Fin.ext (by change x.val = 128 * 2 + d.val at hx; show x.val - 128 - 128 = d.val; omega)]
        rfl
      · next h =>
        obtain rfl : s = 3 := Fin.ext (by show s.val = 3; omega)
        rw [show (⟨x.val - 128 - 128 - 128, by omega⟩ : Fin 128) = d from Fin.ext (by change x.val = 128 * 3 + d.val at hx; show x.val - 128 - 128 - 128 = d.val; omega)]
        rfl

theorem kBlocks_at (k b : FVec Ideal S64x128 .f32) (j : Fin 64) (x : Fin 512) :
    kBlocks k b (ix2 j x)
      = if h : x.val < 128 then
          k (ix2 j ⟨x.val, h⟩) * Ideal.exp (if j.val < 16 then 0 - b (ix2 j ⟨x.val, h⟩) else 0)
        else if h : x.val - 128 < 128 then
          k (ix2 j ⟨x.val - 128, h⟩) * Ideal.exp (if j.val < 32 then b (ix2 15 ⟨x.val - 128, h⟩) - b (ix2 j ⟨x.val - 128, h⟩) else 0)
        else if h : x.val - 128 - 128 < 128 then
          k (ix2 j ⟨x.val - 128 - 128, h⟩)
            * Ideal.exp (if j.val < 48 then b (ix2 31 ⟨x.val - 128 - 128, h⟩) - b (ix2 j ⟨x.val - 128 - 128, h⟩) else 0)
        else
          k (ix2 j ⟨x.val - 128 - 128 - 128, by omega⟩)
            * Ideal.exp (if j.val < 64 then b (ix2 47 ⟨x.val - 128 - 128 - 128, by omega⟩) - b (ix2 j ⟨x.val - 128 - 128 - 128, by omega⟩) else 0) := by
  have w0 : ∀ i : Fin 64, IntOp.cmpi CmpIPredicate.slt (BitVec.ofNat 32 ↑i) 16#32 = if i.val < 16 then 1 else 0 := by decide
  have w1 : ∀ i : Fin 64, IntOp.cmpi CmpIPredicate.slt (BitVec.ofNat 32 ↑i) 32#32 = if i.val < 32 then 1 else 0 := by decide
  have w2 : ∀ i : Fin 64, IntOp.cmpi CmpIPredicate.slt (BitVec.ofNat 32 ↑i) 48#32 = if i.val < 48 then 1 else 0 := by decide
  have w3 : ∀ i : Fin 64, IntOp.cmpi CmpIPredicate.slt (BitVec.ofNat 32 ↑i) 64#32 = if i.val < 64 then 1 else 0 := by decide
  pointwise [kBlocks, k0_pay121, k0_pay49, k0_pay50, k0_pay51, k0_pay52, rowNo]
  simp only [w0, w1, w2, w3, select_ite]
  simp only [j.isLt, if_true]

theorem kBlocks_apply (k b : FVec Ideal S64x128 .f32) (j : Fin 64) (s : Fin 4) (d : Fin 128) :
    kBlocks k b (ix2 j ⟨128 * s.val + d.val, by omega⟩)
      = k (ix2 j d) * Ideal.exp (if j.val < 16 * (s.val + 1) then refAt b s d - b (ix2 j d) else 0) := by
  have hd := d.isLt
  have hs := s.isLt
  generalize hx : (⟨128 * s.val + d.val, by omega⟩ : Fin 512) = x
  have hx : x.val = 128 * s.val + d.val := by rw [← hx]
  rw [kBlocks_at]
  split
  · next h =>
    obtain rfl : s = 0 := Fin.ext (by show s.val = 0; omega)
    rw [show (⟨x.val, h⟩ : Fin 128) = d from Fin.ext (by change x.val = 128 * 0 + d.val at hx; show x.val = d.val; omega)]
    simp [refAt]
  · split
    · next h =>
      obtain rfl : s = 1 := Fin.ext (by show s.val = 1; omega)
      rw [show (⟨x.val - 128, h⟩ : Fin 128) = d from Fin.ext (by change x.val = 128 * 1 + d.val at hx; show x.val - 128 = d.val; omega)]
      rfl
    · split
      · next h =>
        obtain rfl : s = 2 := Fin.ext (by show s.val = 2; omega)
        rw [show (⟨x.val - 128 - 128, h⟩ : Fin 128) = d from Fin.ext (by change x.val = 128 * 2 + d.val at hx; show x.val - 128 - 128 = d.val; omega)]
        rfl
      · next h =>
        obtain rfl : s = 3 := Fin.ext (by show s.val = 3; omega)
        rw [show (⟨x.val - 128 - 128 - 128, by omega⟩ : Fin 128) = d from Fin.ext (by change x.val = 128 * 3 + d.val at hx; show x.val - 128 - 128 - 128 = d.val; omega)]
        rfl

/-- The weights, computed by blocks, are the chunk's weights, when the running sums fall from row to row and are not
    positive. -/
theorem weights_apply (q k b : FVec Ideal S64x128 .f32) (hb : ∀ i d, b (ix2 i d) ≤ 0)
    (hmono : ∀ i j d, j ≤ i → b (ix2 i d) ≤ b (ix2 j d)) (i j : Fin 64) :
    weights q k b (ix2 i j) = att (fun i d => q (ix2 i d)) (fun i d => k (ix2 i d)) (fun i d => b (ix2 i d)) i j := by
  have hi := i.isLt
  have hw : IntOp.cmpi CmpIPredicate.sle (BitVec.ofNat 32 ↑j) (BitVec.ofNat 32 ↑i) = if j ≤ i then 1 else 0 := by
    rw [WordCmp.cmpi_sle_eq, WordCmp.toInt_ofNat_of_lt (by omega), WordCmp.toInt_ofNat_of_lt (by omega)]
    by_cases h : j ≤ i
    · rw [if_pos h, decide_eq_true (Int.ofNat_le.2 h)]; rfl
    · rw [if_neg h, decide_eq_false (fun hh => h (Int.ofNat_le.1 hh))]; rfl
  pointwise [weights, k0_pay140, k0_pay8]
  rw [hw, select_ite]
  unfold att
  by_cases h : j ≤ i
  · rw [if_pos h, if_pos h]
    have hji : j.val ≤ i.val := h
    obtain ⟨s, hs⟩ : ∃ s : Fin 4, i.val / 16 = s.val := ⟨⟨i.val / 16, by omega⟩, rfl⟩
    rw [FinSumWindow.sum_window (W := 128) (128 * s.val) (by omega) _ fun P hP => ?_]
    · refine Finset.sum_congr rfl fun d _ => ?_
      rw [qBlocks_apply, kBlocks_apply, if_pos hs, if_pos (by omega), mul_mul_mul_comm]
      congr 1
      have hr : refAt b s d ≤ 0 ∧ b (ix2 i d) ≤ refAt b s d := by
        unfold refAt
        split
        · exact ⟨le_refl _, hb _ _⟩
        · exact ⟨hb _ _, hmono _ _ _ (by show 16 * s.val - 1 ≤ i.val; omega)⟩
      exact exp_split hr.2 hr.1 (hmono _ _ _ h) (hb _ _)
    · have hP' := P.isLt
      have e : P = ⟨128 * (⟨P.val / 128, by omega⟩ : Fin 4).val + (⟨P.val % 128, by omega⟩ : Fin 128).val, by show 128 * (P.val / 128) + P.val % 128 < 512; omega⟩ :=
        Fin.ext (by show P.val = 128 * (P.val / 128) + P.val % 128; omega)
      rw [e, qBlocks_apply, if_neg (by show ¬ i.val / 16 = P.val / 128; omega), zero_mul]
  · rw [if_neg h, if_neg h]

/-- A chain's rows before they are normalised. -/
theorem mixed_apply (q k : FVec Ideal S64x128 .f32) (v : FVec Ideal S64x256 .f32) (b : FVec Ideal S64x128 .f32) (st : FVec Ideal S256x128 .f32)
    (hb : ∀ i d, b (ix2 i d) ≤ 0) (hmono : ∀ i j d, j ≤ i → b (ix2 i d) ≤ b (ix2 j d)) (i : Fin 64) (e : Fin 256) :
    mixed q k v b st (ix2 i e)
      = mix (fun i d => q (ix2 i d)) (fun i d => k (ix2 i d)) (fun i d => b (ix2 i d)) (fun j => v (ix2 j e))
          (fun d => st (ix2 e d)) i := by
  pointwise [mixed, k0_pay149]
  unfold mix
  congr 1
  exact Finset.sum_congr rfl fun j _ => by rw [weights_apply q k b hb hmono]

/-- A chain's rows before they are normalised, of the loads it makes. -/
def rows (qL kL : Vec Ideal S1x64x128 .f32) (vL : Vec Ideal S1x64x256 .f32) (b : FVec Ideal S64x128 .f32)
    (stL : Vec Ideal S1x256x128 .f32) (i : Fin 64) (e : Fin 256) : EReal :=
  mix (fun i d => qL (ix3 0 i d) * Ideal.ofBits .f32 0x3DD105EC#32) (fun i d => kL (ix3 0 i d)) (fun i d => b (ix2 i d))
    (fun j => vL (ix3 0 j e)) (fun d => stL (ix3 0 e d)) i

/-- A chain's output block: the rows normalised, weighted and gated. -/
theorem headOut_apply (qL kL : Vec Ideal S1x64x128 .f32) (vL : Vec Ideal S1x64x256 .f32) (b : FVec Ideal S64x128 .f32)
    (stL : Vec Ideal S1x256x128 .f32) (ngL : Vec Ideal S1x256 .f32) (gL : Vec Ideal S1x64x256 .f32)
    (hb : ∀ i d, b (ix2 i d) ≤ 0) (hmono : ∀ i j d, j ≤ i → b (ix2 i d) ≤ b (ix2 j d)) (i : Fin 64) (e : Fin 256) :
    headOut qL kL vL b stL ngL gL (ix3 0 i e)
      = rows qL kL vL b stL i e
          * Ideal.rsqrt ((∑ x, rows qL kL vL b stL i x * rows qL kL vL b stL i x) * (Named.named κ "inv_dv" (0x3BAAAAAB#32 : BitVec 32) : Ideal .f32)
              + Ideal.ofBits .f32 0x358637BD#32)
          * ngL (ix2 0 e) * (gL (ix3 0 i e) * Ideal.div 1 (1 + Ideal.exp (0 - gL (ix3 0 i e)))) := by
  have hm : ∀ x : Fin 256, mixed (k0_pay9 qL) (k0_pay17 kL) (k0_pay25 vL) b (k0_pay41 stL) (ix2 i x) = rows qL kL vL b stL i x := by
    intro x
    rw [mixed_apply _ _ _ _ _ hb hmono]
    unfold rows
    have hq : ∀ i d, k0_pay9 qL (ix2 i d) = qL (ix3 0 i d) * Ideal.ofBits .f32 0x3DD105EC#32 := by
      intro i d; pointwise [k0_pay9]
    have hk : ∀ i d, k0_pay17 kL (ix2 i d) = kL (ix3 0 i d) := by intro i d; pointwise [k0_pay17]
    have hv : ∀ i d, k0_pay25 vL (ix2 i d) = vL (ix3 0 i d) := by intro i d; pointwise [k0_pay25]
    have hst : ∀ i d, k0_pay41 stL (ix2 i d) = stL (ix3 0 i d) := by intro i d; pointwise [k0_pay41]
    simp only [hq, hk, hv, hst]
  pointwise [headOut, k0_pay191]
  simp only [hm]

theorem rows_of {qL kL : Vec Ideal S1x64x128 .f32} {vL : Vec Ideal S1x64x256 .f32} {b : FVec Ideal S64x128 .f32}
    {stL : Vec Ideal S1x256x128 .f32} {Q K B : Fin 64 → Fin 128 → EReal} {V : Fin 64 → Fin 256 → EReal}
    (hq : ∀ i d, qL (ix3 0 i d) = Q i d) (hk : ∀ i d, kL (ix3 0 i d) = K i d) (hb : ∀ i d, b (ix2 i d) = B i d)
    (hv : ∀ i e, vL (ix3 0 i e) = V i e) (i : Fin 64) (e : Fin 256) :
    rows qL kL vL b stL i e
      = mix (fun i d => Q i d * Ideal.ofBits .f32 0x3DD105EC#32) K B (fun j => V j e) (fun d => stL (ix3 0 e d)) i := by
  unfold rows
  simp only [hq, hk, hb, hv]

/-- A chain's output block, of what its rows, its norm weights and its gates are. -/
theorem headOut_of {qL kL : Vec Ideal S1x64x128 .f32} {vL : Vec Ideal S1x64x256 .f32} {b : FVec Ideal S64x128 .f32}
    {stL : Vec Ideal S1x256x128 .f32} {ngL : Vec Ideal S1x256 .f32} {gL : Vec Ideal S1x64x256 .f32}
    (hb : ∀ i d, b (ix2 i d) ≤ 0) (hmono : ∀ i j d, j ≤ i → b (ix2 i d) ≤ b (ix2 j d)) {i : Fin 64} {e : Fin 256}
    {R : Fin 256 → EReal} {n g : EReal} (hR : ∀ x, rows qL kL vL b stL i x = R x) (hn : ngL (ix2 0 e) = n)
    (hg : gL (ix3 0 i e) = g) :
    headOut qL kL vL b stL ngL gL (ix3 0 i e)
      = R e * Ideal.rsqrt ((∑ x, R x * R x) * (Named.named κ "inv_dv" (0x3BAAAAAB#32 : BitVec 32) : Ideal .f32)
              + Ideal.ofBits .f32 0x358637BD#32)
          * n * (g * Ideal.div 1 (1 + Ideal.exp (0 - g))) := by
  rw [headOut_apply _ _ _ _ _ _ _ hb hmono, hn, hg]
  simp only [hR]

/-- A chain's state after the point. -/
theorem headState_apply (kL : Vec Ideal S1x64x128 .f32) (vL : Vec Ideal S1x64x256 .f32) (b : FVec Ideal S64x128 .f32)
    (stL : Vec Ideal S1x256x128 .f32) (e : Fin 256) (d : Fin 128) :
    headState kL vL b stL (ix3 0 e d)
      = next (fun i => kL (ix3 0 i d)) (fun i => b (ix2 i d)) (fun i => vL (ix3 0 i e)) (stL (ix3 0 e d)) := by
  pointwise [headState, k0_pay180, k0_pay157, k0_pay17, k0_pay25, k0_pay41, k0_pay171, k0_pay165, k0_pay166]
  unfold next
  rw [mul_comm (stL _)]
  congr 1
  simp only [zero_mul, Finset.sum_const_zero, add_zero]
  exact Finset.sum_congr rfl fun i _ => mul_comm _ _

theorem headState_of {kL : Vec Ideal S1x64x128 .f32} {vL : Vec Ideal S1x64x256 .f32} {b : FVec Ideal S64x128 .f32}
    {stL : Vec Ideal S1x256x128 .f32} {e : Fin 256} {d : Fin 128} {K B V : Fin 64 → EReal}
    (hk : ∀ i, kL (ix3 0 i d) = K i) (hb : ∀ i, b (ix2 i d) = B i) (hv : ∀ i, vL (ix3 0 i e) = V i) :
    headState kL vL b stL (ix3 0 e d) = next K B V (stL (ix3 0 e d)) := by
  rw [headState_apply]
  simp only [hk, hb, hv]

end Cert.KernelIdeal.Gla

end
-- ==== Proof.BlockValue.lean ====
/-
  What a grid point leaves in the output block and in the carried state, entry by entry, of what its windows hold and of
  the state it finds.
-/
module

public import proofs.«01_k».proof.Proof.ChainValue
public import Idealize.ShloMosaic.Lib.WritesUnit
public import Idealize.ShloMosaic.Lib.VecWindow

@[expose] public section

set_option maxRecDepth 16384
noncomputable section

namespace Cert.KernelIdeal.Gla

open Idealize.ShloMosaic Idealize.ShloMosaic.TcCoe Cert.KernelIdeal Cert.KernelIdeal.Gen Cert.Gla
open scoped BigOperators

/-! ### Lanes of a chain -/

/-- Lane `d` of head `hd` among the four heads' padded key lanes. -/
def keyLane (hd : Fin 4) (d : Fin 128) : Fin 512 := ⟨128 * hd.val + d.val, by omega⟩

/-- Lane `e` of head `hd` among the four heads' padded value lanes. -/
def valLane (hd : Fin 4) (e : Fin 256) : Fin 1024 := ⟨256 * hd.val + e.val, by omega⟩

/-- The state's plane of sequence `bb` and head `hd`. -/
def plane (bb : Fin 2) (hd : Fin 4) : Fin 8 := ⟨4 * bb.val + hd.val, by omega⟩

/-! ### The mathematics of a point, of its windows -/

section
variable (x0 x1 : Vec Ideal S2x64x512 .f32) (x2 x3 : Vec Ideal S2x64x1024 .f32) (x4 : Vec Ideal S2x64x128 .f32)
  (x5 : Vec Ideal S128x512 .f32) (x6 : Vec Ideal S1x512 .f32) (x7 : Vec Ideal S1x1024 .f32)

/-- The running sums of the log decays of one chain's rows. -/
def blkSum (bb : Fin 2) (hd : Fin 4) : Fin 64 → Fin 128 → EReal :=
  cum fun i d => logDecay (∑ x : Fin 128, x4 (ix3 bb i x) * x5 (ix2 x (keyLane hd d)) + x6 (ix2 0 (keyLane hd d)))

/-- One chain's rows before they are normalised. -/
def blkRow (bb : Fin 2) (hd : Fin 4) (st : Fin 256 → Fin 128 → EReal) (i : Fin 64) (e : Fin 256) : EReal :=
  mix (fun i d => x0 (ix3 bb i (keyLane hd d)) * Ideal.ofBits .f32 0x3DD105EC#32) (fun i d => x1 (ix3 bb i (keyLane hd d)))
    (blkSum x4 x5 x6 bb hd) (fun j => x2 (ix3 bb j (valLane hd e))) (st e) i

/-- One chain's rows, normalised, weighted and gated. -/
def blkOut (bb : Fin 2) (hd : Fin 4) (st : Fin 256 → Fin 128 → EReal) (i : Fin 64) (e : Fin 256) : EReal :=
  blkRow x0 x1 x2 x4 x5 x6 bb hd st i e
    * Ideal.rsqrt ((∑ x, blkRow x0 x1 x2 x4 x5 x6 bb hd st i x * blkRow x0 x1 x2 x4 x5 x6 bb hd st i x)
          * (Named.named κ "inv_dv" (0x3BAAAAAB#32 : BitVec 32) : Ideal .f32) + Ideal.ofBits .f32 0x358637BD#32)
    * x7 (ix2 0 (valLane hd e))
    * (x3 (ix3 bb i (valLane hd e)) * Ideal.div 1 (1 + Ideal.exp (0 - x3 (ix3 bb i (valLane hd e)))))

/-- One chain's state after the point. -/
def blkState (bb : Fin 2) (hd : Fin 4) (st : Fin 256 → Fin 128 → EReal) (e : Fin 256) (d : Fin 128) : EReal :=
  next (fun i => x1 (ix3 bb i (keyLane hd d))) (fun i => blkSum x4 x5 x6 bb hd i d) (fun i => x2 (ix3 bb i (valLane hd e)))
    (st e d)

theorem blkSum_nonpos (bb : Fin 2) (hd : Fin 4) (i : Fin 64) (d : Fin 128) : blkSum x4 x5 x6 bb hd i d ≤ 0 :=
  cum_nonpos (fun _ _ => logDecay_nonpos _) i d

theorem blkSum_anti (bb : Fin 2) (hd : Fin 4) (i j : Fin 64) (d : Fin 128) (h : j ≤ i) :
    blkSum x4 x5 x6 bb hd i d ≤ blkSum x4 x5 x6 bb hd j d :=
  cum_anti (fun _ _ => logDecay_nonpos _) h d

end

/-! ### The loads -/

/-- A load of consecutive entries reads the window's contents there. -/
theorem load_apply {s : Shape} {e : EltTy} {sp : Space} (a : Memref sig .tc sp s e) (ha : a.IsWhole) (x : Vec Ideal s e)
    {off size : Fin s.rank → ℕ} (inb : ∀ k, off k + size k ≤ s.size k) (y : (Rect.unit off size inb).shape.Idx) (z : s.Idx)
    (hz : ∀ k, (z k).val = off k + (y k).val) :
    a.view.readAt (Elt Ideal) (Rect.unit off size inb).toLoadRect (ha.unread x) y = x z := by
  rw [View.readAt_apply]
  refine (congrFun (ha.read_unread x) _).trans ?_
  exact congrArg x (funext fun k => Fin.ext (by
    show off k + 1 * (y k).val = (z k).val
    rw [hz k, Nat.one_mul]))

section
variable (arg1 : Memref sig .tc .vmem S2x64x512 .f32) (harg1 : arg1.IsWhole) (arg2 : Memref sig .tc .vmem S2x64x512 .f32) (harg2 : arg2.IsWhole)
    (arg3 : Memref sig .tc .vmem S2x64x1024 .f32) (harg3 : arg3.IsWhole) (arg4 : Memref sig .tc .vmem S2x64x1024 .f32) (harg4 : arg4.IsWhole)
    (arg5 : Memref sig .tc .vmem S2x64x128 .f32) (harg5 : arg5.IsWhole) (arg6 : Memref sig .tc .vmem S128x512 .f32) (harg6 : arg6.IsWhole)
    (arg7 : Memref sig .tc .vmem S1x512 .f32) (harg7 : arg7.IsWhole) (arg8 : Memref sig .tc .vmem S1x1024 .f32) (harg8 : arg8.IsWhole)
    (arg10 : Memref sig .tc .vmem S8x256x128 .f32) (harg10 : arg10.IsWhole)
    (x0 x1 : Vec Ideal S2x64x512 .f32) (x2 x3 : Vec Ideal S2x64x1024 .f32) (x4 : Vec Ideal S2x64x128 .f32)
    (x5 : Vec Ideal S128x512 .f32) (x6 : Vec Ideal S1x512 .f32) (x7 : Vec Ideal S1x1024 .f32)

/-- The load of the up projection is the whole window. -/
theorem loadUp (x : Fin 128) (l : Fin 512) :
    arg6.view.readAt (Elt Ideal) (Rect.unit (s := S128x512) ![0, 0] S128x512.size inb_S128x512_S128x512_0_0).toLoadRect (harg6.unread x5) (ix2 x l)
      = x5 (ix2 x l) := by
  refine load_apply arg6 harg6 x5 _ _ _ fun k => ?_
  match k with
  | ⟨0, _⟩ => exact (Nat.zero_add _).symm
  | ⟨1, _⟩ => exact (Nat.zero_add _).symm

/-- The load of the gate's bias is the whole window. -/
theorem loadBias (l : Fin 512) :
    arg7.view.readAt (Elt Ideal) (Rect.unit (s := S1x512) ![0, 0] S1x512.size inb_S1x512_S1x512_0_0).toLoadRect (harg7.unread x6) (ix2 0 l)
      = x6 (ix2 0 l) := by
  refine load_apply arg7 harg7 x6 _ _ _ fun k => ?_
  match k with
  | ⟨0, _⟩ => rfl
  | ⟨1, _⟩ => exact (Nat.zero_add _).symm

/-- A load of one sequence's low-rank rows. -/
theorem loadLow (b : Fin 2) (k : Fin 64) (x : Fin 128) :
    arg5.view.readAt (Elt Ideal) (Rect.unit (s := S2x64x128) ![b.val, 0, 0] S1x64x128.size (inbLow b)).toLoadRect (harg5.unread x4) (ix3 0 k x)
      = x4 (ix3 b k x) := by
  refine load_apply arg5 harg5 x4 _ _ _ fun a => ?_
  match a with
  | ⟨0, _⟩ => rfl
  | ⟨1, _⟩ => exact (Nat.zero_add _).symm
  | ⟨2, _⟩ => exact (Nat.zero_add _).symm

/-- The preactivation of the loads. -/
theorem preact_loads (b : Fin 2) (k : Fin 64) (l : Fin 512) :
    preact (arg5.view.readAt (Elt Ideal) (Rect.unit (s := S2x64x128) ![b.val, 0, 0] S1x64x128.size (inbLow b)).toLoadRect (harg5.unread x4))
      (arg6.view.readAt (Elt Ideal) (Rect.unit (s := S128x512) ![0, 0] S128x512.size inb_S128x512_S128x512_0_0).toLoadRect (harg6.unread x5))
      (arg7.view.readAt (Elt Ideal) (Rect.unit (s := S1x512) ![0, 0] S1x512.size inb_S1x512_S1x512_0_0).toLoadRect (harg7.unread x6)) k l
      = ∑ x : Fin 128, x4 (ix3 b k x) * x5 (ix2 x l) + x6 (ix2 0 l) := by
  unfold preact
  rw [loadBias]
  congr 1
  exact Finset.sum_congr rfl fun x _ => by rw [loadUp, loadLow]

/-- The log decays of the 128 rows of two sequences' chunks, row by row of one sequence. -/
theorem la_chain {ad0 ad1 : Vec Ideal S1x64x128 .f32} {up : Vec Ideal S128x512 .f32} {ab : Vec Ideal S1x512 .f32}
    {P : Fin 2 → Fin 64 → Fin 512 → EReal} (h0 : ∀ j l, preact ad0 up ab j l = P 0 j l) (h1 : ∀ j l, preact ad1 up ab j l = P 1 j l)
    (bb : Fin 2) (j : Fin 64) (l : Fin 512) :
    k0_pay3 ad0 ad1 up ab (ix2 ⟨64 * bb.val + j.val, by omega⟩ l) = logDecay (P bb j l) := by
  rw [la_apply]
  congr 1
  have hj := j.isLt
  match bb with
  | 0 =>
    rw [dif_pos (by show 64 * 0 + j.val < 64; omega), ← h0]
    exact congrArg (fun k => preact ad0 up ab k l) (Fin.ext (by show 64 * 0 + j.val = j.val; omega))
  | 1 =>
    rw [dif_neg (by show ¬ 64 * 1 + j.val < 64; omega), ← h1]
    exact congrArg (fun k => preact ad1 up ab k l) (Fin.ext (by show 64 * 1 + j.val - 64 = j.val; omega))

/-- A chain's part of the running sums the point computes. -/
theorem chainSum_apply (bb : Fin 2) (hd : Fin 4) (i : Fin 64) (d : Fin 128) :
    chainSum bb hd (sums arg5 harg5 arg6 harg6 arg7 harg7 x4 x5 x6) (ix2 i d) = blkSum x4 x5 x6 bb hd i d := by
  have h0 : ∀ all : FVec Ideal S128x512 .f32, chainSum bb hd all (ix2 i d) = all (ix2 ⟨64 * bb.val + i.val, by omega⟩ (keyLane hd d)) := by
    intro all
    unfold chainSum
    refine congrArg all (funext fun a => Fin.ext ?_)
    match a with
    | ⟨0, _⟩ => rfl
    | ⟨1, _⟩ => rfl
  rw [h0]
  unfold sums cumAll
  rw [tri_apply _ (fun r l => by rw [la_apply]; exact logDecay_nonpos _)]
  unfold blkSum cum
  refine Finset.sum_congr rfl fun j _ => ?_
  exact congrArg (fun z => if j ≤ i then z else 0)
    (la_chain (P := fun b k l => ∑ x : Fin 128, x4 (ix3 b k x) * x5 (ix2 x l) + x6 (ix2 0 l))
      (preact_loads arg5 harg5 arg6 harg6 arg7 harg7 x4 x5 x6 0) (preact_loads arg5 harg5 arg6 harg6 arg7 harg7 x4 x5 x6 1) bb j (keyLane hd d))

/-- A load of a chain's key lanes. -/
theorem loadKey (a : Memref sig .tc .vmem S2x64x512 .f32) (ha : a.IsWhole) (x : Vec Ideal S2x64x512 .f32) (bb : Fin 2) (hd : Fin 4)
    (i : Fin 64) (d : Fin 128) :
    a.view.readAt (Elt Ideal) (Rect.unit (s := S2x64x512) ![bb.val, 0, 128 * hd.val] S1x64x128.size (inbKey bb hd)).toLoadRect (ha.unread x)
      (ix3 0 i d) = x (ix3 bb i (keyLane hd d)) := by
  refine load_apply a ha x _ _ _ fun k => ?_
  match k with
  | ⟨0, _⟩ => rfl
  | ⟨1, _⟩ => exact (Nat.zero_add _).symm
  | ⟨2, _⟩ => rfl

/-- A load of a chain's value lanes. -/
theorem loadVal (a : Memref sig .tc .vmem S2x64x1024 .f32) (ha : a.IsWhole) (x : Vec Ideal S2x64x1024 .f32) (bb : Fin 2) (hd : Fin 4)
    (i : Fin 64) (e : Fin 256) :
    a.view.readAt (Elt Ideal) (Rect.unit (s := S2x64x1024) ![bb.val, 0, 256 * hd.val] S1x64x256.size (inbVal bb hd)).toLoadRect (ha.unread x)
      (ix3 0 i e) = x (ix3 bb i (valLane hd e)) := by
  refine load_apply a ha x _ _ _ fun k => ?_
  match k with
  | ⟨0, _⟩ => rfl
  | ⟨1, _⟩ => exact (Nat.zero_add _).symm
  | ⟨2, _⟩ => rfl

/-- A load of a chain's norm weights. -/
theorem loadNorm (hd : Fin 4) (l : Fin 256) :
    arg8.view.readAt (Elt Ideal) (Rect.unit (s := S1x1024) ![0, 256 * hd.val] S1x256.size (inbScale hd)).toLoadRect (harg8.unread x7) (ix2 0 l)
      = x7 (ix2 0 (valLane hd l)) := by
  refine load_apply arg8 harg8 x7 _ _ _ fun k => ?_
  match k with
  | ⟨0, _⟩ => rfl
  | ⟨1, _⟩ => rfl

/-- A chain's part of the output block. -/
theorem outOf_apply (st : Vec Ideal S1x256x128 .f32) (bb : Fin 2) (hd : Fin 4) (i : Fin 64) (e : Fin 256) :
    outOf arg1 harg1 arg2 harg2 arg3 harg3 arg4 harg4 arg5 harg5 arg6 harg6 arg7 harg7 arg8 harg8 x0 x1 x2 x3 x4 x5 x6 x7 st bb hd (ix3 0 i e)
      = blkOut x0 x1 x2 x3 x4 x5 x6 x7 bb hd (fun e d => st (ix3 0 e d)) i e := by
  exact headOut_of (fun i d => (chainSum_apply arg5 harg5 arg6 harg6 arg7 harg7 x4 x5 x6 bb hd i d).trans_le (blkSum_nonpos x4 x5 x6 bb hd i d))
    (fun i j d h => by
      rw [chainSum_apply arg5 harg5 arg6 harg6 arg7 harg7 x4 x5 x6, chainSum_apply arg5 harg5 arg6 harg6 arg7 harg7 x4 x5 x6]
      exact blkSum_anti x4 x5 x6 bb hd i j d h)
    (fun x => rows_of (loadKey arg1 harg1 x0 bb hd) (loadKey arg2 harg2 x1 bb hd)
      (chainSum_apply arg5 harg5 arg6 harg6 arg7 harg7 x4 x5 x6 bb hd) (loadVal arg3 harg3 x2 bb hd) i x)
    (loadNorm arg8 harg8 x7 hd e) (loadVal arg4 harg4 x3 bb hd i e)

/-- A chain's part of the next state. -/
theorem stateOf_apply (st : Vec Ideal S1x256x128 .f32) (bb : Fin 2) (hd : Fin 4) (e : Fin 256) (d : Fin 128) :
    stateOf arg2 harg2 arg3 harg3 arg5 harg5 arg6 harg6 arg7 harg7 x1 x2 x4 x5 x6 st bb hd (ix3 0 e d)
      = blkState x1 x2 x4 x5 x6 bb hd (fun e d => st (ix3 0 e d)) e d := by
  exact headState_of (fun i => loadKey arg2 harg2 x1 bb hd i d)
    (fun i => chainSum_apply arg5 harg5 arg6 harg6 arg7 harg7 x4 x5 x6 bb hd i d) (fun i => loadVal arg3 harg3 x2 bb hd i e)

/-- At a first point a chain finds a zero state. -/
theorem stateA_apply (bb : Fin 2) (hd : Fin 4) (e : Fin 256) (d : Fin 128) :
    stateA (F := Ideal) arg10 bb hd (ix3 0 e d) = 0 := by
  unfold stateA
  unfold View.readCov
  rw [View.readAt_apply]
  unfold zeroPiece
  refine (congrFun (View.read_writes_full (Val := Elt Ideal) arg10.view _ inb_S8x256x128_S8x256x128_0_0_0 (k0_pay2 (F := Ideal)) []) _).trans ?_
  show Ideal.ofBits .f32 0x00000000#32 = 0
  simp

/-- At a later point a chain finds what the point before left. -/
theorem stateB_apply (xs0 : Vec Ideal S8x256x128 .f32) (bb : Fin 2) (hd : Fin 4) (e : Fin 256) (d : Fin 128) :
    stateB arg10 harg10 xs0 bb hd (ix3 0 e d) = xs0 (ix3 (plane bb hd) e d) := by
  refine load_apply arg10 harg10 xs0 _ _ _ fun k => ?_
  match k with
  | ⟨0, _⟩ => rfl
  | ⟨1, _⟩ => exact (Nat.zero_add _).symm
  | ⟨2, _⟩ => exact (Nat.zero_add _).symm

end

/-! ### The pieces, read back -/

theorem mem_chains : ∀ (bb : Fin 2) (hd : Fin 4),
    (bb, hd) ∈ ([(1, 3), (1, 2), (1, 1), (1, 0), (0, 3), (0, 2), (0, 1), (0, 0)] : List (Fin 2 × Fin 4)) := by decide

section
variable {sp : Space}

theorem out_skip (v : View sig .tc sp S2x64x1024 .bf16) (f : v.ty.Contents (Elt Ideal)) (b : Fin 2) (h : Fin 4) (w : Vec Ideal S1x64x256 .bf16)
    (L : List (View.Piece (Elt Ideal) S2x64x1024 .bf16)) (bb : Fin 2) (hd : Fin 4) (i : Fin 64) (e : Fin 256) (hne : (b, h) ≠ (bb, hd)) :
    v.read (Elt Ideal) (v.writes (Elt Ideal) f (⟨Rect.unit (s := S2x64x1024) ![b.val, 0, 256 * h.val] S1x64x256.size (inbVal b h), w⟩ :: L))
        (ix3 bb i (valLane hd e))
      = v.read (Elt Ideal) (v.writes (Elt Ideal) f L) (ix3 bb i (valLane hd e)) := by
  by_cases hb : b = bb
  · have hh : h.val ≠ hd.val := fun q => hne (by rw [hb, Fin.ext q])
    refine View.read_writes_cons_unit_of_not_mem v f _ w L _ rfl 2 ?_
    show 256 * hd.val + e.val < 256 * h.val ∨ 256 * h.val + 256 ≤ 256 * hd.val + e.val
    omega
  · have hh : b.val ≠ bb.val := fun q => hb (Fin.ext q)
    refine View.read_writes_cons_unit_of_not_mem v f _ w L _ rfl 0 ?_
    show bb.val < b.val ∨ b.val + 1 ≤ bb.val
    omega

theorem out_hit (v : View sig .tc sp S2x64x1024 .bf16) (f : v.ty.Contents (Elt Ideal)) (w : Vec Ideal S1x64x256 .bf16)
    (L : List (View.Piece (Elt Ideal) S2x64x1024 .bf16)) (bb : Fin 2) (hd : Fin 4) (i : Fin 64) (e : Fin 256) :
    v.read (Elt Ideal) (v.writes (Elt Ideal) f (⟨Rect.unit (s := S2x64x1024) ![bb.val, 0, 256 * hd.val] S1x64x256.size (inbVal bb hd), w⟩ :: L))
        (ix3 bb i (valLane hd e))
      = w (ix3 0 i e) :=
  View.read_writes_cons_unit_of_mem v f _ w L _ (ix3 0 i e) rfl fun a => by
    match a with
    | ⟨0, _⟩ => rfl
    | ⟨1, _⟩ => exact (Nat.zero_add _).symm
    | ⟨2, _⟩ => rfl

/-- The output block's pieces read back: each chain's lanes hold its piece. -/
theorem outList_apply (v : View sig .tc sp S2x64x1024 .bf16) (f : v.ty.Contents (Elt Ideal)) (P : Fin 2 → Fin 4 → Vec Ideal S1x64x256 .bf16)
    (bb : Fin 2) (hd : Fin 4) (i : Fin 64) (e : Fin 256) :
    v.read (Elt Ideal) (v.writes (Elt Ideal) f (outList P)) (ix3 bb i (valLane hd e)) = P bb hd (ix3 0 i e) := by
  unfold outList
  have key : ∀ L : List (Fin 2 × Fin 4), (bb, hd) ∈ L →
      v.read (Elt Ideal) (v.writes (Elt Ideal) f (L.map fun p : Fin 2 × Fin 4 =>
        ⟨Rect.unit (s := S2x64x1024) ![p.1.val, 0, 256 * p.2.val] S1x64x256.size (inbVal p.1 p.2), P p.1 p.2⟩)) (ix3 bb i (valLane hd e))
        = P bb hd (ix3 0 i e) := by
    intro L
    induction L with
    | nil => intro h; simp at h
    | cons p L ih =>
      intro h
      rw [List.map_cons]
      by_cases hp : p = (bb, hd)
      · subst hp; exact out_hit v f _ _ bb hd i e
      · refine (out_skip v f p.1 p.2 _ _ bb hd i e (fun q => hp (by rw [← q]))).trans (ih ?_)
        rcases List.mem_cons.1 h with h | h
        · exact absurd h.symm hp
        · exact h
  exact key _ (mem_chains bb hd)

theorem state_skip (v : View sig .tc sp S8x256x128 .f32) (f : v.ty.Contents (Elt Ideal)) (b : Fin 2) (h : Fin 4) (w : Vec Ideal S1x256x128 .f32)
    (L : List (View.Piece (Elt Ideal) S8x256x128 .f32)) (bb : Fin 2) (hd : Fin 4) (e : Fin 256) (d : Fin 128) (hne : (b, h) ≠ (bb, hd)) :
    v.read (Elt Ideal) (v.writes (Elt Ideal) f (⟨Rect.unit (s := S8x256x128) ![4 * b.val + h.val, 0, 0] S1x256x128.size (inbState b h), w⟩ :: L))
        (ix3 (plane bb hd) e d)
      = v.read (Elt Ideal) (v.writes (Elt Ideal) f L) (ix3 (plane bb hd) e d) := by
  have hh : 4 * b.val + h.val ≠ 4 * bb.val + hd.val := fun q =>
    hne (Prod.ext (Fin.ext (by show b.val = bb.val; omega)) (Fin.ext (by show h.val = hd.val; omega)))
  refine View.read_writes_cons_unit_of_not_mem v f _ w L _ rfl 0 ?_
  show 4 * bb.val + hd.val < 4 * b.val + h.val ∨ 4 * b.val + h.val + 1 ≤ 4 * bb.val + hd.val
  omega

theorem state_hit (v : View sig .tc sp S8x256x128 .f32) (f : v.ty.Contents (Elt Ideal)) (w : Vec Ideal S1x256x128 .f32)
    (L : List (View.Piece (Elt Ideal) S8x256x128 .f32)) (bb : Fin 2) (hd : Fin 4) (e : Fin 256) (d : Fin 128) :
    v.read (Elt Ideal) (v.writes (Elt Ideal) f (⟨Rect.unit (s := S8x256x128) ![4 * bb.val + hd.val, 0, 0] S1x256x128.size (inbState bb hd), w⟩ :: L))
        (ix3 (plane bb hd) e d)
      = w (ix3 0 e d) :=
  View.read_writes_cons_unit_of_mem v f _ w L _ (ix3 0 e d) rfl fun a => by
    match a with
    | ⟨0, _⟩ => rfl
    | ⟨1, _⟩ => exact (Nat.zero_add _).symm
    | ⟨2, _⟩ => exact (Nat.zero_add _).symm

/-- The state's pieces read back, whatever was stored before them: each chain's plane holds its piece. -/
theorem stateList_apply (v : View sig .tc sp S8x256x128 .f32) (f : v.ty.Contents (Elt Ideal)) (P : Fin 2 → Fin 4 → Vec Ideal S1x256x128 .f32)
    (M : List (View.Piece (Elt Ideal) S8x256x128 .f32)) (bb : Fin 2) (hd : Fin 4) (e : Fin 256) (d : Fin 128) :
    v.read (Elt Ideal) (v.writes (Elt Ideal) f (stateList P ++ M)) (ix3 (plane bb hd) e d) = P bb hd (ix3 0 e d) := by
  unfold stateList
  have key : ∀ L : List (Fin 2 × Fin 4), (bb, hd) ∈ L →
      v.read (Elt Ideal) (v.writes (Elt Ideal) f ((L.map fun p : Fin 2 × Fin 4 =>
        ⟨Rect.unit (s := S8x256x128) ![4 * p.1.val + p.2.val, 0, 0] S1x256x128.size (inbState p.1 p.2), P p.1 p.2⟩) ++ M)) (ix3 (plane bb hd) e d)
        = P bb hd (ix3 0 e d) := by
    intro L
    induction L with
    | nil => intro h; simp at h
    | cons p L ih =>
      intro h
      rw [List.map_cons, List.cons_append]
      by_cases hp : p = (bb, hd)
      · subst hp; exact state_hit v f _ _ bb hd e d
      · refine (state_skip v f p.1 p.2 _ _ bb hd e d (fun q => hp (by rw [← q]))).trans (ih ?_)
        rcases List.mem_cons.1 h with h | h
        · exact absurd h.symm hp
        · exact h
  exact key _ (mem_chains bb hd)

end

end Cert.KernelIdeal.Gla

end
-- ==== Proof.Point.lean ====
/-
  What each grid point leaves in the output block and in the carried state, and the states of all points.
-/
module

public import proofs.«01_k».proof.Proof.BlockValue
public import proofs.«01_k».proof.Proof.Gen.KernelIdeal.Value

@[expose] public section

set_option maxRecDepth 16384
noncomputable section

namespace Cert.KernelIdeal.Gla

open Idealize.ShloMosaic Idealize.ShloMosaic.TcCoe Cert.KernelIdeal Cert.KernelIdeal.Gen Cert.KernelIdeal.Value Cert.Gla
open scoped BigOperators

section
variable (c : Dev nD) (i : grid0.Coords)
  (arg1 : Memref sig .tc .vmem S2x64x512 .f32) (harg1 : arg1.IsWhole)
  (arg2 : Memref sig .tc .vmem S2x64x512 .f32) (harg2 : arg2.IsWhole)
  (arg3 : Memref sig .tc .vmem S2x64x1024 .f32) (harg3 : arg3.IsWhole)
  (arg4 : Memref sig .tc .vmem S2x64x1024 .f32) (harg4 : arg4.IsWhole)
  (arg5 : Memref sig .tc .vmem S2x64x128 .f32) (harg5 : arg5.IsWhole)
  (arg6 : Memref sig .tc .vmem S128x512 .f32) (harg6 : arg6.IsWhole)
  (arg7 : Memref sig .tc .vmem S1x512 .f32) (harg7 : arg7.IsWhole)
  (arg8 : Memref sig .tc .vmem S1x1024 .f32) (harg8 : arg8.IsWhole)
  (arg9 : Memref sig .tc .vmem S2x64x1024 .bf16) (harg9 : arg9.IsWhole)
  (arg10 : Memref sig .tc .vmem S8x256x128 .f32) (harg10 : arg10.IsWhole)
  (x0 x1 : Vec Ideal S2x64x512 .f32) (x2 x3 : Vec Ideal S2x64x1024 .f32) (x4 : Vec Ideal S2x64x128 .f32)
  (x5 : Vec Ideal S128x512 .f32) (x6 : Vec Ideal S1x512 .f32) (x7 : Vec Ideal S1x1024 .f32)

/-- The output block of a first point. -/
theorem out_A (hc0 : cond0_0 i) (bb : Fin 2) (hd : Fin 4) (r : Fin 64) (e : Fin 256) :
    out0_A_8 c i arg1 harg1 arg2 harg2 arg3 harg3 arg4 harg4 arg5 harg5 arg6 harg6 arg7 harg7 arg8 harg8 arg9 harg9 arg10 harg10 hc0 x0 x1 x2 x3 x4 x5 x6 x7 (ix3 bb r (valLane hd e))
      = blkOut x0 x1 x2 x3 x4 x5 x6 x7 bb hd (fun _ _ => 0) r e := by
  unfold out0_A_8
  rw [outPieces_A]
  refine (outList_apply _ _ _ bb hd r e).trans ((outOf_apply _ _ _ _ _ _ _ _ _ _ _ _ _ _ _ _ _ _ _ _ _ _ _ _ _ bb hd r e).trans ?_)
  exact congrArg (fun st => blkOut x0 x1 x2 x3 x4 x5 x6 x7 bb hd st r e) (funext fun e => funext fun d => stateA_apply _ bb hd e d)

/-- The state after a first point. -/
theorem state_A (hc0 : cond0_0 i) (bb : Fin 2) (hd : Fin 4) (e : Fin 256) (d : Fin 128) :
    sout0_A_0 c i arg1 harg1 arg2 harg2 arg3 harg3 arg4 harg4 arg5 harg5 arg6 harg6 arg7 harg7 arg8 harg8 arg9 harg9 arg10 harg10 hc0 x0 x1 x2 x3 x4 x5 x6 x7 (ix3 (plane bb hd) e d)
      = blkState x1 x2 x4 x5 x6 bb hd (fun _ _ => 0) e d := by
  unfold sout0_A_0
  rw [statePieces_A]
  refine (stateList_apply _ _ _ [zeroPiece] bb hd e d).trans ((stateOf_apply _ _ _ _ _ _ _ _ _ _ _ _ _ _ _ _ bb hd e d).trans ?_)
  exact congrArg (fun st => blkState x1 x2 x4 x5 x6 bb hd st e d) (funext fun e => funext fun d => stateA_apply _ bb hd e d)

/-- The output block of a later point. -/
theorem out_B (hc0 : ¬cond0_0 i) (xs0 : Vec Ideal S8x256x128 .f32) (bb : Fin 2) (hd : Fin 4) (r : Fin 64) (e : Fin 256) :
    out0_B_8 c i arg1 harg1 arg2 harg2 arg3 harg3 arg4 harg4 arg5 harg5 arg6 harg6 arg7 harg7 arg8 harg8 arg9 harg9 arg10 harg10 hc0 x0 x1 x2 x3 x4 x5 x6 x7 xs0 (ix3 bb r (valLane hd e))
      = blkOut x0 x1 x2 x3 x4 x5 x6 x7 bb hd (fun e d => xs0 (ix3 (plane bb hd) e d)) r e := by
  unfold out0_B_8
  rw [outPieces_B]
  refine (outList_apply _ _ _ bb hd r e).trans ((outOf_apply _ _ _ _ _ _ _ _ _ _ _ _ _ _ _ _ _ _ _ _ _ _ _ _ _ bb hd r e).trans ?_)
  exact congrArg (fun st => blkOut x0 x1 x2 x3 x4 x5 x6 x7 bb hd st r e) (funext fun e => funext fun d => stateB_apply _ _ _ bb hd e d)

/-- The state after a later point. -/
theorem state_B (hc0 : ¬cond0_0 i) (xs0 : Vec Ideal S8x256x128 .f32) (bb : Fin 2) (hd : Fin 4) (e : Fin 256) (d : Fin 128) :
    sout0_B_0 c i arg1 harg1 arg2 harg2 arg3 harg3 arg4 harg4 arg5 harg5 arg6 harg6 arg7 harg7 arg8 harg8 arg9 harg9 arg10 harg10 hc0 x0 x1 x2 x3 x4 x5 x6 x7 xs0 (ix3 (plane bb hd) e d)
      = blkState x1 x2 x4 x5 x6 bb hd (fun e d => xs0 (ix3 (plane bb hd) e d)) e d := by
  unfold sout0_B_0
  rw [statePieces_B, ← List.append_nil (stateList _)]
  refine (stateList_apply _ _ _ [] bb hd e d).trans ((stateOf_apply _ _ _ _ _ _ _ _ _ _ _ _ _ _ _ _ bb hd e d).trans ?_)
  exact congrArg (fun st => blkState x1 x2 x4 x5 x6 bb hd st e d) (funext fun e => funext fun d => stateB_apply _ _ _ bb hd e d)

end

section
variable (m : (l : Loc nD τ sig) → Buf (Elt Ideal) l) (c : Dev nD)

/-- What a point writes of one chain, of the state that it finds. -/
def ptOut (t : Fin cfg0.N) (bb : Fin 2) (hd : Fin 4) (st : Fin 256 → Fin 128 → EReal) (r : Fin 64) (e : Fin 256) : EReal :=
  blkOut (X0_0 m c t) (X0_1 m c t) (X0_2 m c t) (X0_3 m c t) (iblk m c 4 t) (iblk m c 5 t) (iblk m c 6 t) (iblk m c 7 t) bb hd st r e

/-- The state of one chain after a point, of the state that it finds. -/
def ptState (t : Fin cfg0.N) (bb : Fin 2) (hd : Fin 4) (st : Fin 256 → Fin 128 → EReal) (e : Fin 256) (d : Fin 128) : EReal :=
  blkState (X0_1 m c t) (X0_2 m c t) (iblk m c 4 t) (iblk m c 5 t) (iblk m c 6 t) bb hd st e d

theorem first_out (t : Fin cfg0.N) (acc : Vec Ideal S2x64x1024 .bf16 × Vec Ideal S8x256x128 .f32) (h0 : t.val % 64 = 0)
    (bb : Fin 2) (hd : Fin 4) (r : Fin 64) (e : Fin 256) :
    (stAt0 m c t.val t.isLt acc).1 (ix3 bb r (valLane hd e)) = ptOut m c t bb hd (fun _ _ => 0) r e := by
  rw [ptOut]
  rw [stAt0_A m c t acc h0]
  dsimp only
  have h := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (X0_0 m c t) (X0_1 m c t) (X0_2 m c t) (X0_3 m c t) (iblk m c 4 t) (iblk m c 5 t) (iblk m c 6 t) (iblk m c 7 t) ((hcond0_0 t).mpr h0) bb hd r e
  exact h

theorem first_state (t : Fin cfg0.N) (acc : Vec Ideal S2x64x1024 .bf16 × Vec Ideal S8x256x128 .f32) (h0 : t.val % 64 = 0)
    (bb : Fin 2) (hd : Fin 4) (e : Fin 256) (d : Fin 128) :
    (stAt0 m c t.val t.isLt acc).2 (ix3 (plane bb hd) e d) = ptState m c t bb hd (fun _ _ => 0) e d := by
  rw [ptState]
  rw [stAt0_A m c t acc h0]
  dsimp only
  have h := state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (X0_0 m c t) (X0_1 m c t) (X0_2 m c t) (X0_3 m c t) (iblk m c 4 t) (iblk m c 5 t) (iblk m c 6 t) (iblk m c 7 t) ((hcond0_0 t).mpr h0) bb hd e d
  exact h

theorem later_out (t : Fin cfg0.N) (acc : Vec Ideal S2x64x1024 .bf16 × Vec Ideal S8x256x128 .f32) (h0 : ¬t.val % 64 = 0)
    (bb : Fin 2) (hd : Fin 4) (r : Fin 64) (e : Fin 256) :
    (stAt0 m c t.val t.isLt acc).1 (ix3 bb r (valLane hd e))
      = ptOut m c t bb hd (fun e d => acc.2 (ix3 (plane bb hd) e d)) r e := by
  rw [ptOut]
  rw [stAt0_B m c t acc h0]
  dsimp only
  have h := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (X0_0 m c t) (X0_1 m c t) (X0_2 m c t) (X0_3 m c t) (iblk m c 4 t) (iblk m c 5 t) (iblk m c 6 t) (iblk m c 7 t) (fun h => h0 ((hcond0_0 t).mp h)) acc.2 bb hd r e
  exact h

theorem later_state (t : Fin cfg0.N) (acc : Vec Ideal S2x64x1024 .bf16 × Vec Ideal S8x256x128 .f32) (h0 : ¬t.val % 64 = 0)
    (bb : Fin 2) (hd : Fin 4) (e : Fin 256) (d : Fin 128) :
    (stAt0 m c t.val t.isLt acc).2 (ix3 (plane bb hd) e d)
      = ptState m c t bb hd (fun e d => acc.2 (ix3 (plane bb hd) e d)) e d := by
  rw [ptState]
  rw [stAt0_B m c t acc h0]
  dsimp only
  have h := state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (X0_0 m c t) (X0_1 m c t) (X0_2 m c t) (X0_3 m c t) (iblk m c 4 t) (iblk m c 5 t) (iblk m c 6 t) (iblk m c 7 t) (fun h => h0 ((hcond0_0 t).mp h)) acc.2 bb hd e d
  exact h

/-- The grid's points are 64. -/
theorem points : cfg0.N = 64 := by decide

/-- The state one chain finds at point `n`: nothing at the first, then what the point before makes of what it found. -/
def found (bb : Fin 2) (hd : Fin 4) : ℕ → Fin 256 → Fin 128 → EReal
  | 0 => fun _ _ => 0
  | n + 1 => fun e d => if h : n < cfg0.N then ptState m c ⟨n, h⟩ bb hd (found bb hd n) e d else 0

/-- After a point of the fold, the block and the state are those of the states the points find. -/
theorem fold_apply (bb : Fin 2) (hd : Fin 4) (n : ℕ) (hn : 0 + n < cfg0.N) (hn' : n < cfg0.N) :
    (∀ r e, (Pipeline.accAt (fun n h => stAt0 m c n h junk0) (stAt0 m c) 0 n hn).1 (ix3 bb r (valLane hd e))
        = ptOut m c ⟨n, hn'⟩ bb hd (found m c bb hd n) r e)
    ∧ ∀ e d, (Pipeline.accAt (fun n h => stAt0 m c n h junk0) (stAt0 m c) 0 n hn).2 (ix3 (plane bb hd) e d)
        = found m c bb hd (n + 1) e d := by
  induction n with
  | zero =>
    rw [Pipeline.accAt_zero]
    refine ⟨fun r e => first_out m c ⟨0, hn'⟩ _ (Nat.zero_mod _) bb hd r e, fun e d => ?_⟩
    refine (first_state m c ⟨0, hn'⟩ _ (Nat.zero_mod _) bb hd e d).trans ?_
    rw [found]
    beta_reduce
    rw [dif_pos hn']
    rfl
  | succ n ih =>
    have h0 : Pipeline.accAt (fun n h => stAt0 m c n h junk0) (stAt0 m c) 0 (n + 1) hn
        = stAt0 m c (n + 1) hn' (Pipeline.accAt (fun n h => stAt0 m c n h junk0) (stAt0 m c) 0 n (Nat.lt_of_succ_lt hn)) := by
      rw [Pipeline.accAt_succ]
      congr 1
      exact Nat.zero_add _
    have hs := (ih (Nat.lt_of_succ_lt hn) (Nat.lt_of_succ_lt hn')).2
    have hst : (fun e d => (Pipeline.accAt (fun n h => stAt0 m c n h junk0) (stAt0 m c) 0 n (Nat.lt_of_succ_lt hn)).2 (ix3 (plane bb hd) e d))
        = found m c bb hd (n + 1) := funext fun e => funext fun d => hs e d
    have hc : ¬ (⟨n + 1, hn'⟩ : Fin cfg0.N).val % 64 = 0 := by
      have := points ▸ hn'
      show ¬ (n + 1) % 64 = 0
      omega
    rw [h0]
    refine ⟨fun r e => ?_, fun e d => ?_⟩
    · refine (later_out m c ⟨n + 1, hn'⟩ _ hc bb hd r e).trans ?_
      rw [hst]
    · refine (later_state m c ⟨n + 1, hn'⟩ _ hc bb hd e d).trans ?_
      rw [hst]
      rw [found.eq_2 m c bb hd (n + 1)]
      beta_reduce
      rw [dif_pos hn']

end

end Cert.KernelIdeal.Gla

end
-- ==== Proof.Args.lean ====
/-
  The arguments, lane by lane.
-/
module

public import proofs.«01_k».proof.Proof.Spec
public import Idealize.ShloMosaic.Lib.Pointwise

@[expose] public section

set_option maxRecDepth 16384
noncomputable section

namespace Cert.Gla

open Idealize.ShloMosaic
open scoped BigOperators

section
variable (P : Vec Ideal ⟨3, ![2, 4096, 5392]⟩ .f32) (U : Vec Ideal ⟨2, ![16, 384]⟩ .f32) (A : Vec Ideal ⟨1, ![384]⟩ .f32)
  (N : Vec Ideal ⟨1, ![768]⟩ .f32)

/-- Query lane `d` of head `hd`. -/
def qAt (b : Fin 2) (t : Fin 4096) (hd : Fin 4) (d : Fin 96) : EReal := P (ix3 b t ⟨512 + (hd.val * 96 + d.val), by omega⟩)
/-- Key lane `d` of head `hd`. -/
def kAt (b : Fin 2) (t : Fin 4096) (hd : Fin 4) (d : Fin 96) : EReal := P (ix3 b t ⟨896 + (hd.val * 96 + d.val), by omega⟩)
/-- Value lane `e` of head `hd`. -/
def vAt (b : Fin 2) (t : Fin 4096) (hd : Fin 4) (e : Fin 192) : EReal := P (ix3 b t ⟨1280 + (hd.val * 192 + e.val), by omega⟩)
/-- Output gate lane `e` of head `hd`. -/
def gAt (b : Fin 2) (t : Fin 4096) (hd : Fin 4) (e : Fin 192) : EReal := P (ix3 b t ⟨2048 + (hd.val * 192 + e.val), by omega⟩)
/-- Low-rank gate lane `x`. -/
def lowAt (b : Fin 2) (t : Fin 4096) (x : Fin 16) : EReal := P (ix3 b t ⟨2816 + x.val, by omega⟩)
/-- The up projection's column for lane `d` of head `hd`. -/
def upAt (x : Fin 16) (hd : Fin 4) (d : Fin 96) : EReal := U (ix2 x ⟨hd.val * 96 + d.val, by omega⟩)
/-- The gate's bias at lane `d` of head `hd`. -/
def biasAt (hd : Fin 4) (d : Fin 96) : EReal := A (ix1 ⟨hd.val * 96 + d.val, by omega⟩)
/-- The norm's weight at lane `e` of head `hd`. -/
def normAt (hd : Fin 4) (e : Fin 192) : EReal := N (ix1 ⟨hd.val * 192 + e.val, by omega⟩)

/-! ### The layer's mathematics, of the arguments -/

/-- Row `i` of chunk `n`. -/
def rowN (n : ℕ) (i : Fin 64) : Fin 4096 := ⟨(64 * n + i.val) % 4096, Nat.mod_lt _ (by decide)⟩

/-- The running sums of a chunk's log decays. -/
def decays (b : Fin 2) (hd : Fin 4) (n : ℕ) : Fin 64 → Fin 96 → EReal :=
  cum fun i d => logDecay (∑ x : Fin 16, lowAt P b (rowN n i) x * upAt U x hd d + biasAt A hd d)

/-- The state that chunk `n` finds. -/
def memory (b : Fin 2) (hd : Fin 4) : ℕ → Fin 192 → Fin 96 → EReal
  | 0 => fun _ _ => 0
  | n + 1 => fun e d => next (fun i => kAt P b (rowN n i) hd d) (fun i => decays P U A b hd n i d) (fun i => vAt P b (rowN n i) hd e)
      (memory b hd n e d)

/-- The rows before they are normalised. -/
def attended (b : Fin 2) (hd : Fin 4) (n : ℕ) (i : Fin 64) (e : Fin 192) : EReal :=
  mix (fun i d => qAt P b (rowN n i) hd d * Ideal.ofBits .f32 0x3DD105EC#32) (fun i d => kAt P b (rowN n i) hd d) (decays P U A b hd n)
    (fun j => vAt P b (rowN n j) hd e) (memory P U A b hd n e) i

/-- The rows, normalised over the head's lanes, weighted and gated. -/
def layerOut (b : Fin 2) (hd : Fin 4) (n : ℕ) (i : Fin 64) (e : Fin 192) : EReal :=
  attended P U A b hd n i e
    * Ideal.rsqrt ((∑ x, attended P U A b hd n i x * attended P U A b hd n i x) * ((192⁻¹ : ℝ) : EReal) + Ideal.ofBits .f32 0x358637BD#32)
    * normAt N hd e
    * (gAt P b (rowN n i) hd e * Ideal.div 1 (1 + Ideal.exp (0 - gAt P b (rowN n i) hd e)))

end

/-- A family of `n` entries continued by zeros. -/
def padded {n N : ℕ} (f : Fin n → EReal) (x : Fin N) : EReal := if h : x.val < n then f ⟨x.val, h⟩ else 0

theorem padded_lt {n N : ℕ} (f : Fin n → EReal) (x : Fin N) (h : x.val < n) : padded f x = f ⟨x.val, h⟩ := dif_pos h

theorem padded_ge {n N : ℕ} (f : Fin n → EReal) (x : Fin N) (h : n ≤ x.val) : padded f x = 0 := dif_neg (by omega)

theorem padded_castLE {n N : ℕ} (f : Fin n → EReal) (h : n ≤ N) (x : Fin n) : padded f (x.castLE h) = f x := padded_lt f _ x.isLt

theorem next_no_key (b v : Fin 64 → EReal) : next (fun _ => 0) b v 0 = 0 := by
  unfold next
  simp

theorem next_no_value (k b : Fin 64 → EReal) : next k b (fun _ => 0) 0 = 0 := by
  unfold next
  simp

end Cert.Gla

end
-- ==== Proof.HostRead.lean ====
/-
  The arrays that the call is given, entry by entry, of the program's arguments: the projected activations laid out head by
  head with padding lanes, the gate's up projection and bias and the norm's weights padded likewise.
-/
module

public import proofs.«01_k».proof.Proof.Point
public import proofs.«01_k».proof.Proof.Args
public import Idealize.ShloMosaic.Lib.StableHlo.ReadAt

@[expose] public section

set_option maxRecDepth 16384
noncomputable section

namespace Cert.KernelIdeal.Gla

open Idealize.ShloMosaic Idealize.ShloMosaic.TcCoe Cert.KernelIdeal Cert.KernelIdeal.Gen Cert.KernelIdeal.Value Cert.Gla
open scoped BigOperators

variable (m : (l : Loc nD τ sig) → Buf (Elt Ideal) l) (c : Dev nD)

theorem zero_word : FloatOps.sitofp (F := Ideal) FTy.f32 0#32 = (0 : EReal) := by
  show (((0#32 : BitVec 32).toInt : ℝ) : EReal) = 0
  simp

/-! ### The arrays that the call is given -/

/-- The buffers after the operations before the concatenation. -/
def pre (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) 30 b

theorem pre_q (b : Fin 2) (t : Fin 4096) (l : Fin 512) :
    pre m c main_v4 (ix3 b t l)
      = if h : l.val / 128 < 4 ∧ l.val % 128 < 96 then m (c, Proc.tc.devRef main_arg0) (ix3 b t ⟨512 + (l.val / 128 * 96 + l.val % 128), by omega⟩)
        else FloatOps.sitofp (F := Ideal) FTy.f32 0#32 := by
  unfold pre
  after_reads_at

theorem pre_q_lane (b : Fin 2) (t : Fin 4096) (hd : Fin 4) (d : Fin 128) :
    pre m c main_v4 (ix3 b t (keyLane hd d)) = padded (n := 96) (qAt (m (c, Proc.tc.devRef main_arg0)) b t hd) d := by
  have h := hd.isLt
  have h' := d.isLt
  have hq : (keyLane hd d).val / 128 = hd.val := by show (128 * hd.val + d.val) / 128 = hd.val; omega
  have hr : (keyLane hd d).val % 128 = d.val := by show (128 * hd.val + d.val) % 128 = d.val; omega
  refine (pre_q m c b t (keyLane hd d)).trans ?_
  unfold padded
  by_cases hd' : d.val < 96
  · rw [dif_pos ⟨by omega, by omega⟩, dif_pos hd']
    refine congrArg (m (c, Proc.tc.devRef main_arg0)) (funext fun a => Fin.ext ?_)
    match a with
    | ⟨0, _⟩ => rfl
    | ⟨1, _⟩ => rfl
    | ⟨2, _⟩ => show 512 + ((keyLane hd d).val / 128 * 96 + (keyLane hd d).val % 128) = 512 + (hd.val * 96 + d.val); rw [hq, hr]
  · rw [dif_neg (by rw [hr]; exact fun q => hd' q.2), dif_neg hd', zero_word]

theorem pre_k (b : Fin 2) (t : Fin 4096) (l : Fin 512) :
    pre m c main_v8 (ix3 b t l)
      = if h : l.val / 128 < 4 ∧ l.val % 128 < 96 then m (c, Proc.tc.devRef main_arg0) (ix3 b t ⟨896 + (l.val / 128 * 96 + l.val % 128), by omega⟩)
        else FloatOps.sitofp (F := Ideal) FTy.f32 0#32 := by
  unfold pre
  after_reads_at

theorem pre_k_lane (b : Fin 2) (t : Fin 4096) (hd : Fin 4) (d : Fin 128) :
    pre m c main_v8 (ix3 b t (keyLane hd d)) = padded (n := 96) (kAt (m (c, Proc.tc.devRef main_arg0)) b t hd) d := by
  have h := hd.isLt
  have h' := d.isLt
  have hq : (keyLane hd d).val / 128 = hd.val := by show (128 * hd.val + d.val) / 128 = hd.val; omega
  have hr : (keyLane hd d).val % 128 = d.val := by show (128 * hd.val + d.val) % 128 = d.val; omega
  refine (pre_k m c b t (keyLane hd d)).trans ?_
  unfold padded
  by_cases hd' : d.val < 96
  · rw [dif_pos ⟨by omega, by omega⟩, dif_pos hd']
    refine congrArg (m (c, Proc.tc.devRef main_arg0)) (funext fun a => Fin.ext ?_)
    match a with
    | ⟨0, _⟩ => rfl
    | ⟨1, _⟩ => rfl
    | ⟨2, _⟩ => show 896 + ((keyLane hd d).val / 128 * 96 + (keyLane hd d).val % 128) = 896 + (hd.val * 96 + d.val); rw [hq, hr]
  · rw [dif_neg (by rw [hr]; exact fun q => hd' q.2), dif_neg hd', zero_word]

theorem pre_v (b : Fin 2) (t : Fin 4096) (l : Fin 1024) :
    pre m c main_v12 (ix3 b t l)
      = if h : l.val / 256 < 4 ∧ l.val % 256 < 192 then m (c, Proc.tc.devRef main_arg0) (ix3 b t ⟨1280 + (l.val / 256 * 192 + l.val % 256), by omega⟩)
        else FloatOps.sitofp (F := Ideal) FTy.f32 0#32 := by
  unfold pre
  after_reads_at

theorem pre_v_lane (b : Fin 2) (t : Fin 4096) (hd : Fin 4) (d : Fin 256) :
    pre m c main_v12 (ix3 b t (valLane hd d)) = padded (n := 192) (vAt (m (c, Proc.tc.devRef main_arg0)) b t hd) d := by
  have h := hd.isLt
  have h' := d.isLt
  have hq : (valLane hd d).val / 256 = hd.val := by show (256 * hd.val + d.val) / 256 = hd.val; omega
  have hr : (valLane hd d).val % 256 = d.val := by show (256 * hd.val + d.val) % 256 = d.val; omega
  refine (pre_v m c b t (valLane hd d)).trans ?_
  unfold padded
  by_cases hd' : d.val < 192
  · rw [dif_pos ⟨by omega, by omega⟩, dif_pos hd']
    refine congrArg (m (c, Proc.tc.devRef main_arg0)) (funext fun a => Fin.ext ?_)
    match a with
    | ⟨0, _⟩ => rfl
    | ⟨1, _⟩ => rfl
    | ⟨2, _⟩ => show 1280 + ((valLane hd d).val / 256 * 192 + (valLane hd d).val % 256) = 1280 + (hd.val * 192 + d.val); rw [hq, hr]
  · rw [dif_neg (by rw [hr]; exact fun q => hd' q.2), dif_neg hd', zero_word]

theorem pre_g (b : Fin 2) (t : Fin 4096) (l : Fin 1024) :
    pre m c main_v16 (ix3 b t l)
      = if h : l.val / 256 < 4 ∧ l.val % 256 < 192 then m (c, Proc.tc.devRef main_arg0) (ix3 b t ⟨2048 + (l.val / 256 * 192 + l.val % 256), by omega⟩)
        else FloatOps.sitofp (F := Ideal) FTy.f32 0#32 := by
  unfold pre
  after_reads_at

theorem pre_g_lane (b : Fin 2) (t : Fin 4096) (hd : Fin 4) (d : Fin 256) :
    pre m c main_v16 (ix3 b t (valLane hd d)) = padded (n := 192) (gAt (m (c, Proc.tc.devRef main_arg0)) b t hd) d := by
  have h := hd.isLt
  have h' := d.isLt
  have hq : (valLane hd d).val / 256 = hd.val := by show (256 * hd.val + d.val) / 256 = hd.val; omega
  have hr : (valLane hd d).val % 256 = d.val := by show (256 * hd.val + d.val) % 256 = d.val; omega
  refine (pre_g m c b t (valLane hd d)).trans ?_
  unfold padded
  by_cases hd' : d.val < 192
  · rw [dif_pos ⟨by omega, by omega⟩, dif_pos hd']
    refine congrArg (m (c, Proc.tc.devRef main_arg0)) (funext fun a => Fin.ext ?_)
    match a with
    | ⟨0, _⟩ => rfl
    | ⟨1, _⟩ => rfl
    | ⟨2, _⟩ => show 2048 + ((valLane hd d).val / 256 * 192 + (valLane hd d).val % 256) = 2048 + (hd.val * 192 + d.val); rw [hq, hr]
  · rw [dif_neg (by rw [hr]; exact fun q => hd' q.2), dif_neg hd', zero_word]

theorem pre_low (b : Fin 2) (t : Fin 4096) (x : Fin 128) :
    pre m c main_v18 (ix3 b t x)
      = if h : x.val < 16 then m (c, Proc.tc.devRef main_arg0) (ix3 b t ⟨2816 + x.val, by omega⟩) else FloatOps.sitofp (F := Ideal) FTy.f32 0#32 := by
  unfold pre
  after_reads_at

theorem pre_low_lane (b : Fin 2) (t : Fin 4096) (x : Fin 128) :
    pre m c main_v18 (ix3 b t x) = padded (n := 16) (lowAt (m (c, Proc.tc.devRef main_arg0)) b t) x := by
  refine (pre_low m c b t x).trans ?_
  unfold padded
  by_cases h : x.val < 16
  · rw [dif_pos h, dif_pos h]; rfl
  · rw [dif_neg h, dif_neg h, zero_word]

theorem laid_q (b : Fin 2) (t : Fin 4096) (l : Fin 512) (z : Fin 6272) (hz : z.val = 3072 + l.val) :
    V m c main_v34 (ix3 b t z) = pre m c main_v4 (ix3 b t l) := by
  have h := l.isLt
  have hb := b.isLt
  have ht := t.isLt
  unfold V
  after_reads_at
  rw [dif_neg (by omega), dif_neg (by omega), dif_pos (by omega)]
  refine congrArg (pre m c main_v4) (funext fun a => Fin.ext ?_)
  match a with
  | ⟨0, _⟩ => show (b.val * 4096 + t.val) / 4096 = b.val; omega
  | ⟨1, _⟩ => show (b.val * 4096 + t.val) % 4096 = t.val; omega
  | ⟨2, _⟩ => show z.val - 2560 - 512 = l.val; omega

theorem laid_k (b : Fin 2) (t : Fin 4096) (l : Fin 512) (z : Fin 6272) (hz : z.val = 3584 + l.val) :
    V m c main_v34 (ix3 b t z) = pre m c main_v8 (ix3 b t l) := by
  have h := l.isLt
  have hb := b.isLt
  have ht := t.isLt
  unfold V
  after_reads_at
  rw [dif_neg (by omega), dif_neg (by omega), dif_neg (by omega), dif_pos (by omega)]
  refine congrArg (pre m c main_v8) (funext fun a => Fin.ext ?_)
  match a with
  | ⟨0, _⟩ => show (b.val * 4096 + t.val) / 4096 = b.val; omega
  | ⟨1, _⟩ => show (b.val * 4096 + t.val) % 4096 = t.val; omega
  | ⟨2, _⟩ => show z.val - 2560 - 512 - 512 = l.val; omega

theorem laid_v (b : Fin 2) (t : Fin 4096) (l : Fin 1024) (z : Fin 6272) (hz : z.val = 4096 + l.val) :
    V m c main_v34 (ix3 b t z) = pre m c main_v12 (ix3 b t l) := by
  have h := l.isLt
  have hb := b.isLt
  have ht := t.isLt
  unfold V
  after_reads_at
  rw [dif_neg (by omega), dif_neg (by omega), dif_neg (by omega), dif_neg (by omega), dif_pos (by omega)]
  refine congrArg (pre m c main_v12) (funext fun a => Fin.ext ?_)
  match a with
  | ⟨0, _⟩ => show (b.val * 4096 + t.val) / 4096 = b.val; omega
  | ⟨1, _⟩ => show (b.val * 4096 + t.val) % 4096 = t.val; omega
  | ⟨2, _⟩ => show z.val - 2560 - 512 - 512 - 512 = l.val; omega

theorem laid_g (b : Fin 2) (t : Fin 4096) (l : Fin 1024) (z : Fin 6272) (hz : z.val = 5120 + l.val) :
    V m c main_v34 (ix3 b t z) = pre m c main_v16 (ix3 b t l) := by
  have h := l.isLt
  have hb := b.isLt
  have ht := t.isLt
  unfold V
  after_reads_at
  rw [dif_neg (by omega), dif_neg (by omega), dif_neg (by omega), dif_neg (by omega), dif_neg (by omega), dif_pos (by omega)]
  refine congrArg (pre m c main_v16) (funext fun a => Fin.ext ?_)
  match a with
  | ⟨0, _⟩ => show (b.val * 4096 + t.val) / 4096 = b.val; omega
  | ⟨1, _⟩ => show (b.val * 4096 + t.val) % 4096 = t.val; omega
  | ⟨2, _⟩ => show z.val - 2560 - 512 - 512 - 512 - 1024 = l.val; omega

theorem laid_low (b : Fin 2) (t : Fin 4096) (l : Fin 128) (z : Fin 6272) (hz : z.val = 6144 + l.val) :
    V m c main_v34 (ix3 b t z) = pre m c main_v18 (ix3 b t l) := by
  have h := l.isLt
  have hb := b.isLt
  have ht := t.isLt
  unfold V
  after_reads_at
  rw [dif_neg (by omega), dif_neg (by omega), dif_neg (by omega), dif_neg (by omega), dif_neg (by omega), dif_neg (by omega)]
  refine congrArg (pre m c main_v18) (funext fun a => Fin.ext ?_)
  match a with
  | ⟨0, _⟩ => show (b.val * 4096 + t.val) / 4096 = b.val; omega
  | ⟨1, _⟩ => show (b.val * 4096 + t.val) % 4096 = t.val; omega
  | ⟨2, _⟩ => show z.val - 2560 - 512 - 512 - 512 - 1024 - 1024 = l.val; omega

theorem up_read (x : Fin 128) (l : Fin 512) :
    V m c main_v25 (ix2 x l)
      = if h : x.val < 16 then
          if h' : l.val / 128 < 4 ∧ l.val % 128 < 96 then m (c, Proc.tc.devRef main_arg1) (ix2 ⟨x.val, h⟩ ⟨l.val / 128 * 96 + l.val % 128, by omega⟩)
          else FloatOps.sitofp (F := Ideal) FTy.f32 0#32
        else FloatOps.sitofp (F := Ideal) FTy.f32 0#32 := by
  unfold V
  after_reads_at

theorem up_lane (x : Fin 128) (hd : Fin 4) (d : Fin 128) :
    V m c main_v25 (ix2 x (keyLane hd d))
      = padded (n := 16) (fun y => padded (n := 96) (upAt (m (c, Proc.tc.devRef main_arg1)) y hd) d) x := by
  have h := hd.isLt
  have h' := d.isLt
  have hq : (keyLane hd d).val / 128 = hd.val := by show (128 * hd.val + d.val) / 128 = hd.val; omega
  have hr : (keyLane hd d).val % 128 = d.val := by show (128 * hd.val + d.val) % 128 = d.val; omega
  refine (up_read m c x (keyLane hd d)).trans ?_
  unfold padded
  by_cases hx : x.val < 16
  · rw [dif_pos hx, dif_pos hx]
    by_cases hd' : d.val < 96
    · beta_reduce
      rw [dif_pos ⟨by omega, by omega⟩, dif_pos hd']
      refine congrArg (m (c, Proc.tc.devRef main_arg1)) (funext fun a => Fin.ext ?_)
      match a with
      | ⟨0, _⟩ => rfl
      | ⟨1, _⟩ => show (keyLane hd d).val / 128 * 96 + (keyLane hd d).val % 128 = hd.val * 96 + d.val; rw [hq, hr]
    · beta_reduce
      rw [dif_neg (by rw [hr]; exact fun q => hd' q.2), dif_neg hd', zero_word]
  · rw [dif_neg hx, dif_neg hx, zero_word]

theorem bias_read (l : Fin 512) :
    V m c main_v29 (ix2 0 l)
      = if h : l.val / 128 < 4 ∧ l.val % 128 < 96 then m (c, Proc.tc.devRef main_arg2) (ix1 ⟨l.val / 128 * 96 + l.val % 128, by omega⟩)
        else FloatOps.sitofp (F := Ideal) FTy.f32 0#32 := by
  unfold V
  after_reads_at

theorem bias_lane (hd : Fin 4) (d : Fin 128) :
    V m c main_v29 (ix2 0 (keyLane hd d)) = padded (n := 96) (biasAt (m (c, Proc.tc.devRef main_arg2)) hd) d := by
  have h := hd.isLt
  have h' := d.isLt
  have hq : (keyLane hd d).val / 128 = hd.val := by show (128 * hd.val + d.val) / 128 = hd.val; omega
  have hr : (keyLane hd d).val % 128 = d.val := by show (128 * hd.val + d.val) % 128 = d.val; omega
  refine (bias_read m c (keyLane hd d)).trans ?_
  unfold padded
  by_cases hd' : d.val < 96
  · rw [dif_pos ⟨by omega, by omega⟩, dif_pos hd']
    refine congrArg (m (c, Proc.tc.devRef main_arg2)) (funext fun a => Fin.ext ?_)
    match a with
    | ⟨0, _⟩ => show (keyLane hd d).val / 128 * 96 + (keyLane hd d).val % 128 = hd.val * 96 + d.val; rw [hq, hr]
  · rw [dif_neg (by rw [hr]; exact fun q => hd' q.2), dif_neg hd', zero_word]

theorem norm_read (l : Fin 1024) :
    V m c main_v33 (ix2 0 l)
      = if h : l.val / 256 < 4 ∧ l.val % 256 < 192 then m (c, Proc.tc.devRef main_arg3) (ix1 ⟨l.val / 256 * 192 + l.val % 256, by omega⟩)
        else FloatOps.sitofp (F := Ideal) FTy.f32 0#32 := by
  unfold V
  after_reads_at

theorem norm_lane (hd : Fin 4) (d : Fin 256) :
    V m c main_v33 (ix2 0 (valLane hd d)) = padded (n := 192) (normAt (m (c, Proc.tc.devRef main_arg3)) hd) d := by
  have h := hd.isLt
  have h' := d.isLt
  have hq : (valLane hd d).val / 256 = hd.val := by show (256 * hd.val + d.val) / 256 = hd.val; omega
  have hr : (valLane hd d).val % 256 = d.val := by show (256 * hd.val + d.val) % 256 = d.val; omega
  refine (norm_read m c (valLane hd d)).trans ?_
  unfold padded
  by_cases hd' : d.val < 192
  · rw [dif_pos ⟨by omega, by omega⟩, dif_pos hd']
    refine congrArg (m (c, Proc.tc.devRef main_arg3)) (funext fun a => Fin.ext ?_)
    match a with
    | ⟨0, _⟩ => show (valLane hd d).val / 256 * 192 + (valLane hd d).val % 256 = hd.val * 192 + d.val; rw [hq, hr]
  · rw [dif_neg (by rw [hr]; exact fun q => hd' q.2), dif_neg hd', zero_word]

end Cert.KernelIdeal.Gla

end
-- ==== Proof.Windows.lean ====
/-
  What the windows hold at each grid point, entry by entry, of the program's arguments.
-/
module

public import proofs.«01_k».proof.Proof.HostRead

@[expose] public section

set_option maxRecDepth 16384
noncomputable section

namespace Cert.KernelIdeal.Gla

open Idealize.ShloMosaic Idealize.ShloMosaic.TcCoe Cert.KernelIdeal Cert.KernelIdeal.Gen Cert.KernelIdeal.Value Cert.Gla
open scoped BigOperators

variable (m : (l : Loc nD τ sig) → Buf (Elt Ideal) l) (c : Dev nD)

/-- Row `i` of the chunk of point `t`. -/
def rowAt (t : Fin cfg0.N) (i : Fin 64) : Fin 4096 := ⟨64 * t.val + i.val, by have h := Nat.lt_of_lt_of_eq t.isLt points; omega⟩

theorem place0 : ∀ t : Fin cfg0.N, win0_0.index t (0 : Fin 3) = 0 ∧ win0_0.index t (1 : Fin 3) = t.val ∧ win0_0.index t (2 : Fin 3) = 6 :=
  (by decide +kernel : ∀ t : Fin grid0.N, _)

theorem blk0 (f : Buf (Elt Ideal) ((c : Thread nD τ).loc main_v34)) (t : Fin cfg0.N) (y : ((cfg0.win 0).xblock (cfg0.grid.coords t)).Idx)
    (b : Fin 2) (i : Fin 64) (l : Fin 512) (y0 : (y (0 : Fin 3)).val = b.val) (y1 : (y (1 : Fin 3)).val = i.val) (y2 : (y (2 : Fin 3)).val = l.val) :
    ((cfg0.win 0).blk t).view.read (Elt Ideal) f y = f (ix3 b (rowAt t i) ⟨3072 + l.val, by omega⟩) := by
  obtain ⟨h0, h1, h2⟩ := place0 t
  show f (((cfg0.win 0).blk t).view.emb y) = _
  refine congrArg f (funext fun a => Fin.ext ?_)
  match a with
  | ⟨0, _⟩ => show win0_0.index t (0 : Fin 3) * 2 + 1 * (y (0 : Fin 3)).val = b.val; omega
  | ⟨1, _⟩ => show win0_0.index t (1 : Fin 3) * 64 + 1 * (y (1 : Fin 3)).val = 64 * t.val + i.val; omega
  | ⟨2, _⟩ => show win0_0.index t (2 : Fin 3) * 512 + 1 * (y (2 : Fin 3)).val = 3072 + l.val; omega

theorem win_q (t : Fin cfg0.N) (b : Fin 2) (i : Fin 64) (hd : Fin 4) (d : Fin 128) :
    X0_0 m c t (ix3 b i (keyLane hd d)) = padded (n := 96) (qAt (m (c, Proc.tc.devRef main_arg0)) b (rowAt t i) hd) d := by
  unfold X0_0 Pipeline.Window.fill
  rw [dif_pos (moved0_0 t _)]
  unfold iblk
  refine (blk0 c (V m c main_v34) t _ b i (keyLane hd d) rfl rfl rfl).trans ?_
  exact (laid_q m c b (rowAt t i) (keyLane hd d) _ rfl).trans (pre_q_lane m c b (rowAt t i) hd d)

theorem place1 : ∀ t : Fin cfg0.N, win0_1.index t (0 : Fin 3) = 0 ∧ win0_1.index t (1 : Fin 3) = t.val ∧ win0_1.index t (2 : Fin 3) = 7 :=
  (by decide +kernel : ∀ t : Fin grid0.N, _)

theorem blk1 (f : Buf (Elt Ideal) ((c : Thread nD τ).loc main_v34)) (t : Fin cfg0.N) (y : ((cfg0.win 1).xblock (cfg0.grid.coords t)).Idx)
    (b : Fin 2) (i : Fin 64) (l : Fin 512) (y0 : (y (0 : Fin 3)).val = b.val) (y1 : (y (1 : Fin 3)).val = i.val) (y2 : (y (2 : Fin 3)).val = l.val) :
    ((cfg0.win 1).blk t).view.read (Elt Ideal) f y = f (ix3 b (rowAt t i) ⟨3584 + l.val, by omega⟩) := by
  obtain ⟨h0, h1, h2⟩ := place1 t
  show f (((cfg0.win 1).blk t).view.emb y) = _
  refine congrArg f (funext fun a => Fin.ext ?_)
  match a with
  | ⟨0, _⟩ => show win0_1.index t (0 : Fin 3) * 2 + 1 * (y (0 : Fin 3)).val = b.val; omega
  | ⟨1, _⟩ => show win0_1.index t (1 : Fin 3) * 64 + 1 * (y (1 : Fin 3)).val = 64 * t.val + i.val; omega
  | ⟨2, _⟩ => show win0_1.index t (2 : Fin 3) * 512 + 1 * (y (2 : Fin 3)).val = 3584 + l.val; omega

theorem win_k (t : Fin cfg0.N) (b : Fin 2) (i : Fin 64) (hd : Fin 4) (d : Fin 128) :
    X0_1 m c t (ix3 b i (keyLane hd d)) = padded (n := 96) (kAt (m (c, Proc.tc.devRef main_arg0)) b (rowAt t i) hd) d := by
  unfold X0_1 Pipeline.Window.fill
  rw [dif_pos (moved0_1 t _)]
  unfold iblk
  refine (blk1 c (V m c main_v34) t _ b i (keyLane hd d) rfl rfl rfl).trans ?_
  exact (laid_k m c b (rowAt t i) (keyLane hd d) _ rfl).trans (pre_k_lane m c b (rowAt t i) hd d)

theorem place2 : ∀ t : Fin cfg0.N, win0_2.index t (0 : Fin 3) = 0 ∧ win0_2.index t (1 : Fin 3) = t.val ∧ win0_2.index t (2 : Fin 3) = 4 :=
  (by decide +kernel : ∀ t : Fin grid0.N, _)

theorem blk2 (f : Buf (Elt Ideal) ((c : Thread nD τ).loc main_v34)) (t : Fin cfg0.N) (y : ((cfg0.win 2).xblock (cfg0.grid.coords t)).Idx)
    (b : Fin 2) (i : Fin 64) (l : Fin 1024) (y0 : (y (0 : Fin 3)).val = b.val) (y1 : (y (1 : Fin 3)).val = i.val) (y2 : (y (2 : Fin 3)).val = l.val) :
    ((cfg0.win 2).blk t).view.read (Elt Ideal) f y = f (ix3 b (rowAt t i) ⟨4096 + l.val, by omega⟩) := by
  obtain ⟨h0, h1, h2⟩ := place2 t
  show f (((cfg0.win 2).blk t).view.emb y) = _
  refine congrArg f (funext fun a => Fin.ext ?_)
  match a with
  | ⟨0, _⟩ => show win0_2.index t (0 : Fin 3) * 2 + 1 * (y (0 : Fin 3)).val = b.val; omega
  | ⟨1, _⟩ => show win0_2.index t (1 : Fin 3) * 64 + 1 * (y (1 : Fin 3)).val = 64 * t.val + i.val; omega
  | ⟨2, _⟩ => show win0_2.index t (2 : Fin 3) * 1024 + 1 * (y (2 : Fin 3)).val = 4096 + l.val; omega

theorem win_v (t : Fin cfg0.N) (b : Fin 2) (i : Fin 64) (hd : Fin 4) (d : Fin 256) :
    X0_2 m c t (ix3 b i (valLane hd d)) = padded (n := 192) (vAt (m (c, Proc.tc.devRef main_arg0)) b (rowAt t i) hd) d := by
  unfold X0_2 Pipeline.Window.fill
  rw [dif_pos (moved0_2 t _)]
  unfold iblk
  refine (blk2 c (V m c main_v34) t _ b i (valLane hd d) rfl rfl rfl).trans ?_
  exact (laid_v m c b (rowAt t i) (valLane hd d) _ rfl).trans (pre_v_lane m c b (rowAt t i) hd d)

theorem place3 : ∀ t : Fin cfg0.N, win0_3.index t (0 : Fin 3) = 0 ∧ win0_3.index t (1 : Fin 3) = t.val ∧ win0_3.index t (2 : Fin 3) = 5 :=
  (by decide +kernel : ∀ t : Fin grid0.N, _)

theorem blk3 (f : Buf (Elt Ideal) ((c : Thread nD τ).loc main_v34)) (t : Fin cfg0.N) (y : ((cfg0.win 3).xblock (cfg0.grid.coords t)).Idx)
    (b : Fin 2) (i : Fin 64) (l : Fin 1024) (y0 : (y (0 : Fin 3)).val = b.val) (y1 : (y (1 : Fin 3)).val = i.val) (y2 : (y (2 : Fin 3)).val = l.val) :
    ((cfg0.win 3).blk t).view.read (Elt Ideal) f y = f (ix3 b (rowAt t i) ⟨5120 + l.val, by omega⟩) := by
  obtain ⟨h0, h1, h2⟩ := place3 t
  show f (((cfg0.win 3).blk t).view.emb y) = _
  refine congrArg f (funext fun a => Fin.ext ?_)
  match a with
  | ⟨0, _⟩ => show win0_3.index t (0 : Fin 3) * 2 + 1 * (y (0 : Fin 3)).val = b.val; omega
  | ⟨1, _⟩ => show win0_3.index t (1 : Fin 3) * 64 + 1 * (y (1 : Fin 3)).val = 64 * t.val + i.val; omega
  | ⟨2, _⟩ => show win0_3.index t (2 : Fin 3) * 1024 + 1 * (y (2 : Fin 3)).val = 5120 + l.val; omega

theorem win_g (t : Fin cfg0.N) (b : Fin 2) (i : Fin 64) (hd : Fin 4) (d : Fin 256) :
    X0_3 m c t (ix3 b i (valLane hd d)) = padded (n := 192) (gAt (m (c, Proc.tc.devRef main_arg0)) b (rowAt t i) hd) d := by
  unfold X0_3 Pipeline.Window.fill
  rw [dif_pos (moved0_3 t _)]
  unfold iblk
  refine (blk3 c (V m c main_v34) t _ b i (valLane hd d) rfl rfl rfl).trans ?_
  exact (laid_g m c b (rowAt t i) (valLane hd d) _ rfl).trans (pre_g_lane m c b (rowAt t i) hd d)

theorem place4 : ∀ t : Fin cfg0.N, win0_4.index t (0 : Fin 3) = 0 ∧ win0_4.index t (1 : Fin 3) = t.val ∧ win0_4.index t (2 : Fin 3) = 48 :=
  (by decide +kernel : ∀ t : Fin grid0.N, _)

theorem blk4 (f : Buf (Elt Ideal) ((c : Thread nD τ).loc main_v34)) (t : Fin cfg0.N) (y : ((cfg0.win 4).xblock (cfg0.grid.coords t)).Idx)
    (b : Fin 2) (i : Fin 64) (l : Fin 128) (y0 : (y (0 : Fin 3)).val = b.val) (y1 : (y (1 : Fin 3)).val = i.val) (y2 : (y (2 : Fin 3)).val = l.val) :
    ((cfg0.win 4).blk t).view.read (Elt Ideal) f y = f (ix3 b (rowAt t i) ⟨6144 + l.val, by omega⟩) := by
  obtain ⟨h0, h1, h2⟩ := place4 t
  show f (((cfg0.win 4).blk t).view.emb y) = _
  refine congrArg f (funext fun a => Fin.ext ?_)
  match a with
  | ⟨0, _⟩ => show win0_4.index t (0 : Fin 3) * 2 + 1 * (y (0 : Fin 3)).val = b.val; omega
  | ⟨1, _⟩ => show win0_4.index t (1 : Fin 3) * 64 + 1 * (y (1 : Fin 3)).val = 64 * t.val + i.val; omega
  | ⟨2, _⟩ => show win0_4.index t (2 : Fin 3) * 128 + 1 * (y (2 : Fin 3)).val = 6144 + l.val; omega

theorem win_low (t : Fin cfg0.N) (b : Fin 2) (i : Fin 64) (x : Fin 128) :
    iblk m c 4 t (ix3 b i x) = padded (n := 16) (lowAt (m (c, Proc.tc.devRef main_arg0)) b (rowAt t i)) x := by
  unfold iblk
  refine (blk4 c (V m c main_v34) t _ b i x rfl rfl rfl).trans ?_
  exact (laid_low m c b (rowAt t i) x _ rfl).trans (pre_low_lane m c b (rowAt t i) x)

theorem place5 : ∀ t : Fin cfg0.N, win0_5.index t (0 : Fin 2) = 0 ∧ win0_5.index t (1 : Fin 2) = 0 :=
  (by decide +kernel : ∀ t : Fin grid0.N, _)

theorem blk5 (f : Buf (Elt Ideal) ((c : Thread nD τ).loc main_v25)) (t : Fin cfg0.N) (x : Fin 128) (l : Fin 512) :
    ((cfg0.win 5).blk t).view.read (Elt Ideal) f (ix2 x l) = f (ix2 x l) := by
  obtain ⟨h0, h1⟩ := place5 t
  show f (((cfg0.win 5).blk t).view.emb (ix2 x l)) = _
  refine congrArg f (funext fun a => Fin.ext ?_)
  match a with
  | ⟨0, _⟩ => show win0_5.index t (0 : Fin 2) * 128 + 1 * x.val = x.val; omega
  | ⟨1, _⟩ => show win0_5.index t (1 : Fin 2) * 512 + 1 * l.val = l.val; omega

theorem win_up (t : Fin cfg0.N) (x : Fin 128) (hd : Fin 4) (d : Fin 128) :
    iblk m c 5 t (ix2 x (keyLane hd d)) = padded (n := 16) (fun y => padded (n := 96) (upAt (m (c, Proc.tc.devRef main_arg1)) y hd) d) x := by
  unfold iblk
  exact (blk5 c (V m c main_v25) t x (keyLane hd d)).trans (up_lane m c x hd d)

theorem place6 : ∀ t : Fin cfg0.N, win0_6.index t (0 : Fin 2) = 0 ∧ win0_6.index t (1 : Fin 2) = 0 :=
  (by decide +kernel : ∀ t : Fin grid0.N, _)

theorem blk6 (f : Buf (Elt Ideal) ((c : Thread nD τ).loc main_v29)) (t : Fin cfg0.N) (l : Fin 512) :
    ((cfg0.win 6).blk t).view.read (Elt Ideal) f (ix2 0 l) = f (ix2 0 l) := by
  obtain ⟨h0, h1⟩ := place6 t
  show f (((cfg0.win 6).blk t).view.emb (ix2 0 l)) = _
  refine congrArg f (funext fun a => Fin.ext ?_)
  match a with
  | ⟨0, _⟩ => show win0_6.index t (0 : Fin 2) * 1 + 1 * 0 = 0; omega
  | ⟨1, _⟩ => show win0_6.index t (1 : Fin 2) * 512 + 1 * l.val = l.val; omega

theorem win_bias (t : Fin cfg0.N) (hd : Fin 4) (d : Fin 128) :
    iblk m c 6 t (ix2 0 (keyLane hd d)) = padded (n := 96) (biasAt (m (c, Proc.tc.devRef main_arg2)) hd) d := by
  unfold iblk
  exact (blk6 c (V m c main_v29) t (keyLane hd d)).trans (bias_lane m c hd d)

theorem place7 : ∀ t : Fin cfg0.N, win0_7.index t (0 : Fin 2) = 0 ∧ win0_7.index t (1 : Fin 2) = 0 :=
  (by decide +kernel : ∀ t : Fin grid0.N, _)

theorem blk7 (f : Buf (Elt Ideal) ((c : Thread nD τ).loc main_v33)) (t : Fin cfg0.N) (l : Fin 1024) :
    ((cfg0.win 7).blk t).view.read (Elt Ideal) f (ix2 0 l) = f (ix2 0 l) := by
  obtain ⟨h0, h1⟩ := place7 t
  show f (((cfg0.win 7).blk t).view.emb (ix2 0 l)) = _
  refine congrArg f (funext fun a => Fin.ext ?_)
  match a with
  | ⟨0, _⟩ => show win0_7.index t (0 : Fin 2) * 1 + 1 * 0 = 0; omega
  | ⟨1, _⟩ => show win0_7.index t (1 : Fin 2) * 1024 + 1 * l.val = l.val; omega

theorem win_norm (t : Fin cfg0.N) (hd : Fin 4) (d : Fin 256) :
    iblk m c 7 t (ix2 0 (valLane hd d)) = padded (n := 192) (normAt (m (c, Proc.tc.devRef main_arg3)) hd) d := by
  unfold iblk
  exact (blk7 c (V m c main_v33) t (valLane hd d)).trans (norm_lane m c hd d)

end Cert.KernelIdeal.Gla

end
-- ==== Proof.KernelValue.lean ====
/-
  What the call's result holds, entry by entry: on each head's own lanes the layer's mathematics, on its padding lanes zero.
-/
module

public import proofs.«01_k».proof.Proof.Windows

@[expose] public section

set_option maxRecDepth 16384
noncomputable section

namespace Cert.KernelIdeal.Gla

open Idealize.ShloMosaic Idealize.ShloMosaic.TcCoe Cert.KernelIdeal Cert.KernelIdeal.Gen Cert.KernelIdeal.Value Cert.Gla
open scoped BigOperators

variable (m : (l : Loc nD τ sig) → Buf (Elt Ideal) l) (c : Dev nD)

theorem rowAt_eq (t : Fin cfg0.N) (i : Fin 64) : rowAt t i = rowN t.val i := by
  have h := Nat.lt_of_lt_of_eq t.isLt points
  refine Fin.ext ?_
  show 64 * t.val + i.val = (64 * t.val + i.val) % 4096
  omega

section
variable {x0 x1 : Vec Ideal S2x64x512 .f32} {x2 : Vec Ideal S2x64x1024 .f32} {x4 : Vec Ideal S2x64x128 .f32}
  {x5 : Vec Ideal S128x512 .f32} {x6 : Vec Ideal S1x512 .f32} {bb : Fin 2} {hd : Fin 4}

/-- A block's running sums on a head's own lanes, where the block's padding lanes are zero. -/
theorem sums_of {L : Fin 64 → Fin 16 → EReal} {W : Fin 16 → Fin 96 → EReal} {B : Fin 96 → EReal}
    (h4 : ∀ j x, x4 (ix3 bb j x) = padded (L j) x) (h5 : ∀ x d, x5 (ix2 x (keyLane hd d)) = padded (fun y => padded (W y) d) x)
    (h6 : ∀ d, x6 (ix2 0 (keyLane hd d)) = padded B d) (i : Fin 64) (d : Fin 96) :
    blkSum x4 x5 x6 bb hd i (d.castLE (by decide)) = cum (fun i d => logDecay (∑ x, L i x * W x d + B d)) i d := by
  unfold blkSum cum
  refine Finset.sum_congr rfl fun j _ => ?_
  refine congrArg (fun z => if j ≤ i then logDecay z else 0) ?_
  simp only [h4, h5, h6, padded_castLE]
  refine congrArg (· + B d) ((sum_lanes (n := 16) (by decide) _ fun x hx => by rw [padded_ge _ x hx, zero_mul]).trans ?_)
  exact Finset.sum_congr rfl fun x _ => by rw [padded_castLE, padded_castLE]

/-- A block's rows, where the block's padding lanes are zero. -/
theorem row_of {Q K C : Fin 64 → Fin 96 → EReal} {V : Fin 64 → EReal} {S : Fin 96 → EReal} {st : Fin 256 → Fin 128 → EReal} {e : Fin 256}
    (hq : ∀ i d, x0 (ix3 bb i (keyLane hd d)) = padded (Q i) d) (hk : ∀ i d, x1 (ix3 bb i (keyLane hd d)) = padded (K i) d)
    (hv : ∀ i, x2 (ix3 bb i (valLane hd e)) = V i) (hs : ∀ i (d : Fin 96), blkSum x4 x5 x6 bb hd i (d.castLE (by decide)) = C i d)
    (hst : ∀ d : Fin 96, st e (d.castLE (by decide)) = S d) (i : Fin 64) :
    blkRow x0 x1 x2 x4 x5 x6 bb hd st i e = mix (fun i d => Q i d * Ideal.ofBits .f32 0x3DD105EC#32) K C V S i := by
  unfold blkRow
  refine (mix_lanes (n := 96) (by decide) _ _ _ _ _ (fun i x hx => by rw [hq, padded_ge _ x hx, zero_mul]) i).trans ?_
  simp only [hq, hk, hv, hs, hst, padded_castLE]

/-- A block's next state. -/
theorem state_of {K C V : Fin 64 → EReal} {st : Fin 256 → Fin 128 → EReal} {e : Fin 256} {d : Fin 128}
    (hk : ∀ i, x1 (ix3 bb i (keyLane hd d)) = K i) (hs : ∀ i, blkSum x4 x5 x6 bb hd i d = C i)
    (hv : ∀ i, x2 (ix3 bb i (valLane hd e)) = V i) : blkState x1 x2 x4 x5 x6 bb hd st e d = next K C V (st e d) := by
  unfold blkState
  simp only [hk, hs, hv]

end

/-- A window's running sums on a head's own lanes. -/
theorem sums_lane (t : Fin cfg0.N) (bb : Fin 2) (hd : Fin 4) (i : Fin 64) (d : Fin 96) :
    blkSum (iblk m c 4 t) (iblk m c 5 t) (iblk m c 6 t) bb hd i (d.castLE (by decide)) = decays (m (c, Proc.tc.devRef main_arg0)) (m (c, Proc.tc.devRef main_arg1)) (m (c, Proc.tc.devRef main_arg2)) bb hd t.val i d :=
  sums_of (fun j x => (win_low m c t bb j x).trans (by rw [rowAt_eq])) (fun x d => win_up m c t x hd d) (fun d => win_bias m c t hd d) i d

/-- The states that the points find: on a head's own lanes the layer's, on the padding lanes zero. -/
theorem found_eq (bb : Fin 2) (hd : Fin 4) (n : ℕ) (hn : n ≤ 64) (e : Fin 256) (d : Fin 128) :
    found m c bb hd n e d = padded (n := 192) (fun e => padded (n := 96) (memory (m (c, Proc.tc.devRef main_arg0)) (m (c, Proc.tc.devRef main_arg1)) (m (c, Proc.tc.devRef main_arg2)) bb hd n e) d) e := by
  induction n generalizing e d with
  | zero =>
    show (0 : EReal) = _
    unfold padded
    split
    · beta_reduce
      split <;> rfl
    · rfl
  | succ n ih =>
    have hN : n < cfg0.N := by rw [points]; omega
    rw [found]
    beta_reduce
    rw [dif_pos hN]
    unfold ptState
    refine (state_of (fun i => (win_k m c ⟨n, hN⟩ bb i hd d).trans (by rw [rowAt_eq])) (fun i => rfl)
      (fun i => (win_v m c ⟨n, hN⟩ bb i hd e).trans (by rw [rowAt_eq]))).trans ?_
    rw [ih (by omega) e d]
    by_cases he : e.val < 192
    · rw [padded_lt _ e he, padded_lt _ e he]
      by_cases hd' : d.val < 96
      · rw [padded_lt _ d hd', padded_lt _ d hd']
        simp only [padded_lt _ e he, padded_lt _ d hd']
        have hs : (fun i => blkSum (iblk m c 4 ⟨n, hN⟩) (iblk m c 5 ⟨n, hN⟩) (iblk m c 6 ⟨n, hN⟩) bb hd i d)
            = fun i => decays (m (c, Proc.tc.devRef main_arg0)) (m (c, Proc.tc.devRef main_arg1)) (m (c, Proc.tc.devRef main_arg2)) bb hd n i ⟨d.val, hd'⟩ := funext fun i => sums_lane m c ⟨n, hN⟩ bb hd i ⟨d.val, hd'⟩
        exact congrArg (fun b => next _ b _ _) hs
      · rw [padded_ge _ d (by omega), padded_ge _ d (by omega)]
        simp only [padded_ge _ d (Nat.le_of_not_lt hd')]
        exact next_no_key _ _
    · rw [padded_ge _ e (by omega), padded_ge _ e (by omega)]
      simp only [padded_ge _ e (Nat.le_of_not_lt he)]
      exact next_no_value _ _

/-- A chain's rows on the head's own lanes and on its padding lanes. -/
theorem rows_eq (bb : Fin 2) (hd : Fin 4) (t : Fin cfg0.N) (i : Fin 64) (e : Fin 256) :
    blkRow (X0_0 m c t) (X0_1 m c t) (X0_2 m c t) (iblk m c 4 t) (iblk m c 5 t) (iblk m c 6 t) bb hd (found m c bb hd t.val) i e
      = padded (n := 192) (attended (m (c, Proc.tc.devRef main_arg0)) (m (c, Proc.tc.devRef main_arg1)) (m (c, Proc.tc.devRef main_arg2)) bb hd t.val i) e := by
  have ht := Nat.lt_of_lt_of_eq t.isLt points
  refine (row_of (fun i d => (win_q m c t bb i hd d).trans (by rw [rowAt_eq])) (fun i d => (win_k m c t bb i hd d).trans (by rw [rowAt_eq]))
    (fun i => (win_v m c t bb i hd e).trans (by rw [rowAt_eq])) (fun i d => sums_lane m c t bb hd i d)
    (fun d => found_eq m c bb hd t.val (by omega) e _) i).trans ?_
  by_cases he : e.val < 192
  · rw [padded_lt _ e he]
    simp only [padded_castLE, padded_lt _ e he]
    rfl
  · rw [padded_ge _ e (by omega)]
    simp only [padded_ge _ e (Nat.le_of_not_lt he)]
    unfold mix
    simp

theorem named_eq : (Named.named κ "inv_dv" (0x3BAAAAAB#32 : BitVec 32) : Ideal .f32) = ((192⁻¹ : ℝ) : EReal) := by
  rfl

/-- What a point writes on the head's own lanes and on its padding lanes. -/
theorem out_eq (bb : Fin 2) (hd : Fin 4) (t : Fin cfg0.N) (i : Fin 64) (e : Fin 256) :
    ptOut m c t bb hd (found m c bb hd t.val) i e = padded (n := 192) (layerOut (m (c, Proc.tc.devRef main_arg0)) (m (c, Proc.tc.devRef main_arg1)) (m (c, Proc.tc.devRef main_arg2)) (m (c, Proc.tc.devRef main_arg3)) bb hd t.val i) e := by
  have hg : (X0_3 m c t (ix3 bb i (valLane hd e)) : EReal) = padded (n := 192) (gAt (m (c, Proc.tc.devRef main_arg0)) bb (rowN t.val i) hd) e := by
    have := win_g m c t bb i hd e
    rw [rowAt_eq] at this
    exact this
  have hn : (iblk m c 7 t (ix2 0 (valLane hd e)) : EReal) = padded (n := 192) (normAt (m (c, Proc.tc.devRef main_arg3)) hd) e := win_norm m c t hd e
  have hs : ∑ x : Fin 256, padded (n := 192) (attended (m (c, Proc.tc.devRef main_arg0)) (m (c, Proc.tc.devRef main_arg1)) (m (c, Proc.tc.devRef main_arg2)) bb hd t.val i) x * padded (n := 192) (attended (m (c, Proc.tc.devRef main_arg0)) (m (c, Proc.tc.devRef main_arg1)) (m (c, Proc.tc.devRef main_arg2)) bb hd t.val i) x
      = ∑ x : Fin 192, attended (m (c, Proc.tc.devRef main_arg0)) (m (c, Proc.tc.devRef main_arg1)) (m (c, Proc.tc.devRef main_arg2)) bb hd t.val i x * attended (m (c, Proc.tc.devRef main_arg0)) (m (c, Proc.tc.devRef main_arg1)) (m (c, Proc.tc.devRef main_arg2)) bb hd t.val i x := by
    refine (sum_lanes (n := 192) (by decide) _ fun x hx => by rw [padded_ge _ x hx, zero_mul]).trans ?_
    exact Finset.sum_congr rfl fun x _ => by rw [padded_castLE]
  unfold ptOut blkOut
  simp only [rows_eq, named_eq]
  rw [hs]
  refine (congrArg₂ (fun n g : EReal => padded (n := 192) (attended (m (c, Proc.tc.devRef main_arg0)) (m (c, Proc.tc.devRef main_arg1)) (m (c, Proc.tc.devRef main_arg2)) bb hd t.val i) e
    * Ideal.rsqrt ((∑ x : Fin 192, attended (m (c, Proc.tc.devRef main_arg0)) (m (c, Proc.tc.devRef main_arg1)) (m (c, Proc.tc.devRef main_arg2)) bb hd t.val i x * attended (m (c, Proc.tc.devRef main_arg0)) (m (c, Proc.tc.devRef main_arg1)) (m (c, Proc.tc.devRef main_arg2)) bb hd t.val i x) * ((192⁻¹ : ℝ) : EReal)
        + Ideal.ofBits .f32 0x358637BD#32) * n * (g * Ideal.div 1 (1 + Ideal.exp (0 - g)))) hn hg).trans ?_
  by_cases he : e.val < 192
  · rw [padded_lt _ e he, padded_lt _ e he, padded_lt _ e he, padded_lt _ e he]
    rfl
  · rw [padded_ge _ e (by omega), padded_ge _ e (by omega), padded_ge _ e (by omega), zero_mul, zero_mul, zero_mul, padded_ge _ e (by omega)]

/-- The call's result. -/
theorem result_eq (b : Fin 2) (n : Fin 64) (i : Fin 64) (hd : Fin 4) (e : Fin 256) :
    G8 m c (ix3 b (rowN n.val i) (valLane hd e)) = padded (n := 192) (layerOut (m (c, Proc.tc.devRef main_arg0)) (m (c, Proc.tc.devRef main_arg1)) (m (c, Proc.tc.devRef main_arg2)) (m (c, Proc.tc.devRef main_arg3)) b hd n.val i) e := by
  have hp : pt8Of (ix3 b (rowN n.val i) (valLane hd e)) = n.val := by
    show 64 * (b.val / 2 - 0) + 1 * (((64 * n.val + i.val) % 4096) / 64 - 0) + 1 * ((256 * hd.val + e.val) / 1024 - 0) = n.val
    omega
  have hl : loc8Of (ix3 b (rowN n.val i) (valLane hd e)) = ix3 b i (valLane hd e) := by
    funext a
    refine Fin.ext ?_
    match a with
    | ⟨0, _⟩ => show b.val % 2 = b.val; omega
    | ⟨1, _⟩ => show ((64 * n.val + i.val) % 4096) % 64 = i.val; omega
    | ⟨2, _⟩ => show (256 * hd.val + e.val) % 1024 = 256 * hd.val + e.val; omega
  have hn : n.val < cfg0.N := by rw [points]; exact n.isLt
  unfold G8
  rw [dif_pos (by rw [hp]; exact hn), hl]
  rw [fold0_congr m c _ _ n.val (by omega) hp]
  exact ((fold_apply m c b hd n.val (by omega) hn).1 i e).trans (out_eq m c b hd ⟨n.val, hn⟩ i e)

end Cert.KernelIdeal.Gla

end
-- ==== Proof.RefEntry.lean ====
/-
  What the plain recurrence's loop starts from, entry by entry, of the program's arguments.
-/
module

public import proofs.«01_k».proof.Proof.Gen.ReferenceIdeal.Run
public import proofs.«01_k».proof.Proof.Args
public import Idealize.ShloMosaic.Lib.StableHlo.ReadAt
public import Idealize.ShloMosaic.Lib.DynamicIndex
public import Idealize.ShloMosaic.Lib.WordCmp
public import Idealize.ShloMosaic.Lib.Pipeline.Value

@[expose] public section

set_option maxRecDepth 16384
noncomputable section

namespace Cert.ReferenceIdeal.Gla

open Idealize.ShloMosaic Idealize.ShloMosaic.TcCoe Cert.ReferenceIdeal Cert.ReferenceIdeal.Gen Cert.ReferenceIdeal.Value Cert.Gla
open Idealize.ShloMosaic.StableHlo
open scoped BigOperators

variable (m : (l : Loc nD τ sig) → Buf (Elt Ideal) l) (c : Dev nD)

theorem entry_q (n : Fin 64) (b : Fin 2) (hd : Fin 4) (i : Fin 64) (d : Fin 96) :
    entryContents preI m c (Proc.devRef .tc main_v30_0) (ix5 n b hd i d) = qAt (m (c, Proc.tc.devRef main_arg0)) b ⟨n.val * 64 + i.val, by omega⟩ hd d * Ideal.ofBits .f32 0x3DD105EC#32 := by
  unfold entryContents
  rw [afterL_eq_after_flatten]
  after_reads_at
  simp only [id_eq]
  pointwise
  rfl

theorem sixteen : Ideal.ofBits .f32 0x41800000#32 = ((16 : ℝ) : EReal) := by
  simp [Ideal.ofBits, Ideal.ieee, -EReal.coe_mul]
  norm_num

theorem div_sixteen (x : EReal) : Ideal.div x (Ideal.ofBits .f32 0x41800000#32) = x * Ideal.ofBits .f32 0x3D800000#32 := by
  rw [sixteen, sixteenth]
  unfold Ideal.div
  rw [if_neg (by norm_num), EReal.coe_inv]

theorem decay_apply (V : Valuation τ sig (Elt Ideal)) (b : Fin 2) (t : Fin 4096) (l : Fin 384) :
    Ideal.div (StableHlo.after hostOps0_1 V (Proc.devRef .tc main_v13) (ix3 b t l)) (Ideal.ofBits .f32 0x41800000#32)
      = logDecay (V (Proc.devRef .tc main_v12) (ix3 b t l)) := by
  rw [div_sixteen]
  unfold logDecay
  after_reads_at
  rw [if_neg (fun h => h rfl), zero_sub, zero_sub, zero_sub]
  rfl

/-- The gate's preactivation at lane `l`. -/
def gatePre (P : Vec Ideal S2x4096x5392 .f32) (U : Vec Ideal S16x384 .f32) (A : Vec Ideal S384 .f32) (b : Fin 2) (t : Fin 4096) (l : Fin 384) : EReal :=
  ∑ x : Fin 16, P (ix3 b t ⟨2816 + x.val, by omega⟩) * U (ix2 x l) + A (ix1 l)

theorem pre_apply (b : Fin 2) (t : Fin 4096) (l : Fin 384) :
    StableHlo.after hostOps0 (launchContents m c) (Proc.devRef .tc main_v12) (ix3 b t l)
      = gatePre (m (c, Proc.tc.devRef main_arg0)) (m (c, Proc.tc.devRef main_arg1)) (m (c, Proc.tc.devRef main_arg2)) b t l := by
  unfold gatePre
  after_reads_at

theorem tail_apply (V : Valuation τ sig (Elt Ideal)) (n : Fin 64) (b : Fin 2) (hd : Fin 4) (i : Fin 64) (d : Fin 96) :
    (StableHlo.after hostOps0_4 (StableHlo.after hostOps0_3 (StableHlo.after hostOps0_2 V)) (Proc.devRef .tc main_v30_3) (ix5 n b hd i d) : EReal)
      = Ideal.div (V (Proc.devRef .tc main_v13) (ix3 b ⟨n.val * 64 + i.val, by omega⟩ ⟨hd.val * 96 + d.val, by omega⟩)) (Ideal.ofBits .f32 0x41800000#32) := by
  rw [← StableHlo.after_append, ← StableHlo.after_append]
  after_reads_at
  simp only [id_eq]
  pointwise

theorem entry_la (n : Fin 64) (b : Fin 2) (hd : Fin 4) (i : Fin 64) (d : Fin 96) :
    (entryContents preI m c (Proc.devRef .tc main_v30_3) (ix5 n b hd i d) : EReal)
      = logDecay (∑ x : Fin 16, lowAt (m (c, Proc.tc.devRef main_arg0)) b ⟨n.val * 64 + i.val, by omega⟩ x * upAt (m (c, Proc.tc.devRef main_arg1)) x hd d + biasAt (m (c, Proc.tc.devRef main_arg2)) hd d) := by
  have h1 := pre_apply m c b ⟨n.val * 64 + i.val, by omega⟩ ⟨hd.val * 96 + d.val, by omega⟩
  have h2 := decay_apply (StableHlo.after hostOps0 (launchContents m c)) b ⟨n.val * 64 + i.val, by omega⟩ ⟨hd.val * 96 + d.val, by omega⟩
  have h3 := tail_apply (StableHlo.after hostOps0_1 (StableHlo.after hostOps0 (launchContents m c))) n b hd i d
  exact h3.trans (h2.trans (congrArg logDecay h1))

theorem entry_k (n : Fin 64) (b : Fin 2) (hd : Fin 4) (i : Fin 64) (d : Fin 96) :
    entryContents preI m c (Proc.devRef .tc main_v30_1) (ix5 n b hd i d) = kAt (m (c, Proc.tc.devRef main_arg0)) b ⟨n.val * 64 + i.val, by omega⟩ hd d := by
  unfold entryContents
  rw [afterL_eq_after_flatten]
  after_reads_at
  simp only [id_eq]
  pointwise
  rfl

theorem entry_v (n : Fin 64) (b : Fin 2) (hd : Fin 4) (i : Fin 64) (d : Fin 192) :
    entryContents preI m c (Proc.devRef .tc main_v30_2) (ix5 n b hd i d) = vAt (m (c, Proc.tc.devRef main_arg0)) b ⟨n.val * 64 + i.val, by omega⟩ hd d := by
  unfold entryContents
  rw [afterL_eq_after_flatten]
  after_reads_at
  simp only [id_eq]
  pointwise
  rfl

theorem entry_state (b : Fin 2) (hd : Fin 4) (d : Fin 96) (e : Fin 192) :
    entryContents preI m c (Proc.devRef .tc main_v30_6) (ix4 b hd d e) = (0 : EReal) := by
  unfold entryContents
  rw [afterL_eq_after_flatten]
  after_reads_at
  simp only [id_eq]
  pointwise

theorem mask_word (i j : Fin 64) :
    (Scalar.select (IntOp.cmpi .sge (BitVec.ofNat 32 i.val) (BitVec.ofNat 32 j.val)) 1#1 0#1 : BitVec 1) = if j ≤ i then 1#1 else 0#1 := by
  have hi := i.isLt
  have hj := j.isLt
  simp (disch := word_cmp_side) only [hlo_ix]
  rfl

theorem entry_mask (i : Fin 64) (j : Fin 64) :
    entryContents preI m c (Proc.devRef .tc main_v30_4) (ix3 i j 0) = if j ≤ i then 1#1 else 0#1 := by
  unfold entryContents
  rw [afterL_eq_after_flatten]
  after_reads_at
  simp only [id_eq]
  pointwise
  rw [show IntOp.addi (BitVec.ofNat 32 i.val) 0#32 = BitVec.ofNat 32 i.val from BitVec.add_zero _]
  exact mask_word i j

end Cert.ReferenceIdeal.Gla

end
-- ==== Proof.RefStep.lean ====
/-
  One trip of the plain recurrence's loop, entry by entry: the chunk it reads, the running sums, the next state, the chunk's rows.
-/
module

public import proofs.«01_k».proof.Proof.Gen.ReferenceIdeal.Run
public import proofs.«01_k».proof.Proof.Args
public import Idealize.ShloMosaic.Lib.StableHlo.ReadAt
public import Idealize.ShloMosaic.Lib.DynamicIndex
public import Idealize.ShloMosaic.Lib.WordCmp
public import Idealize.ShloMosaic.Lib.Pipeline.Value

@[expose] public section

set_option maxRecDepth 16384
noncomputable section

namespace Cert.ReferenceIdeal.Gla

open Idealize.ShloMosaic Idealize.ShloMosaic.TcCoe Cert.ReferenceIdeal Cert.ReferenceIdeal.Gen Cert.ReferenceIdeal.Value Cert.Gla
open Idealize.ShloMosaic.StableHlo
open scoped BigOperators

/-- Where chunk `n` starts. -/
theorem starts_eq (w : S_.Idx → BitVec 32) (n : Fin 64) (hw : w = fun _ => BitVec.ofNat 32 n.val) (k : Fin 5) :
    ((((![w, constantI S_ 32 0#32, constantI S_ 32 0#32, constantI S_ 32 0#32, constantI S_ 32 0#32] : Fin 5 → (⟨S_, .i32⟩ : BufTy).Contents (Elt Ideal))) k (Shape.Idx.first h_S_)).toInt)
      = (((![n.val, 0, 0, 0, 0] : Fin 5 → Nat) k : Nat) : Int) := by
  subst hw
  have hn := n.isLt
  fin_cases k
  · exact toInt_ofNat_of_lt (by omega)
  all_goals rfl

theorem fits96 (n : Fin 64) : S64x2x4x64x96.Slices ![n.val, 0, 0, 0, 0] S1x2x4x64x96 := by
  refine ⟨rfl, fun a => ?_⟩
  have hn := n.isLt
  match a with
  | ⟨0, _⟩ => show n.val + 1 ≤ 64; omega
  | ⟨1, _⟩ => show 0 + 2 ≤ 2; omega
  | ⟨2, _⟩ => show 0 + 4 ≤ 4; omega
  | ⟨3, _⟩ => show 0 + 64 ≤ 64; omega
  | ⟨4, _⟩ => show 0 + 96 ≤ 96; omega

theorem fits192 (n : Fin 64) : S64x2x4x64x192.Slices ![n.val, 0, 0, 0, 0] S1x2x4x64x192 := by
  refine ⟨rfl, fun a => ?_⟩
  have hn := n.isLt
  match a with
  | ⟨0, _⟩ => show n.val + 1 ≤ 64; omega
  | ⟨1, _⟩ => show 0 + 2 ≤ 2; omega
  | ⟨2, _⟩ => show 0 + 4 ≤ 4; omega
  | ⟨3, _⟩ => show 0 + 64 ≤ 64; omega
  | ⟨4, _⟩ => show 0 + 192 ≤ 192; omega

/-- The entry of a query or key chunk. -/
theorem chunk96 (x : Vec Ideal S64x2x4x64x96 .f32) (w : S_.Idx → BitVec 32) (n : Fin 64) (hw : w = fun _ => BitVec.ofNat 32 n.val)
    (b : Fin 2) (hd : Fin 4) (i : Fin 64) (d : Fin 96) :
    shapeCast S2x4x64x96 (Host.dynamicSlice S1x2x4x64x96 x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S64x2x4x64x96_S1x2x4x64x96) shapeCasts_S1x2x4x64x96_S2x4x64x96 (ix4 b hd i d)
      = x (ix5 n b hd i d) := by
  rw [Host.dynamicSlice_eq_extractStridedSlice S1x2x4x64x96 x _ ![n.val, 0, 0, 0, 0] _ (fits96 n) (starts_eq w n hw)]
  pointwise

/-- The entry of a value chunk. -/
theorem chunk192 (x : Vec Ideal S64x2x4x64x192 .f32) (w : S_.Idx → BitVec 32) (n : Fin 64) (hw : w = fun _ => BitVec.ofNat 32 n.val)
    (b : Fin 2) (hd : Fin 4) (i : Fin 64) (d : Fin 192) :
    shapeCast S2x4x64x192 (Host.dynamicSlice S1x2x4x64x192 x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S64x2x4x64x192_S1x2x4x64x192) shapeCasts_S1x2x4x64x192_S2x4x64x192 (ix4 b hd i d)
      = x (ix5 n b hd i d) := by
  rw [Host.dynamicSlice_eq_extractStridedSlice S1x2x4x64x192 x _ ![n.val, 0, 0, 0, 0] _ (fits192 n) (starts_eq w n hw)]
  pointwise

theorem fold_eq_sum {α : Type} (g : α → EReal) : ∀ (l : List α) (a : EReal), l.foldl (fun r n => r + g n) a = a + (l.map g).sum
  | [], a => by simp
  | x :: l, a => by rw [List.foldl_cons, fold_eq_sum g l, List.map_cons, List.sum_cons, add_assoc]

/-- The rows of a window that ends at row `i` are the rows up to `i`: the row is counted from the other end. -/
theorem window_rows (f : Fin 64 → EReal) (i : Fin 64) :
    (∑ r : Fin 64, if h : 63 ≤ i.val + r.val then f ⟨i.val + r.val - 63, by omega⟩ else 0) = ∑ j : Fin 64, if j ≤ i then f j else 0 := by
  rw [← Equiv.sum_comp (Equiv.addRight (i + 1)) fun j => if j ≤ i then f j else 0]
  refine Finset.sum_congr rfl fun r _ => ?_
  have hi := i.isLt
  have hr := r.isLt
  have hv : (r + (i + 1) : Fin 64).val = (r.val + (i.val + 1)) % 64 := by
    rw [Fin.val_add, Fin.val_add]; show (r.val + (i.val + 1) % 64) % 64 = _; omega
  show _ = if r + (i + 1) ≤ i then f (r + (i + 1)) else 0
  by_cases h : 63 ≤ i.val + r.val
  · rw [dif_pos h, if_pos (by rw [Fin.le_def, hv]; omega)]
    exact congrArg f (Fin.ext (by rw [hv]; show i.val + r.val - 63 = _; omega))
  · rw [dif_neg h, if_neg (by rw [Fin.le_def, hv]; omega)]

/-- The running sum along a chunk's rows. -/
theorem window_sum (x : Vec Ideal S2x4x64x96 .f32) (b : Fin 2) (hd : Fin 4) (i : Fin 64) (d : Fin 96) (v : S_.Idx → EReal)
    (hv : v (Shape.Idx.first h_S_) = 0) :
    Host.reduceWindowAdd (F := Ideal) (φ := .f32) ![1, 1, 64, 1] ![1, 1, 1, 1] ![0, 0, 63, 0] ![0, 0, 0, 0] x v
        reduceWindows_S2x4x64x96_S2x4x64x96_w1s1p0_0_w1s1p0_0_w64s1p63_0_w1s1p0_0 h_S_ (ix4 b hd i d)
      = ∑ j : Fin 64, if j ≤ i then x (ix4 b hd j d) else 0 := by
  show Host.reduceWindow (· + ·) ![1, 1, 64, 1] ![1, 1, 1, 1] ![0, 0, 63, 0] ![0, 0, 0, 0] x v
        reduceWindows_S2x4x64x96_S2x4x64x96_w1s1p0_0_w1s1p0_0_w64s1p63_0_w1s1p0_0 h_S_ (ix4 b hd i d) = _
  unfold Host.reduceWindow
  dsimp only
  rw [hv, fold_eq_sum, zero_add, ← Fin.sum_univ_def]
  refine Eq.trans (Finset.sum_congr rfl fun n _ => ?_) ((Equiv.sum_comp (Shape.rowMajor ⟨4, ![1, 1, 64, 1]⟩).symm fun p : Shape.Idx ⟨4, ![1, 1, 64, 1]⟩ =>
    if h : 63 ≤ i.val + (p 2).val then x (ix4 b hd ⟨i.val + (p 2).val - 63, by have h1 := i.isLt; have h2 : (p 2).val < 64 := (p 2).isLt; omega⟩ d) else 0).trans ?_)
  · have hb := b.isLt
    have hh := hd.isLt
    have hi := i.isLt
    have hd' := d.isLt
    have h0 : ((Shape.rowMajor ⟨4, ![1, 1, 64, 1]⟩).symm n 0).val < 1 := ((Shape.rowMajor ⟨4, ![1, 1, 64, 1]⟩).symm n 0).isLt
    have h1 : ((Shape.rowMajor ⟨4, ![1, 1, 64, 1]⟩).symm n 1).val < 1 := ((Shape.rowMajor ⟨4, ![1, 1, 64, 1]⟩).symm n 1).isLt
    have h2 : ((Shape.rowMajor ⟨4, ![1, 1, 64, 1]⟩).symm n 2).val < 64 := ((Shape.rowMajor ⟨4, ![1, 1, 64, 1]⟩).symm n 2).isLt
    have h3 : ((Shape.rowMajor ⟨4, ![1, 1, 64, 1]⟩).symm n 3).val < 1 := ((Shape.rowMajor ⟨4, ![1, 1, 64, 1]⟩).symm n 3).isLt
    by_cases h : 63 ≤ i.val + ((Shape.rowMajor ⟨4, ![1, 1, 64, 1]⟩).symm n 2).val
    · rw [dif_pos h, dif_pos]
      · refine congrArg x (funext fun a => Fin.ext ?_)
        match a with
        | ⟨0, _⟩ => show b.val * 1 + ((Shape.rowMajor ⟨4, ![1, 1, 64, 1]⟩).symm n 0).val - 0 = b.val; omega
        | ⟨1, _⟩ => show hd.val * 1 + ((Shape.rowMajor ⟨4, ![1, 1, 64, 1]⟩).symm n 1).val - 0 = hd.val; omega
        | ⟨2, _⟩ => show i.val * 1 + ((Shape.rowMajor ⟨4, ![1, 1, 64, 1]⟩).symm n 2).val - 63 = i.val + ((Shape.rowMajor ⟨4, ![1, 1, 64, 1]⟩).symm n 2).val - 63; omega
        | ⟨3, _⟩ => show d.val * 1 + ((Shape.rowMajor ⟨4, ![1, 1, 64, 1]⟩).symm n 3).val - 0 = d.val; omega
      · intro a
        match a with
        | ⟨0, _⟩ => show 0 ≤ b.val * 1 + ((Shape.rowMajor ⟨4, ![1, 1, 64, 1]⟩).symm n 0).val ∧ b.val * 1 + ((Shape.rowMajor ⟨4, ![1, 1, 64, 1]⟩).symm n 0).val - 0 < 2; omega
        | ⟨1, _⟩ => show 0 ≤ hd.val * 1 + ((Shape.rowMajor ⟨4, ![1, 1, 64, 1]⟩).symm n 1).val ∧ hd.val * 1 + ((Shape.rowMajor ⟨4, ![1, 1, 64, 1]⟩).symm n 1).val - 0 < 4; omega
        | ⟨2, _⟩ => show 63 ≤ i.val * 1 + ((Shape.rowMajor ⟨4, ![1, 1, 64, 1]⟩).symm n 2).val ∧ i.val * 1 + ((Shape.rowMajor ⟨4, ![1, 1, 64, 1]⟩).symm n 2).val - 63 < 64; omega
        | ⟨3, _⟩ => show 0 ≤ d.val * 1 + ((Shape.rowMajor ⟨4, ![1, 1, 64, 1]⟩).symm n 3).val ∧ d.val * 1 + ((Shape.rowMajor ⟨4, ![1, 1, 64, 1]⟩).symm n 3).val - 0 < 96; omega
    · rw [dif_neg h, dif_neg]
      intro q
      have : 63 ≤ i.val * 1 + ((Shape.rowMajor ⟨4, ![1, 1, 64, 1]⟩).symm n 2).val := (q 2).1
      omega
  · rw [sum_idx4]
    simp only [Fin.isValue, Finset.univ_unique, Finset.sum_singleton]
    exact window_rows (fun j => x (ix4 b hd j d)) i

/-- Writing chunk `n` of the rows, at an index. -/
theorem write192 (x : Vec Ideal S64x2x4x64x192 .f32) (u : Vec Ideal S1x2x4x64x192 .f32) (w : S_.Idx → BitVec 32) (n : Fin 64) (hw : w = fun _ => BitVec.ofNat 32 n.val)
    (n' : Fin 64) (b : Fin 2) (hd : Fin 4) (i : Fin 64) (e : Fin 192) :
    Host.dynamicUpdateSlice x u (fun k => (((![w, constantI S_ 32 0#32, constantI S_ 32 0#32, constantI S_ 32 0#32, constantI S_ 32 0#32] : Fin 5 → (⟨S_, .i32⟩ : BufTy).Contents (Elt Ideal))) k (Shape.Idx.first h_S_)).toInt) updateFits_S64x2x4x64x192_S1x2x4x64x192 (ix5 n' b hd i e)
      = if n' = n then u (ix5 0 b hd i e) else x (ix5 n' b hd i e) := by
  rw [Host.dynamicUpdateSlice_eq_updateSlice x u _ _ ![n.val, 0, 0, 0, 0] (fun a => by
    rw [starts_eq w n hw a]; exact WordCmp.clamp_start_of_le ((fits192 n).2 a)) (fits192 n)]
  pointwise
  have hn := n.isLt
  have hn' := n'.isLt
  by_cases h : n' = n
  · subst h
    rw [dif_pos ⟨le_refl _, Nat.lt_succ_self _⟩, if_pos rfl]
    exact congrArg (fun z => u (ix5 z b hd i e)) (Fin.ext (Nat.sub_self _))
  · rw [if_neg h, dif_neg fun q => h (Fin.ext (by omega))]

theorem next_apply (V0 : Valuation τ sig (Elt Ideal)) (b : Fin 2) (hd : Fin 4) (d : Fin 96) (e : Fin 192) :
    (step_main_v30_6 V0 (ix4 b hd d e) : EReal)
      = next (fun i => res_main_while0b_v62 V0 (ix4 b hd i d)) (fun i => res_main_while0b_v65 V0 (ix4 b hd i d))
          (fun i => res_main_while0b_v63 V0 (ix4 b hd i e)) (V0 (Proc.devRef .tc main_v30_6) (ix4 b hd d e)) := by
  unfold step_main_v30_6 next
  simp only [id_eq]
  pointwise [res_main_while0b_v85]

/-- A chunk's rows. -/
theorem rows_apply (q k bb : FVec Ideal S2x4x64x96 .f32) (v : FVec Ideal S2x4x64x192 .f32) (st : FVec Ideal S2x4x96x192 .f32) (mask : S64x64x1.Idx → BitVec 1)
    (hm : ∀ i j, mask (ix3 i j 0) = if j ≤ i then 1#1 else 0#1)
    (b : Fin 2) (hd : Fin 4) (i : Fin 64) (e : Fin 192) :
    (broadcastInDim S1x2x4x64x192 ![1, 2, 3, 4] bcast_S2x4x64x192_S1x2x4x64x192_1_2_3_4 (addf (Host.dotGeneral dot_S2x4x64x96_S2x4x96x192_S2x4x64x192_3_2_2_3_01_01 none (mulf q (Host.exp bb)) st) (Host.dotGeneral dot_S2x4x64x64_S2x4x64x192_S2x4x64x192_3_2_2_3_01_01 none (Host.reduceAdd (mulf (mulf (broadcastInDim S2x4x64x64x96 ![0, 1, 2, 3, 4] bcast_S2x4x64x1x96_S2x4x64x64x96_0_1_2_3_4 (broadcastInDim S2x4x64x1x96 ![0, 1, 2, 4] bcast_S2x4x64x96_S2x4x64x1x96_0_1_2_4 q)) (broadcastInDim S2x4x64x64x96 ![0, 1, 2, 3, 4] bcast_S2x4x1x64x96_S2x4x64x64x96_0_1_2_3_4 (broadcastInDim S2x4x1x64x96 ![0, 1, 3, 4] bcast_S2x4x64x96_S2x4x1x64x96_0_1_3_4 k))) (Host.exp (select (broadcastInDim S2x4x64x64x96 ![2, 3, 4] bcast_S64x64x1_S2x4x64x64x96_2_3_4 mask) (subf (broadcastInDim S2x4x64x64x96 ![0, 1, 2, 3, 4] bcast_S2x4x64x1x96_S2x4x64x64x96_0_1_2_3_4 (broadcastInDim S2x4x64x1x96 ![0, 1, 2, 4] bcast_S2x4x64x96_S2x4x64x1x96_0_1_2_4 bb)) (broadcastInDim S2x4x64x64x96 ![0, 1, 2, 3, 4] bcast_S2x4x1x64x96_S2x4x64x64x96_0_1_2_3_4 (broadcastInDim S2x4x1x64x96 ![0, 1, 3, 4] bcast_S2x4x64x96_S2x4x1x64x96_0_1_3_4 bb))) (broadcastInDim S2x4x64x64x96 ![] bcast_S_S2x4x64x64x96 (id (constant S_ .f32 0xFF800000#32)))))) (constant S_ .f32 0x00000000#32) reducesTo_S2x4x64x64x96_S2x4x64x64_d4 h_S_) v))
      : FVec Ideal S1x2x4x64x192 .f32) (ix5 0 b hd i e)
      = mix (fun i d => q (ix4 b hd i d)) (fun i d => k (ix4 b hd i d)) (fun i d => bb (ix4 b hd i d)) (fun j => v (ix4 b hd j e))
          (fun d => st (ix4 b hd d e)) i := by
  unfold mix att
  simp only [id_eq]
  pointwise
  refine congrArg (_ + ·) (Finset.sum_congr rfl fun j _ => congrArg (· * v (ix4 b hd j e)) ?_)
  rw [hm]
  by_cases h : j ≤ i
  · rw [if_pos h, if_pos h]
    rfl
  · rw [if_neg h, if_neg h]
    refine Finset.sum_eq_zero fun d _ => ?_
    have hb : Scalar.select (0#1 : BitVec 1) (bb (ix4 b hd i d) - bb (ix4 b hd j d)) (Ideal.ofBits FTy.f32 0xFF800000#32) = (⊥ : EReal) := by
      show Ideal.ofBits FTy.f32 0xFF800000#32 = ⊥
      simp [Ideal.ofBits, Ideal.ieee]
    rw [hb, exp_bot, mul_zero]

end Cert.ReferenceIdeal.Gla

end
-- ==== Proof.RefTail.lean ====
/-
  What follows the plain recurrence's loop, entry by entry: the normalisation, the gate and the padding.
-/
module

public import proofs.«01_k».proof.Proof.Gen.ReferenceIdeal.Run
public import proofs.«01_k».proof.Proof.Args
public import Idealize.ShloMosaic.Lib.StableHlo.ReadAt
public import Idealize.ShloMosaic.Lib.DynamicIndex
public import Idealize.ShloMosaic.Lib.WordCmp
public import Idealize.ShloMosaic.Lib.Pipeline.Value

@[expose] public section

set_option maxRecDepth 16384
noncomputable section

namespace Cert.ReferenceIdeal.Gla

open Idealize.ShloMosaic Idealize.ShloMosaic.TcCoe Cert.ReferenceIdeal Cert.ReferenceIdeal.Gen Cert.ReferenceIdeal.Value Cert.Gla
open Idealize.ShloMosaic.StableHlo
open scoped BigOperators

/-- The chunks' rows side by side. -/
theorem flat_apply (o : FVec Ideal S64x2x4x64x192 .f32) (b : Fin 2) (t : Fin 4096) (hd : Fin 4) (e : Fin 192) :
    shapeCast S2x4096x4x192 (transpose S2x64x64x4x192 [1, 0, 3, 2, 4] o transposes_S64x2x4x64x192_S2x64x64x4x192_1_0_3_2_4) shapeCasts_S2x64x64x4x192_S2x4096x4x192 (ix4 b t hd e)
      = o (ix5 ⟨t.val / 64, by omega⟩ b hd ⟨t.val % 64, by omega⟩ e) := by
  pointwise

/-- A row normalised over its head's lanes. -/
theorem norm_apply (z : FVec Ideal S2x4096x4x192 .f32) (b : Fin 2) (t : Fin 4096) (hd : Fin 4) (e : Fin 192) :
    mulf z (broadcastInDim S2x4096x4x192 ![0, 1, 2, 3] bcast_S2x4096x4x1_S2x4096x4x192_0_1_2_3 (Host.rsqrt (addf (Host.divf (broadcastInDim S2x4096x4x1 ![0, 1, 2] bcast_S2x4096x4_S2x4096x4x1_0_1_2 (Host.reduceAdd (mulf z z) (constant S_ .f32 0x00000000#32) reducesTo_S2x4096x4x192_S2x4096x4_d3 h_S_)) (broadcastInDim S2x4096x4x1 ![] bcast_S_S2x4096x4x1 (constant S_ .f32 0x43400000#32))) (broadcastInDim S2x4096x4x1 ![] bcast_S_S2x4096x4x1 (constant S_ .f32 0x358637BD#32))))) (ix4 b t hd e)
      = z (ix4 b t hd e) * Ideal.rsqrt (Ideal.div (∑ x : Fin 192, z (ix4 b t hd x) * z (ix4 b t hd x)) (Ideal.ofBits .f32 0x43400000#32) + Ideal.ofBits .f32 0x358637BD#32) := by
  pointwise

theorem heads_apply (x : FVec Ideal S2x4096x768 .f32) (b : Fin 2) (t : Fin 4096) (hd : Fin 4) (e : Fin 192) :
    shapeCast S2x4096x4x192 x shapeCasts_S2x4096x768_S2x4096x4x192 (ix4 b t hd e) = x (ix3 b t ⟨hd.val * 192 + e.val, by omega⟩) := by
  pointwise

theorem merge_apply (w : FVec Ideal S2x4096x4x192 .f32) (b : Fin 2) (t : Fin 4096) (l : Fin 768) :
    shapeCast S2x4096x768 w shapeCasts_S2x4096x4x192_S2x4096x768 (ix3 b t l) = w (ix4 b t ⟨l.val / 192, by omega⟩ ⟨l.val % 192, by omega⟩) := by
  pointwise

/-- The lanes weighted and gated. -/
theorem gate_apply (w : FVec Ideal S2x4096x768 .f32) (P : FVec Ideal S2x4096x5392 .f32) (N : FVec Ideal S768 .f32) (b : Fin 2) (t : Fin 4096) (l : Fin 768) :
    mulf (mulf w (broadcastInDim S2x4096x768 ![0, 1, 2] bcast_S1x1x768_S2x4096x768_0_1_2 (broadcastInDim S1x1x768 ![2] bcast_S768_S1x1x768_2 N))) (mulf (extractStridedSlice S2x4096x768 ![0, 0, 2048] P slices_S2x4096x5392_S2x4096x768_0_0_2048) (Host.divf (broadcastInDim S2x4096x768 ![] bcast_S_S2x4096x768 (constant S_ .f32 0x3F800000#32)) (addf (broadcastInDim S2x4096x768 ![] bcast_S_S2x4096x768 (constant S_ .f32 0x3F800000#32)) (Host.exp (Host.negf (extractStridedSlice S2x4096x768 ![0, 0, 2048] P slices_S2x4096x5392_S2x4096x768_0_0_2048)))))) (ix3 b t l)
      = w (ix3 b t l) * N (ix1 l) * (P (ix3 b t ⟨2048 + l.val, by omega⟩) * Ideal.div 1 (1 + Ideal.exp (0 - P (ix3 b t ⟨2048 + l.val, by omega⟩)))) := by
  rw [zero_sub]
  pointwise

theorem wide_apply (y : FVec Ideal S2x4096x4x256 .f32) (b : Fin 2) (t : Fin 4096) (l : Fin 1024) :
    truncf .bf16 (shapeCast S2x4096x1024 y shapeCasts_S2x4096x4x256_S2x4096x1024) bitsLt_bf16_f32 (ix3 b t l)
      = y (ix4 b t ⟨l.val / 256, by omega⟩ ⟨l.val % 256, by omega⟩) := by
  pointwise

/-- Each head's lanes followed by padding. -/
theorem pad_apply (y : FVec Ideal S2x4096x4x192 .f32) (b : Fin 2) (t : Fin 4096) (hd : Fin 4) (e : Fin 256) :
    concatenate S2x4096x4x256 3 [⟨S2x4096x4x192, y⟩, ⟨S2x4096x4x64, (broadcastInDim S2x4096x4x64 ![] bcast_S_S2x4096x4x64 (constant S_ .f32 0x00000000#32))⟩] concatenates_S2x4096x4x192_S2x4096x4x64_S2x4096x4x256_d3 (ix4 b t hd e)
      = padded (n := 192) (fun x => y (ix4 b t hd x)) e := by
  unfold padded
  pointwise

end Cert.ReferenceIdeal.Gla

end
-- ==== Proof.RefValue.lean ====
/-
  The plain recurrence over all chunks, and its result entry by entry of the program's arguments.
-/
module

public import proofs.«01_k».proof.Proof.Gen.ReferenceIdeal.Run
public import proofs.«01_k».proof.Proof.RefEntry
public import proofs.«01_k».proof.Proof.RefStep
public import proofs.«01_k».proof.Proof.RefTail
public import Idealize.ShloMosaic.Lib.StableHlo.ReadAt
public import Idealize.ShloMosaic.Lib.DynamicIndex
public import Idealize.ShloMosaic.Lib.WordCmp
public import Idealize.ShloMosaic.Lib.Pipeline.Value

@[expose] public section

set_option maxRecDepth 16384
noncomputable section

namespace Cert.ReferenceIdeal.Gla

open Idealize.ShloMosaic Idealize.ShloMosaic.TcCoe Cert.ReferenceIdeal Cert.ReferenceIdeal.Gen Cert.ReferenceIdeal.Value Cert.Gla
open Idealize.ShloMosaic.StableHlo
open scoped BigOperators

variable (m : (l : Loc nD τ sig) → Buf (Elt Ideal) l) (c : Dev nD)

/-- The projected activations. -/
def argP : Vec Ideal S2x4096x5392 .f32 := m (c, Proc.tc.devRef main_arg0)
/-- The gate's up projection. -/
def argU : Vec Ideal S16x384 .f32 := m (c, Proc.tc.devRef main_arg1)
/-- The gate's bias. -/
def argA : Vec Ideal S384 .f32 := m (c, Proc.tc.devRef main_arg2)
/-- The norm's weights. -/
def argN : Vec Ideal S768 .f32 := m (c, Proc.tc.devRef main_arg3)

/-- The buffers before trip `n`. -/
def at_ (n : ℕ) : Valuation τ sig (Elt Ideal) := STEP^[n] (entryContents preI m c)

theorem at_zero : at_ m c 0 = entryContents preI m c := rfl

theorem at_succ (n : ℕ) : at_ m c (n + 1) = STEP (at_ m c n) := Function.iterate_succ_apply' ..

theorem at_q : ∀ n, at_ m c n (Proc.devRef .tc main_v30_0) = entryContents preI m c (Proc.devRef .tc main_v30_0)
  | 0 => rfl
  | n + 1 => by rw [at_succ, STEP_main_v30_0, at_q n]
theorem at_k : ∀ n, at_ m c n (Proc.devRef .tc main_v30_1) = entryContents preI m c (Proc.devRef .tc main_v30_1)
  | 0 => rfl
  | n + 1 => by rw [at_succ, STEP_main_v30_1, at_k n]
theorem at_v : ∀ n, at_ m c n (Proc.devRef .tc main_v30_2) = entryContents preI m c (Proc.devRef .tc main_v30_2)
  | 0 => rfl
  | n + 1 => by rw [at_succ, STEP_main_v30_2, at_v n]
theorem at_la : ∀ n, at_ m c n (Proc.devRef .tc main_v30_3) = entryContents preI m c (Proc.devRef .tc main_v30_3)
  | 0 => rfl
  | n + 1 => by rw [at_succ, STEP_main_v30_3, at_la n]
theorem at_mask : ∀ n, at_ m c n (Proc.devRef .tc main_v30_4) = entryContents preI m c (Proc.devRef .tc main_v30_4)
  | 0 => rfl
  | n + 1 => by rw [at_succ, STEP_main_v30_4, at_mask n]
theorem at_ctr : ∀ n, at_ m c n (Proc.devRef .tc main_v30_5) = fun _ => BitVec.ofNat 32 n
  | 0 => ctr_entry m c
  | n + 1 => by
    rw [at_succ, STEP_main_v30_5]
    unfold step_main_v30_5
    rw [at_ctr n]
    funext _
    show BitVec.ofNat 32 n + 1#32 = BitVec.ofNat 32 (n + 1)
    rw [BitVec.ofNat_add]

theorem row_eq (n : Fin 64) (i : Fin 64) (h : n.val * 64 + i.val < 4096) : (⟨n.val * 64 + i.val, h⟩ : Fin 4096) = rowN n.val i :=
  Fin.ext (by show n.val * 64 + i.val = (64 * n.val + i.val) % 4096; omega)

theorem trip_q (n : Fin 64) (b : Fin 2) (hd : Fin 4) (i : Fin 64) (d : Fin 96) :
    res_main_while0b_v61 (at_ m c n.val) (ix4 b hd i d) = qAt (argP m c) b (rowN n.val i) hd d * Ideal.ofBits .f32 0x3DD105EC#32 := by
  unfold res_main_while0b_v61
  refine (chunk96 _ _ n (at_ctr m c n.val) b hd i d).trans ?_
  rw [at_q, ← row_eq n i (by omega)]
  exact entry_q m c n b hd i d

theorem trip_k (n : Fin 64) (b : Fin 2) (hd : Fin 4) (i : Fin 64) (d : Fin 96) :
    res_main_while0b_v62 (at_ m c n.val) (ix4 b hd i d) = kAt (argP m c) b (rowN n.val i) hd d := by
  unfold res_main_while0b_v62
  refine (chunk96 _ _ n (at_ctr m c n.val) b hd i d).trans ?_
  rw [at_k, ← row_eq n i (by omega)]
  exact entry_k m c n b hd i d

theorem trip_v (n : Fin 64) (b : Fin 2) (hd : Fin 4) (i : Fin 64) (d : Fin 192) :
    res_main_while0b_v63 (at_ m c n.val) (ix4 b hd i d) = vAt (argP m c) b (rowN n.val i) hd d := by
  unfold res_main_while0b_v63
  refine (chunk192 _ _ n (at_ctr m c n.val) b hd i d).trans ?_
  rw [at_v, ← row_eq n i (by omega)]
  exact entry_v m c n b hd i d

theorem trip_decays (n : Fin 64) (b : Fin 2) (hd : Fin 4) (i : Fin 64) (d : Fin 96) :
    res_main_while0b_v65 (at_ m c n.val) (ix4 b hd i d) = decays (argP m c) (argU m c) (argA m c) b hd n.val i d := by
  unfold res_main_while0b_v65 decays cum
  refine (window_sum _ b hd i d _ ?_).trans (Finset.sum_congr rfl fun j _ => ?_)
  · show Ideal.ofBits .f32 0x00000000#32 = 0
    simp [Ideal.ofBits, Ideal.ieee]
  · by_cases h : j ≤ i
    · rw [if_pos h, if_pos h]
      refine (chunk96 _ _ n (at_ctr m c n.val) b hd j d).trans ?_
      beta_reduce
      rw [at_la, ← row_eq n j (by omega)]
      exact entry_la m c n b hd j d
    · rw [if_neg h, if_neg h]

theorem state_eq (b : Fin 2) (hd : Fin 4) (d : Fin 96) (e : Fin 192) : ∀ n : ℕ, n ≤ 64 →
    at_ m c n (Proc.devRef .tc main_v30_6) (ix4 b hd d e) = memory (argP m c) (argU m c) (argA m c) b hd n e d
  | 0, _ => entry_state m c b hd d e
  | n + 1, h => by
    rw [at_succ, STEP_main_v30_6]
    refine (next_apply (at_ m c n) b hd d e).trans ?_
    rw [state_eq b hd d e n (by omega)]
    simp only [trip_k m c ⟨n, by omega⟩, trip_v m c ⟨n, by omega⟩, trip_decays m c ⟨n, by omega⟩]
    rfl

theorem rows_eq (n' : Fin 64) (b : Fin 2) (hd : Fin 4) (i : Fin 64) (e : Fin 192) : ∀ n : ℕ, n ≤ 64 → n'.val < n →
    at_ m c n (Proc.devRef .tc main_v30_7) (ix5 n' b hd i e) = attended (argP m c) (argU m c) (argA m c) b hd n'.val i e
  | 0, _, h => absurd h (by omega)
  | n + 1, h, h' => by
    rw [at_succ, STEP_main_v30_7]
    unfold step_main_v30_7
    rw [id_eq]
    refine (write192 _ _ _ ⟨n, by omega⟩ (at_ctr m c n) n' b hd i e).trans ?_
    by_cases hn : n' = ⟨n, by omega⟩
    · rw [if_pos hn]
      refine (rows_apply _ _ _ _ _ _ (fun i j => ?_) b hd i e).trans ?_
      · rw [at_mask]; exact entry_mask m c i j
      · have hv : n'.val = n := congrArg Fin.val hn
        rw [hv]
        unfold attended
        refine congr (congr (congr (congr (congr (congrArg _ ?_) ?_) ?_) ?_) ?_) rfl
        · funext i d; exact trip_q m c ⟨n, by omega⟩ b hd i d
        · funext i d; exact trip_k m c ⟨n, by omega⟩ b hd i d
        · funext i d; exact trip_decays m c ⟨n, by omega⟩ b hd i d
        · funext j; exact trip_v m c ⟨n, by omega⟩ b hd j e
        · funext d; exact state_eq m c b hd d e n (by omega)
    · rw [if_neg hn]
      exact rows_eq n' b hd i e n (by omega) (by have : n'.val ≠ n := fun q => hn (Fin.ext q); omega)

theorem div_lanes (x : EReal) : Ideal.div x (Ideal.ofBits .f32 0x43400000#32) = x * ((192⁻¹ : ℝ) : EReal) := by
  rw [show Ideal.ofBits .f32 0x43400000#32 = ((192 : ℝ) : EReal) by simp [Ideal.ofBits, Ideal.ieee, -EReal.coe_mul]; norm_num]
  unfold Ideal.div
  rw [if_neg (by norm_num), EReal.coe_inv]

theorem wide_at (y : FVec Ideal S2x4096x4x256 .f32) (b : Fin 2) (t : Fin 4096) (hd : Fin 4) (e : Fin 256) :
    truncf .bf16 (shapeCast S2x4096x1024 y shapeCasts_S2x4096x4x256_S2x4096x1024) bitsLt_bf16_f32 (ix3 b t ⟨256 * hd.val + e.val, by omega⟩)
      = y (ix4 b t hd e) := by
  refine (wide_apply y b t _).trans ?_
  have h1 : (⟨(256 * hd.val + e.val) / 256, by omega⟩ : Fin 4) = hd := Fin.ext (by show (256 * hd.val + e.val) / 256 = hd.val; omega)
  have h2 : (⟨(256 * hd.val + e.val) % 256, by omega⟩ : Fin 256) = e := Fin.ext (by show (256 * hd.val + e.val) % 256 = e.val; omega)
  rw [h1, h2]

theorem merge_at (w : FVec Ideal S2x4096x4x192 .f32) (b : Fin 2) (t : Fin 4096) (hd : Fin 4) (x : Fin 192) :
    shapeCast S2x4096x768 w shapeCasts_S2x4096x4x192_S2x4096x768 (ix3 b t ⟨hd.val * 192 + x.val, by omega⟩) = w (ix4 b t hd x) := by
  refine (merge_apply w b t _).trans ?_
  have h1 : (⟨(hd.val * 192 + x.val) / 192, by omega⟩ : Fin 4) = hd := Fin.ext (by show (hd.val * 192 + x.val) / 192 = hd.val; omega)
  have h2 : (⟨(hd.val * 192 + x.val) % 192, by omega⟩ : Fin 192) = x := Fin.ext (by show (hd.val * 192 + x.val) % 192 = x.val; omega)
  rw [h1, h2]

/-- The recurrence's result, entry by entry. -/
theorem result_eq (b : Fin 2) (n : Fin 64) (i : Fin 64) (hd : Fin 4) (e : Fin 256) :
    out_main_v60 (at_ m c 64) (ix3 b (rowN n.val i) ⟨256 * hd.val + e.val, by omega⟩)
      = padded (n := 192) (layerOut (argP m c) (argU m c) (argA m c) (argN m c) b hd n.val i) e := by
  unfold out_main_v60
  refine (wide_at _ b _ hd e).trans ?_
  refine (pad_apply _ b _ hd e).trans ?_
  refine congrArg (fun f => padded (n := 192) f e) (funext fun x => ?_)
  refine (heads_apply _ b _ hd x).trans ?_
  refine (gate_apply _ _ _ b _ _).trans ?_
  have hA0 : at_ m c 64 (Proc.devRef .tc main_arg0) = argP m c := iter_main_arg0 m c 64
  have hA3 : at_ m c 64 (Proc.devRef .tc main_arg3) = argN m c := iter_main_arg3 m c 64
  rw [hA0, hA3]
  have hrows : ∀ y, shapeCast S2x4096x4x192 (transpose S2x64x64x4x192 [1, 0, 3, 2, 4] (at_ m c 64 (Proc.devRef .tc main_v30_7)) transposes_S64x2x4x64x192_S2x64x64x4x192_1_0_3_2_4) shapeCasts_S2x64x64x4x192_S2x4096x4x192 (ix4 b (rowN n.val i) hd y)
      = attended (argP m c) (argU m c) (argA m c) b hd n.val i y := fun y => by
    refine (flat_apply _ b _ hd y).trans ?_
    have h1 : (⟨(rowN n.val i).val / 64, by omega⟩ : Fin 64) = n := Fin.ext (by show (64 * n.val + i.val) % 4096 / 64 = n.val; omega)
    have h2 : (⟨(rowN n.val i).val % 64, by omega⟩ : Fin 64) = i := Fin.ext (by show (64 * n.val + i.val) % 4096 % 64 = i.val; omega)
    rw [h1, h2]
    exact rows_eq m c n b hd i y 64 (le_refl _) n.isLt
  unfold layerOut
  refine congr (congrArg _ (congr (congrArg _ ?_) rfl)) rfl
  refine (merge_at _ b _ hd x).trans ?_
  refine (norm_apply _ b _ hd x).trans ?_
  simp only [hrows, div_lanes]

end Cert.ReferenceIdeal.Gla

end
-- ==== Proof.Equation.lean ====
/-
  The chunked kernel's result is the plain recurrence's, from arguments that agree.
-/
module

public import proofs.«01_k».proof.Proof.KernelValue
public import proofs.«01_k».proof.Proof.RefValue

@[expose] public section

set_option maxRecDepth 16384
noncomputable section

namespace Cert.Gla

open Idealize.ShloMosaic Idealize.ShloMosaic.TcCoe

/-- Every entry of the result lies in a row of a chunk and a lane of a head. -/
theorem same_result (x y : Vec Ideal ⟨3, ![2, 4096, 1024]⟩ .bf16)
    (h : ∀ (b : Fin 2) (n : Fin 64) (i : Fin 64) (hd : Fin 4) (e : Fin 256),
      x (ix3 b (rowN n.val i) ⟨256 * hd.val + e.val, by omega⟩) = y (ix3 b (rowN n.val i) ⟨256 * hd.val + e.val, by omega⟩)) : x = y := by
  funext j
  idx_vars j
  have h0 := h j0 ⟨j1.val / 64, by omega⟩ ⟨j1.val % 64, by omega⟩ ⟨j2.val / 256, by omega⟩ ⟨j2.val % 256, by omega⟩
  have e1 : rowN (j1.val / 64) ⟨j1.val % 64, by omega⟩ = j1 := Fin.ext (by show (64 * (j1.val / 64) + j1.val % 64) % 4096 = j1.val; omega)
  have e2 : (⟨256 * (j2.val / 256) + j2.val % 256, by omega⟩ : Fin 1024) = j2 := Fin.ext (by show 256 * (j2.val / 256) + j2.val % 256 = j2.val; omega)
  rw [e1, e2] at h0
  exact h0

/-- The two programs' results, where their arguments agree. -/
theorem results_agree (m : (l : Loc Cert.KernelIdeal.nD Cert.KernelIdeal.τ Cert.KernelIdeal.sig) → Buf (Elt Ideal) l)
    (m' : (l : Loc Cert.ReferenceIdeal.nD Cert.ReferenceIdeal.τ Cert.ReferenceIdeal.sig) → Buf (Elt Ideal) l) (c : Dev Cert.KernelIdeal.nD)
    (h0 : Cert.ReferenceIdeal.Gla.argP m' c = m (c, Proc.tc.devRef Cert.KernelIdeal.main_arg0))
    (h1 : Cert.ReferenceIdeal.Gla.argU m' c = m (c, Proc.tc.devRef Cert.KernelIdeal.main_arg1))
    (h2 : Cert.ReferenceIdeal.Gla.argA m' c = m (c, Proc.tc.devRef Cert.KernelIdeal.main_arg2))
    (h3 : Cert.ReferenceIdeal.Gla.argN m' c = m (c, Proc.tc.devRef Cert.KernelIdeal.main_arg3)) :
    Cert.ReferenceIdeal.Value.out_main_v60 (Cert.ReferenceIdeal.Gla.at_ m' c 64) = Cert.KernelIdeal.Value.G8 m c := by
  refine same_result _ _ fun b n i hd e => ?_
  refine (Cert.ReferenceIdeal.Gla.result_eq m' c b n i hd e).trans ?_
  rw [h0, h1, h2, h3]
  exact (Cert.KernelIdeal.Gla.result_eq m c b n i hd e).symm

end Cert.Gla

end
-- ==== Proof.Product.lean ====
/-
  A matrix product over the extended reals, entry by entry.
-/
module

public import Idealize.ShloMosaic.Lib.Pointwise

@[expose] public section

noncomputable section

namespace Cert.Products

open Idealize.ShloMosaic
open scoped BigOperators

/-- The product of an `M × K` by a `K × N` array. -/
def prod {M K N : ℕ} {a b : FTy} (A : FVec Ideal ⟨2, ![M, K]⟩ a) (W : FVec Ideal ⟨2, ![K, N]⟩ b) : FVec Ideal ⟨2, ![M, N]⟩ .f32 :=
  fun j => ∑ k : Fin K, A (ix2 (j 0) k) * W (ix2 k (j 1))

theorem prod_apply {M K N : ℕ} {a b : FTy} (A : FVec Ideal ⟨2, ![M, K]⟩ a) (W : FVec Ideal ⟨2, ![K, N]⟩ b) (i : Fin M) (j : Fin N) :
    prod A W (ix2 i j) = ∑ k : Fin K, A (ix2 i k) * W (ix2 k j) := rfl

end Cert.Products

end
-- ==== Proof.InValue.lean ====
/-
  The input projection: the columns of the weights laid out with zero columns between the heads, the tiled product, and the
  plain product laid out afterwards.
-/
module

public import proofs.«01_k».proof.Proof.Gen.InProjIdeal.Value
public import proofs.«01_k».proof.Proof.Gen.InProjRefIdeal.Run
public import proofs.«01_k».proof.Proof.Product
public import Idealize.ShloMosaic.Lib.Pipeline.ValueKit.Geometry
public import Idealize.ShloMosaic.Lib.StableHlo.ReadAt

@[expose] public section

set_option maxRecDepth 16384
noncomputable section

namespace Cert.Products

open Idealize.ShloMosaic
open scoped BigOperators

/-- Seven rows of columns, one after the other. -/
def join7 (f0 : Fin 2560 → EReal) (f1 f2 f3 : Fin 512 → EReal) (f4 f5 : Fin 1024 → EReal) (f6 : Fin 128 → EReal) (z : Fin 6272) : EReal :=
  if h : z.val < 2560 then f0 ⟨z.val, h⟩
  else if h : z.val - 2560 < 512 then f1 ⟨z.val - 2560, h⟩
  else if h : z.val - 2560 - 512 < 512 then f2 ⟨z.val - 2560 - 512, h⟩
  else if h : z.val - 2560 - 512 - 512 < 512 then f3 ⟨z.val - 2560 - 512 - 512, h⟩
  else if h : z.val - 2560 - 512 - 512 - 512 < 1024 then f4 ⟨z.val - 2560 - 512 - 512 - 512, h⟩
  else if h : z.val - 2560 - 512 - 512 - 512 - 1024 < 1024 then f5 ⟨z.val - 2560 - 512 - 512 - 512 - 1024, h⟩
  else f6 ⟨z.val - 2560 - 512 - 512 - 512 - 1024 - 1024, by omega⟩

/-- Four heads of 96 columns from column `o` on, each followed by 32 zeros. -/
def keys (o : Nat) (ho : o + 384 ≤ 5392) (f : Fin 5392 → EReal) (l : Fin 512) : EReal :=
  if h : l.val % 128 < 96 then f ⟨o + (l.val / 128 * 96 + l.val % 128), by omega⟩ else 0

/-- Four heads of 192 columns from column `o` on, each followed by 64 zeros. -/
def vals (o : Nat) (ho : o + 768 ≤ 5392) (f : Fin 5392 → EReal) (l : Fin 1024) : EReal :=
  if h : l.val % 256 < 192 then f ⟨o + (l.val / 256 * 192 + l.val % 256), by omega⟩ else 0

/-- The gate's 16 columns, followed by zeros. -/
def low (f : Fin 5392 → EReal) (l : Fin 128) : EReal := if h : l.val < 16 then f ⟨2816 + l.val, by omega⟩ else 0

/-- The layout of a row of projected columns. -/
def spread (f : Fin 5392 → EReal) : Fin 6272 → EReal :=
  join7 (fun l => f ⟨2832 + l.val, by omega⟩) (fun l => f ⟨l.val, by omega⟩) (keys 512 (by omega) f) (keys 896 (by omega) f)
    (vals 1280 (by omega) f) (vals 2048 (by omega) f) (low f)

/-- A sum against laid out columns is the laid out sum: the zero columns give zero. -/
theorem sum_spread {n : Nat} (x : Fin n → EReal) (w : Fin n → Fin 5392 → EReal) (z : Fin 6272) :
    ∑ k, x k * spread (w k) z = spread (fun j => ∑ k, x k * w k j) z := by
  unfold spread join7 keys vals low
  split_ifs <;> first | rfl | simp only [mul_zero, Finset.sum_const_zero]

end Cert.Products

namespace Cert.InProjIdeal.Tiles

open Idealize.ShloMosaic Idealize.ShloMosaic.TcCoe Idealize.SL.Sem Cert.InProjIdeal Cert.InProjIdeal.Gen Cert.InProjIdeal.Value Cert.Products
open scoped BigOperators

variable (m : (l : Loc nD τ sig) → Buf (Elt Ideal) l) (c : Dev nD)

theorem origin : (![0, 0] : Fin 2 → Nat) = fun _ => 0 := funext fun a => by fin_cases a <;> rfl

theorem zero_word : FloatOps.sitofp (F := Ideal) FTy.f32 0#32 = (0 : EReal) := by
  show (((0#32 : BitVec 32).toInt : ℝ) : EReal) = 0
  simp

/-- The buffers after the operations before the concatenation. -/
def pre (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10]) (fun b => m (c, b)) 31 b

/-- A row of the weights. -/
def row (k : Fin 2048) (j : Fin 5392) : EReal := m (c, Proc.tc.devRef main_arg1) (ix2 k j)

theorem pre_rwkv (k : Fin 2048) (l : Fin 2560) : pre m c main_v20 (ix2 k l) = row m c k ⟨2832 + l.val, by omega⟩ := by
  unfold pre row
  after_reads_at

theorem pre_pool (k : Fin 2048) (l : Fin 512) : pre m c main_v1 (ix2 k l) = row m c k ⟨l.val, by omega⟩ := by
  unfold pre row
  after_reads_at

theorem pre_q (k : Fin 2048) (l : Fin 512) : pre m c main_v5 (ix2 k l) = keys 512 (by omega) (row m c k) l := by
  unfold pre row keys
  rw [← zero_word]
  after_reads_at
  exact dite_congr (propext ⟨fun h => h.2, fun h => ⟨by omega, h⟩⟩) (fun _ => rfl) (fun _ => rfl)

theorem pre_k (k : Fin 2048) (l : Fin 512) : pre m c main_v9 (ix2 k l) = keys 896 (by omega) (row m c k) l := by
  unfold pre row keys
  rw [← zero_word]
  after_reads_at
  exact dite_congr (propext ⟨fun h => h.2, fun h => ⟨by omega, h⟩⟩) (fun _ => rfl) (fun _ => rfl)

theorem pre_v (k : Fin 2048) (l : Fin 1024) : pre m c main_v13 (ix2 k l) = vals 1280 (by omega) (row m c k) l := by
  unfold pre row vals
  rw [← zero_word]
  after_reads_at
  exact dite_congr (propext ⟨fun h => h.2, fun h => ⟨by omega, h⟩⟩) (fun _ => rfl) (fun _ => rfl)

theorem pre_g (k : Fin 2048) (l : Fin 1024) : pre m c main_v17 (ix2 k l) = vals 2048 (by omega) (row m c k) l := by
  unfold pre row vals
  rw [← zero_word]
  after_reads_at
  exact dite_congr (propext ⟨fun h => h.2, fun h => ⟨by omega, h⟩⟩) (fun _ => rfl) (fun _ => rfl)

theorem pre_low (k : Fin 2048) (l : Fin 128) : pre m c main_v19 (ix2 k l) = low (row m c k) l := by
  unfold pre row low
  rw [← zero_word]
  after_reads_at

theorem laid_parts (k : Fin 2048) (z : Fin 6272) :
    V m c main_v22 (ix2 k z)
      = join7 (fun l => pre m c main_v20 (ix2 k l)) (fun l => pre m c main_v1 (ix2 k l)) (fun l => pre m c main_v5 (ix2 k l))
          (fun l => pre m c main_v9 (ix2 k l)) (fun l => pre m c main_v13 (ix2 k l)) (fun l => pre m c main_v17 (ix2 k l))
          (fun l => pre m c main_v19 (ix2 k l)) z := by
  unfold V
  after_reads_at
  rfl

/-- The weights that the call is given, entry by entry. -/
theorem cast1 (k : Fin 2048) (z : Fin 6272) : V m c main_v22 (ix2 k z) = spread (row m c k) z := by
  rw [laid_parts]
  unfold spread
  simp only [pre_rwkv, pre_pool, pre_q, pre_k, pre_v, pre_g, pre_low]

/-- One tile's product, entry by entry. -/
theorem tile (x0 : Vec Ideal S1024x2048 .bf16) (x1 : Vec Ideal S2048x896 .bf16) (i : Fin 1024) (j : Fin 896) :
    out0_2 x0 x1 (ix2 i j) = ∑ k : Fin 2048, x0 (ix2 i k) * x1 (ix2 k j) := by
  unfold out0_2
  rw [View.canon_unit_zero origin]
  simp only [View.ld_unit_zero (S := S1024x2048) origin, View.ld_unit_zero (S := S2048x896) origin]
  pointwise [k0_pay1]

/-- The product of the arguments, laid out. -/
def G : Vec Ideal S8192x6272 .f32 := fun i =>
  spread (fun j => prod (a := .f32) (b := .f32) (m (c, Proc.tc.devRef main_arg0)) (m (c, Proc.tc.devRef main_arg1)) (ix2 (i 0) j)) (i 1)

theorem place0 : ∀ t : Fin cfg0.N, win0_0.index t (0 : Fin 2) = t.val / 7 ∧ win0_0.index t (1 : Fin 2) = 0 :=
  (by decide +kernel : ∀ t : Fin grid0.N, _)
theorem place1 : ∀ t : Fin cfg0.N, win0_1.index t (0 : Fin 2) = 0 ∧ win0_1.index t (1 : Fin 2) = t.val % 7 :=
  (by decide +kernel : ∀ t : Fin grid0.N, _)
theorem place2 : ∀ t : Fin cfg0.N, win0_2.index t (0 : Fin 2) = t.val / 7 ∧ win0_2.index t (1 : Fin 2) = t.val % 7 :=
  (by decide +kernel : ∀ t : Fin grid0.N, _)

theorem cast0 (i : Fin 8192) (k : Fin 2048) : V m c main_v0 (ix2 i k) = m (c, Proc.tc.devRef main_arg0) (ix2 i k) := by
  unfold V
  after_reads_at

theorem blk0 (t : Fin cfg0.N) (i : Fin 1024) (k : Fin 2048) (r : Fin 8192) (hr : r.val = t.val / 7 * 1024 + i.val) :
    iblk m c 0 t (ix2 i k) = m (c, Proc.tc.devRef main_arg0) (ix2 r k) := by
  obtain ⟨h0, h1⟩ := place0 t
  unfold iblk
  refine Eq.trans (congrArg (V m c main_v0) (funext fun a => Fin.ext ?_)) (cast0 m c r k)
  match a with
  | ⟨0, _⟩ => show win0_0.index t (0 : Fin 2) * 1024 + 1 * i.val = r.val; omega
  | ⟨1, _⟩ => show win0_0.index t (1 : Fin 2) * 2048 + 1 * k.val = k.val; omega

theorem blk1 (t : Fin cfg0.N) (k : Fin 2048) (j : Fin 896) (s : Fin 6272) (hs : s.val = t.val % 7 * 896 + j.val) :
    iblk m c 1 t (ix2 k j) = spread (row m c k) s := by
  obtain ⟨h0, h1⟩ := place1 t
  unfold iblk
  refine Eq.trans (congrArg (V m c main_v22) (funext fun a => Fin.ext ?_)) (cast1 m c k s)
  match a with
  | ⟨0, _⟩ => show win0_1.index t (0 : Fin 2) * 2048 + 1 * k.val = k.val; omega
  | ⟨1, _⟩ => show win0_1.index t (1 : Fin 2) * 896 + 1 * j.val = s.val; omega

theorem points : cfg0.N = 56 := by decide

/-- What a point writes back is its block of the product. -/
theorem flushed_eq (t : Fin cfg0.N) : (dats m 0 c).flushed 2 t = ((cfg0.win 2).blk t).view.read (Elt Ideal) (G m c) := by
  rw [flushed2]
  obtain ⟨h0, h1⟩ := place2 t
  have ht := Nat.lt_of_lt_of_eq t.isLt points
  funext y
  have hy0 : (y 0).val < 1024 := (y 0).isLt
  have hy1 : (y 1).val < 896 := (y 1).isLt
  have ein : (cfg0.win 2).xinj (grid0.coords t) y = ix2 (⟨(y 0).val, hy0⟩ : Fin 1024) (⟨(y 1).val, hy1⟩ : Fin 896) :=
    funext fun a => Fin.ext (match a with | ⟨0, _⟩ => rfl | ⟨1, _⟩ => rfl)
  have eout : ((cfg0.win 2).blk t).view.emb y = ix2 (⟨t.val / 7 * 1024 + (y 0).val, by omega⟩ : Fin 8192) (⟨t.val % 7 * 896 + (y 1).val, by omega⟩ : Fin 6272) :=
    funext fun a => Fin.ext (match a with
      | ⟨0, _⟩ => by show win0_2.index t (0 : Fin 2) * 1024 + 1 * (y 0).val = t.val / 7 * 1024 + (y 0).val; omega
      | ⟨1, _⟩ => by show win0_2.index t (1 : Fin 2) * 896 + 1 * (y 1).val = t.val % 7 * 896 + (y 1).val; omega)
  show out0_2 (iblk m c 0 t) (iblk m c 1 t) ((cfg0.win 2).xinj (grid0.coords t) y) = G m c (((cfg0.win 2).blk t).view.emb y)
  rw [ein, eout]
  refine (tile (iblk m c 0 t) (iblk m c 1 t) _ _).trans ?_
  refine Eq.trans (Finset.sum_congr rfl fun k _ => congrArg₂ (fun x y : EReal => x * y) (blk0 m c t ⟨(y 0).val, hy0⟩ k ⟨t.val / 7 * 1024 + (y 0).val, by omega⟩ rfl)
    (blk1 m c t k ⟨(y 1).val, hy1⟩ ⟨t.val % 7 * 896 + (y 1).val, by omega⟩ rfl)) ?_
  exact sum_spread _ _ _

/-- The blocks tile the array. -/
theorem covered (i : S8192x6272.Idx) : ∃ t : Fin cfg0.N, (cfg0.win 2).flush t = true ∧ i ∈ ((cfg0.win 2).blk t).view.set := by
  have h0 : (i 0).val < 8192 := (i 0).isLt
  have h1 : (i 1).val < 6272 := (i 1).isLt
  obtain ⟨t, ht⟩ : ∃ t : Fin cfg0.N, t.val = (i 0).val / 1024 * 7 + (i 1).val / 896 := ⟨⟨_, by rw [points]; omega⟩, rfl⟩
  obtain ⟨p0, p1⟩ := place2 t
  refine ⟨t, flush0_2 t, ?_⟩
  show i ∈ ((View.whole main_v23).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 896 ≤ (i 1).val ∧ (i 1).val < win0_2.index t (1 : Fin 2) * 896 + 896; omega

/-- The array ends as the product of the arguments. -/
theorem final : (dats m 0 c).arrAt 2 cfg0.N = G m c :=
  (dats m 0 c).arrAt_eq_of_cover 2 (G m c) (fun t _ => flushed_eq m c t) covered

end Cert.InProjIdeal.Tiles

namespace Cert.InProjRefIdeal.Tiles

open Idealize.ShloMosaic Idealize.ShloMosaic.TcCoe Idealize.SL.Sem Cert.InProjRefIdeal Cert.InProjRefIdeal.Gen Cert.Products

/-- The reference's product, as the plain sum. -/
theorem dot (A : FVec Ideal S8192x2048 .f32) (W : FVec Ideal S2048x5392 .f32) :
    Host.dotGeneral dot_S8192x2048_S2048x5392_S8192x5392_1_0_0_1_n_n none A W = prod (a := .f32) (b := .f32) A W := by
  funext j
  idx_vars j
  rw [prod_apply]
  pointwise

theorem joined (A0 : FVec Ideal S8192x2560 .f32) (A1 A2 A3 : FVec Ideal S8192x512 .f32) (A4 A5 : FVec Ideal S8192x1024 .f32)
    (A6 : FVec Ideal S8192x128 .f32) (r : Fin 8192) (z : Fin 6272) :
    concatenate S8192x6272 1 [⟨S8192x2560, A0⟩, ⟨S8192x512, A1⟩, ⟨S8192x512, A2⟩, ⟨S8192x512, A3⟩, ⟨S8192x1024, A4⟩, ⟨S8192x1024, A5⟩, ⟨S8192x128, A6⟩] concatenates_S8192x2560_S8192x512_S8192x512_S8192x512_S8192x1024_S8192x1024_S8192x128_S8192x6272_d1 (ix2 r z)
      = join7 (fun l => A0 (ix2 r l)) (fun l => A1 (ix2 r l)) (fun l => A2 (ix2 r l)) (fun l => A3 (ix2 r l)) (fun l => A4 (ix2 r l))
          (fun l => A5 (ix2 r l)) (fun l => A6 (ix2 r l)) z := by
  unfold join7
  pointwise

variable (D : FVec Ideal S8192x5392 .f32)

def part_q : FVec Ideal S8192x512 .f32 := shapeCast _ (concatenate S8192x4x128 2 [⟨S8192x4x96, (shapeCast _ (extractStridedSlice S8192x384 ![0, 512] D slices_S8192x5392_S8192x384_0_512) shapeCasts_S8192x384_S8192x4x96)⟩, ⟨S8192x4x32, (broadcastInDim S8192x4x32 ![] bcast_S_S8192x4x32 (constant (F := Ideal) S_ .f32 0x00000000#32))⟩] concatenates_S8192x4x96_S8192x4x32_S8192x4x128_d2) shapeCasts_S8192x4x128_S8192x512

theorem part_q_at (r : Fin 8192) (l : Fin 512) : part_q D (ix2 r l) = keys 512 (by omega) (fun j => D (ix2 r j)) l := by
  unfold part_q keys
  pointwise

def part_k : FVec Ideal S8192x512 .f32 := shapeCast _ (concatenate S8192x4x128 2 [⟨S8192x4x96, (shapeCast _ (extractStridedSlice S8192x384 ![0, 896] D slices_S8192x5392_S8192x384_0_896) shapeCasts_S8192x384_S8192x4x96)⟩, ⟨S8192x4x32, (broadcastInDim S8192x4x32 ![] bcast_S_S8192x4x32 (constant (F := Ideal) S_ .f32 0x00000000#32))⟩] concatenates_S8192x4x96_S8192x4x32_S8192x4x128_d2) shapeCasts_S8192x4x128_S8192x512

theorem part_k_at (r : Fin 8192) (l : Fin 512) : part_k D (ix2 r l) = keys 896 (by omega) (fun j => D (ix2 r j)) l := by
  unfold part_k keys
  pointwise

def part_v : FVec Ideal S8192x1024 .f32 := shapeCast _ (concatenate S8192x4x256 2 [⟨S8192x4x192, (shapeCast _ (extractStridedSlice S8192x768 ![0, 1280] D slices_S8192x5392_S8192x768_0_1280) shapeCasts_S8192x768_S8192x4x192)⟩, ⟨S8192x4x64, (broadcastInDim S8192x4x64 ![] bcast_S_S8192x4x64 (constant (F := Ideal) S_ .f32 0x00000000#32))⟩] concatenates_S8192x4x192_S8192x4x64_S8192x4x256_d2) shapeCasts_S8192x4x256_S8192x1024

theorem part_v_at (r : Fin 8192) (l : Fin 1024) : part_v D (ix2 r l) = vals 1280 (by omega) (fun j => D (ix2 r j)) l := by
  unfold part_v vals
  pointwise

def part_g : FVec Ideal S8192x1024 .f32 := shapeCast _ (concatenate S8192x4x256 2 [⟨S8192x4x192, (shapeCast _ (extractStridedSlice S8192x768 ![0, 2048] D slices_S8192x5392_S8192x768_0_2048) shapeCasts_S8192x768_S8192x4x192)⟩, ⟨S8192x4x64, (broadcastInDim S8192x4x64 ![] bcast_S_S8192x4x64 (constant (F := Ideal) S_ .f32 0x00000000#32))⟩] concatenates_S8192x4x192_S8192x4x64_S8192x4x256_d2) shapeCasts_S8192x4x256_S8192x1024

theorem part_g_at (r : Fin 8192) (l : Fin 1024) : part_g D (ix2 r l) = vals 2048 (by omega) (fun j => D (ix2 r j)) l := by
  unfold part_g vals
  pointwise

def part_low : FVec Ideal S8192x128 .f32 := shapeCast _ (concatenate S8192x1x128 2 [⟨S8192x1x16, (shapeCast _ (extractStridedSlice S8192x16 ![0, 2816] D slices_S8192x5392_S8192x16_0_2816) shapeCasts_S8192x16_S8192x1x16)⟩, ⟨S8192x1x112, (broadcastInDim S8192x1x112 ![] bcast_S_S8192x1x112 (constant (F := Ideal) S_ .f32 0x00000000#32))⟩] concatenates_S8192x1x16_S8192x1x112_S8192x1x128_d2) shapeCasts_S8192x1x128_S8192x128

theorem part_low_at (r : Fin 8192) (l : Fin 128) : part_low D (ix2 r l) = low (fun j => D (ix2 r j)) l := by
  unfold part_low low
  pointwise

/-- The reference's result, of its product. -/
def whole : FVec Ideal S8192x6272 .f32 :=
  concatenate S8192x6272 1 [⟨S8192x2560, extractStridedSlice S8192x2560 ![0, 2832] D slices_S8192x5392_S8192x2560_0_2832⟩, ⟨S8192x512, extractStridedSlice S8192x512 ![0, 0] D slices_S8192x5392_S8192x512_0_0⟩, ⟨S8192x512, part_q D⟩, ⟨S8192x512, part_k D⟩, ⟨S8192x1024, part_v D⟩, ⟨S8192x1024, part_g D⟩, ⟨S8192x128, part_low D⟩] concatenates_S8192x2560_S8192x512_S8192x512_S8192x512_S8192x1024_S8192x1024_S8192x128_S8192x6272_d1

theorem slice_rwkv (r : Fin 8192) (l : Fin 2560) : extractStridedSlice S8192x2560 ![0, 2832] D slices_S8192x5392_S8192x2560_0_2832 (ix2 r l) = D (ix2 r ⟨2832 + l.val, by omega⟩) := by
  pointwise

theorem slice_pool (r : Fin 8192) (l : Fin 512) : extractStridedSlice S8192x512 ![0, 0] D slices_S8192x5392_S8192x512_0_0 (ix2 r l) = D (ix2 r ⟨l.val, by omega⟩) := by
  pointwise

/-- The reference lays the product out. -/
theorem whole_eq : whole D = fun i => spread (fun j => D (ix2 (i 0) j)) (i 1) := by
  funext i
  idx_vars i
  unfold whole
  rw [joined]
  simp only [slice_rwkv, slice_pool, part_q_at, part_k_at, part_v_at, part_g_at, part_low_at]
  rfl

end Cert.InProjRefIdeal.Tiles

end
-- ==== Proof.InProjClaims.lean ====
/-
  The claims about the input projection.
-/
module

public import proofs.«01_k».proof.Defs
public import proofs.«01_k».proof.Proof.Gen.InProj.Frame
public import proofs.«01_k».proof.Proof.InValue
public import Idealize.ShloMosaic.Lib.Quiescent

@[expose] public section

noncomputable section

namespace Cert.Proof.InProj

open Idealize.ShloMosaic Idealize.SL.Sem

theorem frame_kernel : Cert.quiescent_InProj := fun m ρ _ => Cert.InProj.Gen.frame m ρ

theorem frame_ideal : Cert.quiescent_InProjIdeal := fun m ρ _ => Cert.InProjIdeal.Gen.frame m ρ

theorem frame_reference : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Both programs leave the product of the arguments, laid out. -/
theorem equal : Cert.algebraic_InProjIdeal_InProjRefIdeal := by
  intro m g m' g' _ agree
  refine ⟨fun c => Cert.InProjIdeal.Tiles.G m c, ?_, ?_⟩
  · exact (θ_run _ _ _).mono (fun _ h c => ⟨(h c).1.trans (Cert.InProjIdeal.Tiles.final m c), (h c).2⟩)
      (Cert.InProjIdeal.Value.run_blocks (F := Ideal) m g)
  · refine (θ_run _ _ _).mono (fun _ h c => ⟨(h c).1.trans ?_, (h c).2⟩) (Cert.InProjRefIdeal.Value.run (F := Ideal) m' g')
    rw [(agree c).1, (agree c).2]
    refine (Cert.InProjRefIdeal.Tiles.whole_eq _).trans ?_
    rw [Cert.InProjRefIdeal.Tiles.dot]
    rfl

end Cert.Proof.InProj

end
-- ==== Proof.OutValue.lean ====
/-
  The output projection with its gate and residual: the heads' channels are read with padding in between, and the three
  products of the tiles add up to the plain one.
-/
module

public import proofs.«01_k».proof.Proof.Gen.OutProjIdeal.Value
public import proofs.«01_k».proof.Proof.Gen.OutProjRefIdeal.Run
public import proofs.«01_k».proof.Proof.Product
public import Idealize.ShloMosaic.Lib.Pipeline.ValueKit.Geometry
public import Idealize.ShloMosaic.Lib.StableHlo.ReadAt

@[expose] public section

set_option maxRecDepth 16384
noncomputable section

namespace Cert.Products

open Idealize.ShloMosaic
open scoped BigOperators

/-- Four heads of 192 channels, each followed by 64 zeros. -/
def heads (f : Fin 768 → EReal) (l : Fin 1024) : EReal :=
  if h : l.val % 256 < 192 then f ⟨l.val / 256 * 192 + l.val % 256, by omega⟩ else 0

theorem heads_mul (f g : Fin 768 → EReal) (l : Fin 1024) : heads f l * heads g l = heads (fun k => f k * g k) l := by
  unfold heads
  split_ifs <;> simp

/-- The zeros between the heads add nothing. -/
theorem sum_heads (f : Fin 768 → EReal) : ∑ l, heads f l = ∑ k, f k := by
  symm
  refine Finset.sum_of_injOn (fun k : Fin 768 => (⟨k.val / 192 * 256 + k.val % 192, by omega⟩ : Fin 1024)) ?_ (fun _ _ => Finset.mem_coe.2 (Finset.mem_univ _)) ?_ ?_
  · intro a _ b _ h
    have h' : a.val / 192 * 256 + a.val % 192 = b.val / 192 * 256 + b.val % 192 := congrArg Fin.val h
    exact Fin.ext (by omega)
  · intro l _ hl
    unfold heads
    refine dif_neg fun h => hl ⟨⟨l.val / 256 * 192 + l.val % 256, by omega⟩, Finset.mem_coe.2 (Finset.mem_univ _), Fin.ext ?_⟩
    show (l.val / 256 * 192 + l.val % 256) / 192 * 256 + (l.val / 256 * 192 + l.val % 256) % 192 = l.val
    omega
  · intro k _
    unfold heads
    rw [dif_pos (by show (k.val / 192 * 256 + k.val % 192) % 256 < 192; omega)]
    refine congrArg f (Fin.ext ?_)
    show k.val = (k.val / 192 * 256 + k.val % 192) / 256 * 192 + (k.val / 192 * 256 + k.val % 192) % 256
    omega

/-- A sum over 2048 channels in three stretches. -/
theorem sum_stretches (f : Fin 2048 → EReal) :
    ∑ k, f k = ∑ k : Fin 512, f ⟨k.val, by omega⟩ + ∑ k : Fin 768, f ⟨512 + k.val, by omega⟩ + ∑ k : Fin 768, f ⟨1280 + k.val, by omega⟩ := by
  refine (Fin.sum_univ_add (a := 512) (b := 1536) f).trans ?_
  rw [add_assoc]
  refine congrArg₂ (fun x y : EReal => x + y) rfl ?_
  refine (Fin.sum_univ_add (a := 768) (b := 768) fun k : Fin 1536 => f (Fin.natAdd 512 k)).trans ?_
  refine congrArg₂ (fun x y : EReal => x + y) rfl (Finset.sum_congr rfl fun k _ => congrArg f (Fin.ext ?_))
  show 512 + (768 + k.val) = 1280 + k.val
  omega

/-- The same, with the middle stretch's heads padded on both sides. -/
theorem sum_padded (f g : Fin 2048 → EReal) :
    ∑ k : Fin 512, f ⟨k.val, by omega⟩ * g ⟨k.val, by omega⟩
        + ∑ l : Fin 1024, heads (fun k => f ⟨512 + k.val, by omega⟩) l * heads (fun k => g ⟨512 + k.val, by omega⟩) l
        + ∑ k : Fin 768, f ⟨1280 + k.val, by omega⟩ * g ⟨1280 + k.val, by omega⟩
      = ∑ k, f k * g k := by
  rw [sum_stretches fun k => f k * g k]
  simp only [heads_mul]
  rw [sum_heads]

end Cert.Products

namespace Cert.OutProjIdeal.Tiles

open Idealize.ShloMosaic Idealize.ShloMosaic.TcCoe Idealize.SL.Sem Cert.OutProjIdeal Cert.OutProjIdeal.Gen Cert.OutProjIdeal.Value Cert.Products
open scoped BigOperators

variable (m : (l : Loc nD τ sig) → Buf (Elt Ideal) l) (c : Dev nD)

theorem origin : (![0, 0] : Fin 2 → Nat) = fun _ => 0 := funext fun a => by fin_cases a <;> rfl
theorem origin3 : (![0, 0, 0] : Fin 3 → Nat) = fun _ => 0 := funext fun a => by fin_cases a <;> rfl

/-- One tile's result, entry by entry. -/
theorem tile (x0 : Vec Ideal S1024x512 .bf16) (x1 : Vec Ideal S1024x1024 .bf16) (x2 : Vec Ideal S1024x768 .bf16) (x3 : Vec Ideal S512x1024 .bf16)
    (x4 : Vec Ideal S1024x1024 .bf16) (x5 : Vec Ideal S768x1024 .bf16) (x6 : Vec Ideal S1024x1024 .f32) (x7 : Vec Ideal S1x1x1024 .f32) (i j : Fin 1024) :
    out0_8 x0 x1 x2 x3 x4 x5 x6 x7 (ix2 i j)
      = x6 (ix2 i j) + x7 (ix3 0 0 j) * (∑ k : Fin 512, x0 (ix2 i k) * x3 (ix2 k j) + ∑ k : Fin 1024, x1 (ix2 i k) * x4 (ix2 k j)
          + ∑ k : Fin 768, x2 (ix2 i k) * x5 (ix2 k j)) := by
  unfold out0_8
  rw [View.canon_unit_zero origin]
  simp only [View.ld_unit_zero (S := S1024x512) origin, View.ld_unit_zero (S := S512x1024) origin, View.ld_unit_zero (S := S1024x1024) origin,
    View.ld_unit_zero (S := S1024x768) origin, View.ld_unit_zero (S := S768x1024) origin, View.ld_unit_zero (S := S1x1x1024) origin3]
  pointwise [k0_pay1]

theorem zero_word : FloatOps.sitofp (F := Ideal) FTy.f32 0#32 = (0 : EReal) := by
  show (((0#32 : BitVec 32).toInt : ℝ) : EReal) = 0
  simp
theorem zero_half : FloatOps.sitofp (F := Ideal) FTy.bf16 0#32 = (0 : EReal) := zero_word

/-- The arguments. -/
def Y : FVec Ideal S8192x2048 .f32 := m (c, Proc.tc.devRef main_arg0)
def W : FVec Ideal S2048x2048 .f32 := m (c, Proc.tc.devRef main_arg1)
def X : FVec Ideal S8192x2048 .f32 := m (c, Proc.tc.devRef main_arg2)
def M : FVec Ideal S2x12288 .f32 := m (c, Proc.tc.devRef main_arg3)

/-- The residual plus the gated product of the arguments. -/
def gated (Y : FVec Ideal S8192x2048 .f32) (W : FVec Ideal S2048x2048 .f32) (X : FVec Ideal S8192x2048 .f32) (M : FVec Ideal S2x12288 .f32) :
    FVec Ideal S8192x2048 .f32 := fun i =>
  X i + M (ix2 (⟨(i 0).val / 4096, by have := (i 0).isLt; change (i 0).val < 8192 at this; omega⟩ : Fin 2) (⟨4096 + (i 1).val, by have := (i 1).isLt; change (i 1).val < 2048 at this; omega⟩ : Fin 12288))
    * prod (a := .f32) (b := .f32) Y W i

def G : Vec Ideal S8192x2048 .f32 := gated (Y m c) (W m c) (X m c) (M m c)

theorem arr0 (r : Fin 8192) (k : Fin 512) : V m c main_v9 (ix2 r k) = Y m c (ix2 r ⟨k.val, by omega⟩) := by
  unfold V Y
  after_reads_at

theorem arr1 (r : Fin 8192) (l : Fin 1024) : V m c main_v4 (ix2 r l) = heads (fun k => Y m c (ix2 r ⟨512 + k.val, by omega⟩)) l := by
  unfold V heads Y
  rw [← zero_half]
  after_reads_at
  exact dite_congr (propext ⟨fun h => h.2, fun h => ⟨by omega, h⟩⟩) (fun _ => rfl) (fun _ => rfl)

theorem arr2 (r : Fin 8192) (k : Fin 768) : V m c main_v10 (ix2 r k) = Y m c (ix2 r ⟨1280 + k.val, by omega⟩) := by
  unfold V Y
  after_reads_at

theorem arr3 (k : Fin 512) (s : Fin 2048) : V m c main_v12 (ix2 k s) = W m c (ix2 ⟨k.val, by omega⟩ s) := by
  unfold V W
  after_reads_at

theorem arr4 (l : Fin 1024) (s : Fin 2048) : V m c main_v13 (ix2 l s) = heads (fun k => W m c (ix2 ⟨512 + k.val, by omega⟩ s)) l := by
  unfold V heads W
  rw [← zero_word]
  after_reads_at
  exact dite_congr (propext ⟨fun h => h.2, fun h => ⟨by omega, h⟩⟩) (fun _ => rfl) (fun _ => rfl)

theorem arr5 (k : Fin 768) (s : Fin 2048) : V m c main_v15 (ix2 k s) = W m c (ix2 ⟨1280 + k.val, by omega⟩ s) := by
  unfold V W
  after_reads_at

theorem arr6 (r : Fin 8192) (s : Fin 2048) : V m c main_arg2 (ix2 r s) = X m c (ix2 r s) := by
  unfold V X
  after_reads_at

theorem arr7 (b : Fin 2) (s : Fin 12288) : V m c main_v16 (ix3 b 0 s) = M m c (ix2 b s) := by
  unfold V M
  after_reads_at

theorem place0 : ∀ t : Fin cfg0.N, win0_0.index t (0 : Fin 2) = t.val / 2 ∧ win0_0.index t (1 : Fin 2) = 0 :=
  (by decide +kernel : ∀ t : Fin grid0.N, _)
theorem place1 : ∀ t : Fin cfg0.N, win0_1.index t (0 : Fin 2) = t.val / 2 ∧ win0_1.index t (1 : Fin 2) = 0 :=
  (by decide +kernel : ∀ t : Fin grid0.N, _)
theorem place2 : ∀ t : Fin cfg0.N, win0_2.index t (0 : Fin 2) = t.val / 2 ∧ win0_2.index t (1 : Fin 2) = 0 :=
  (by decide +kernel : ∀ t : Fin grid0.N, _)
theorem place3 : ∀ t : Fin cfg0.N, win0_3.index t (0 : Fin 2) = 0 ∧ win0_3.index t (1 : Fin 2) = t.val % 2 :=
  (by decide +kernel : ∀ t : Fin grid0.N, _)
theorem place4 : ∀ t : Fin cfg0.N, win0_4.index t (0 : Fin 2) = 0 ∧ win0_4.index t (1 : Fin 2) = t.val % 2 :=
  (by decide +kernel : ∀ t : Fin grid0.N, _)
theorem place5 : ∀ t : Fin cfg0.N, win0_5.index t (0 : Fin 2) = 0 ∧ win0_5.index t (1 : Fin 2) = t.val % 2 :=
  (by decide +kernel : ∀ t : Fin grid0.N, _)
theorem place6 : ∀ t : Fin cfg0.N, win0_6.index t (0 : Fin 2) = t.val / 2 ∧ win0_6.index t (1 : Fin 2) = t.val % 2 :=
  (by decide +kernel : ∀ t : Fin grid0.N, _)
theorem place7 : ∀ t : Fin cfg0.N, win0_7.index t (0 : Fin 3) = t.val / 8 ∧ win0_7.index t (1 : Fin 3) = 0 ∧ win0_7.index t (2 : Fin 3) = 4 + t.val % 2 :=
  (by decide +kernel : ∀ t : Fin grid0.N, _)
theorem place8 : ∀ t : Fin cfg0.N, win0_8.index t (0 : Fin 2) = t.val / 2 ∧ win0_8.index t (1 : Fin 2) = t.val % 2 :=
  (by decide +kernel : ∀ t : Fin grid0.N, _)

theorem blk0 (t : Fin cfg0.N) (i : Fin 1024) (k : Fin 512) (r : Fin 8192) (hr : r.val = t.val / 2 * 1024 + i.val) :
    iblk m c 0 t (ix2 i k) = Y m c (ix2 r ⟨k.val, by omega⟩) := by
  obtain ⟨h0, h1⟩ := place0 t
  unfold iblk
  refine Eq.trans (congrArg (V m c main_v9) (funext fun a => Fin.ext ?_)) (arr0 m c r k)
  match a with
  | ⟨0, _⟩ => show win0_0.index t (0 : Fin 2) * 1024 + 1 * i.val = r.val; omega
  | ⟨1, _⟩ => show win0_0.index t (1 : Fin 2) * 512 + 1 * k.val = k.val; omega

theorem blk1 (t : Fin cfg0.N) (i : Fin 1024) (k : Fin 1024) (r : Fin 8192) (hr : r.val = t.val / 2 * 1024 + i.val) :
    iblk m c 1 t (ix2 i k) = heads (fun k => Y m c (ix2 r ⟨512 + k.val, by omega⟩)) k := by
  obtain ⟨h0, h1⟩ := place1 t
  unfold iblk
  refine Eq.trans (congrArg (V m c main_v4) (funext fun a => Fin.ext ?_)) (arr1 m c r k)
  match a with
  | ⟨0, _⟩ => show win0_1.index t (0 : Fin 2) * 1024 + 1 * i.val = r.val; omega
  | ⟨1, _⟩ => show win0_1.index t (1 : Fin 2) * 1024 + 1 * k.val = k.val; omega

theorem blk2 (t : Fin cfg0.N) (i : Fin 1024) (k : Fin 768) (r : Fin 8192) (hr : r.val = t.val / 2 * 1024 + i.val) :
    iblk m c 2 t (ix2 i k) = Y m c (ix2 r ⟨1280 + k.val, by omega⟩) := by
  obtain ⟨h0, h1⟩ := place2 t
  unfold iblk
  refine Eq.trans (congrArg (V m c main_v10) (funext fun a => Fin.ext ?_)) (arr2 m c r k)
  match a with
  | ⟨0, _⟩ => show win0_2.index t (0 : Fin 2) * 1024 + 1 * i.val = r.val; omega
  | ⟨1, _⟩ => show win0_2.index t (1 : Fin 2) * 768 + 1 * k.val = k.val; omega

theorem blk3 (t : Fin cfg0.N) (k : Fin 512) (j : Fin 1024) (s : Fin 2048) (hs : s.val = t.val % 2 * 1024 + j.val) :
    iblk m c 3 t (ix2 k j) = W m c (ix2 ⟨k.val, by omega⟩ s) := by
  obtain ⟨h0, h1⟩ := place3 t
  unfold iblk
  refine Eq.trans (congrArg (V m c main_v12) (funext fun a => Fin.ext ?_)) (arr3 m c k s)
  match a with
  | ⟨0, _⟩ => show win0_3.index t (0 : Fin 2) * 512 + 1 * k.val = k.val; omega
  | ⟨1, _⟩ => show win0_3.index t (1 : Fin 2) * 1024 + 1 * j.val = s.val; omega

theorem blk4 (t : Fin cfg0.N) (k : Fin 1024) (j : Fin 1024) (s : Fin 2048) (hs : s.val = t.val % 2 * 1024 + j.val) :
    iblk m c 4 t (ix2 k j) = heads (fun k => W m c (ix2 ⟨512 + k.val, by omega⟩ s)) k := by
  obtain ⟨h0, h1⟩ := place4 t
  unfold iblk
  refine Eq.trans (congrArg (V m c main_v13) (funext fun a => Fin.ext ?_)) (arr4 m c k s)
  match a with
  | ⟨0, _⟩ => show win0_4.index t (0 : Fin 2) * 1024 + 1 * k.val = k.val; omega
  | ⟨1, _⟩ => show win0_4.index t (1 : Fin 2) * 1024 + 1 * j.val = s.val; omega

theorem blk5 (t : Fin cfg0.N) (k : Fin 768) (j : Fin 1024) (s : Fin 2048) (hs : s.val = t.val % 2 * 1024 + j.val) :
    iblk m c 5 t (ix2 k j) = W m c (ix2 ⟨1280 + k.val, by omega⟩ s) := by
  obtain ⟨h0, h1⟩ := place5 t
  unfold iblk
  refine Eq.trans (congrArg (V m c main_v15) (funext fun a => Fin.ext ?_)) (arr5 m c k s)
  match a with
  | ⟨0, _⟩ => show win0_5.index t (0 : Fin 2) * 768 + 1 * k.val = k.val; omega
  | ⟨1, _⟩ => show win0_5.index t (1 : Fin 2) * 1024 + 1 * j.val = s.val; omega

theorem blk6 (t : Fin cfg0.N) (i j : Fin 1024) (r : Fin 8192) (s : Fin 2048) (hr : r.val = t.val / 2 * 1024 + i.val) (hs : s.val = t.val % 2 * 1024 + j.val) :
    iblk m c 6 t (ix2 i j) = X m c (ix2 r s) := by
  obtain ⟨h0, h1⟩ := place6 t
  unfold iblk
  refine Eq.trans (congrArg (V m c main_arg2) (funext fun a => Fin.ext ?_)) (arr6 m c r s)
  match a with
  | ⟨0, _⟩ => show win0_6.index t (0 : Fin 2) * 1024 + 1 * i.val = r.val; omega
  | ⟨1, _⟩ => show win0_6.index t (1 : Fin 2) * 1024 + 1 * j.val = s.val; omega

theorem blk7 (t : Fin cfg0.N) (j : Fin 1024) (b : Fin 2) (s : Fin 12288) (hb : b.val = t.val / 8) (hs : s.val = (4 + t.val % 2) * 1024 + j.val) :
    iblk m c 7 t (ix3 0 0 j) = M m c (ix2 b s) := by
  obtain ⟨h0, h1, h2⟩ := place7 t
  unfold iblk
  refine Eq.trans (congrArg (V m c main_v16) (funext fun a => Fin.ext ?_)) (arr7 m c b s)
  match a with
  | ⟨0, _⟩ => show win0_7.index t (0 : Fin 3) * 1 + 1 * 0 = b.val; omega
  | ⟨1, _⟩ => show win0_7.index t (1 : Fin 3) * 1 + 1 * 0 = 0; omega
  | ⟨2, _⟩ => show win0_7.index t (2 : Fin 3) * 1024 + 1 * j.val = s.val; omega

theorem points : cfg0.N = 16 := by decide

/-- What a point writes back is its block of the result. -/
theorem flushed_eq (t : Fin cfg0.N) : (dats m 0 c).flushed 8 t = ((cfg0.win 8).blk t).view.read (Elt Ideal) (G m c) := by
  rw [flushed8]
  obtain ⟨h0, h1⟩ := place8 t
  have ht := Nat.lt_of_lt_of_eq t.isLt points
  funext y
  have hy0 : (y 0).val < 1024 := (y 0).isLt
  have hy1 : (y 1).val < 1024 := (y 1).isLt
  have ein : (cfg0.win 8).xinj (grid0.coords t) y = ix2 (⟨(y 0).val, hy0⟩ : Fin 1024) (⟨(y 1).val, hy1⟩ : Fin 1024) :=
    funext fun a => Fin.ext (match a with | ⟨0, _⟩ => rfl | ⟨1, _⟩ => rfl)
  have eout : ((cfg0.win 8).blk t).view.emb y = ix2 (⟨t.val / 2 * 1024 + (y 0).val, by omega⟩ : Fin 8192) (⟨t.val % 2 * 1024 + (y 1).val, by omega⟩ : Fin 2048) :=
    funext fun a => Fin.ext (match a with
      | ⟨0, _⟩ => by show win0_8.index t (0 : Fin 2) * 1024 + 1 * (y 0).val = t.val / 2 * 1024 + (y 0).val; omega
      | ⟨1, _⟩ => by show win0_8.index t (1 : Fin 2) * 1024 + 1 * (y 1).val = t.val % 2 * 1024 + (y 1).val; omega)
  show out0_8 (iblk m c 0 t) (iblk m c 1 t) (iblk m c 2 t) (iblk m c 3 t) (iblk m c 4 t) (iblk m c 5 t) (iblk m c 6 t) (iblk m c 7 t) ((cfg0.win 8).xinj (grid0.coords t) y) = G m c (((cfg0.win 8).blk t).view.emb y)
  rw [ein, eout]
  refine (tile (iblk m c 0 t) (iblk m c 1 t) (iblk m c 2 t) (iblk m c 3 t) (iblk m c 4 t) (iblk m c 5 t) (iblk m c 6 t) (iblk m c 7 t) _ _).trans ?_
  obtain ⟨r, hr⟩ : ∃ r : Fin 8192, r = ⟨t.val / 2 * 1024 + (y 0).val, by omega⟩ := ⟨_, rfl⟩
  obtain ⟨s, hs⟩ : ∃ s : Fin 2048, s = ⟨t.val % 2 * 1024 + (y 1).val, by omega⟩ := ⟨_, rfl⟩
  have hr' : r.val = t.val / 2 * 1024 + (y 0).val := congrArg Fin.val hr
  have hs' : s.val = t.val % 2 * 1024 + (y 1).val := congrArg Fin.val hs
  rw [← hr, ← hs]
  refine congrArg₂ (fun x y : EReal => x + y) (blk6 m c t ⟨(y 0).val, hy0⟩ ⟨(y 1).val, hy1⟩ r s hr' hs') ?_
  refine congrArg₂ (fun x y : EReal => x * y)
    (blk7 m c t ⟨(y 1).val, hy1⟩ ⟨r.val / 4096, by omega⟩ ⟨4096 + s.val, by omega⟩ (by show r.val / 4096 = t.val / 8; omega)
      (by show 4096 + s.val = (4 + t.val % 2) * 1024 + (y 1).val; omega)) ?_
  refine Eq.trans ?_ (sum_padded (fun k => Y m c (ix2 r k)) (fun k => W m c (ix2 k s)))
  refine congrArg₂ (fun x y : EReal => x + y) (congrArg₂ (fun x y : EReal => x + y) (Finset.sum_congr rfl fun k _ => ?_) (Finset.sum_congr rfl fun k _ => ?_))
    (Finset.sum_congr rfl fun k _ => ?_)
  · exact congrArg₂ (fun x y : EReal => x * y) (blk0 m c t ⟨(y 0).val, hy0⟩ k r hr') (blk3 m c t k ⟨(y 1).val, hy1⟩ s hs')
  · exact congrArg₂ (fun x y : EReal => x * y) (blk1 m c t ⟨(y 0).val, hy0⟩ k r hr') (blk4 m c t k ⟨(y 1).val, hy1⟩ s hs')
  · exact congrArg₂ (fun x y : EReal => x * y) (blk2 m c t ⟨(y 0).val, hy0⟩ k r hr') (blk5 m c t k ⟨(y 1).val, hy1⟩ s hs')

/-- The blocks tile the array. -/
theorem covered (i : S8192x2048.Idx) : ∃ t : Fin cfg0.N, (cfg0.win 8).flush t = true ∧ i ∈ ((cfg0.win 8).blk t).view.set := by
  have h0 : (i 0).val < 8192 := (i 0).isLt
  have h1 : (i 1).val < 2048 := (i 1).isLt
  obtain ⟨t, ht⟩ : ∃ t : Fin cfg0.N, t.val = (i 0).val / 1024 * 2 + (i 1).val / 1024 := ⟨⟨_, by rw [points]; omega⟩, rfl⟩
  obtain ⟨p0, p1⟩ := place8 t
  refine ⟨t, flush0_8 t, ?_⟩
  show i ∈ ((View.whole main_v17).slice (win0_8.rect t)).set
  rw [View.set_slice_whole, Rect.mem_set_unit]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1024 ≤ (i 1).val ∧ (i 1).val < win0_8.index t (1 : Fin 2) * 1024 + 1024; omega

/-- The array ends as the residual plus the gated product. -/
theorem final : (dats m 0 c).arrAt 8 cfg0.N = G m c :=
  (dats m 0 c).arrAt_eq_of_cover 8 (G m c) (fun t _ => flushed_eq m c t) covered

end Cert.OutProjIdeal.Tiles

namespace Cert.OutProjRefIdeal.Tiles

open Idealize.ShloMosaic Idealize.ShloMosaic.TcCoe Idealize.SL.Sem Cert.OutProjRefIdeal Cert.OutProjRefIdeal.Gen Cert.Products

/-- The reference's product, as the plain sum. -/
theorem dot (A : FVec Ideal S8192x2048 .f32) (W : FVec Ideal S2048x2048 .f32) :
    Host.dotGeneral dot_S8192x2048_S2048x2048_S8192x2048_1_0_0_1_n_n none A W = prod (a := .f32) (b := .f32) A W := by
  funext j
  idx_vars j
  rw [prod_apply]
  pointwise

/-- The reference's result, of its product. -/
def whole (D X : FVec Ideal S8192x2048 .f32) (M : FVec Ideal S2x12288 .f32) : FVec Ideal S8192x2048 .f32 :=
  shapeCast _ (addf (shapeCast _ X shapeCasts_S8192x2048_S2x4096x2048) (mulf (broadcastInDim S2x4096x2048 ![0, 1, 2] bcast_S2x1x2048_S2x4096x2048_0_1_2 (extractStridedSlice S2x1x2048 ![0, 0, 4096] (broadcastInDim S2x1x12288 ![0, 2] bcast_S2x12288_S2x1x12288_0_2 M) slices_S2x1x12288_S2x1x2048_0_0_4096)) (shapeCast _ D shapeCasts_S8192x2048_S2x4096x2048))) shapeCasts_S2x4096x2048_S8192x2048

theorem whole_at (D X : FVec Ideal S8192x2048 .f32) (M : FVec Ideal S2x12288 .f32) (r : Fin 8192) (s : Fin 2048) :
    whole D X M (ix2 r s) = X (ix2 r s) + M (ix2 (⟨r.val / 4096, by omega⟩ : Fin 2) (⟨4096 + s.val, by omega⟩ : Fin 12288)) * D (ix2 r s) := by
  unfold whole
  pointwise

/-- The reference is the residual plus the gated product. -/
theorem whole_eq (Y : FVec Ideal S8192x2048 .f32) (W : FVec Ideal S2048x2048 .f32) (X : FVec Ideal S8192x2048 .f32) (M : FVec Ideal S2x12288 .f32) :
    whole (Host.dotGeneral dot_S8192x2048_S2048x2048_S8192x2048_1_0_0_1_n_n none Y W) X M = Cert.OutProjIdeal.Tiles.gated Y W X M := by
  rw [dot]
  funext i
  idx_vars i
  exact whole_at _ _ _ _ _

end Cert.OutProjRefIdeal.Tiles

end
-- ==== Proof.OutProjClaims.lean ====
/-
  The claims about the output projection.
-/
module

public import proofs.«01_k».proof.Defs
public import proofs.«01_k».proof.Proof.Gen.OutProj.Frame
public import proofs.«01_k».proof.Proof.OutValue
public import Idealize.ShloMosaic.Lib.Quiescent

@[expose] public section

noncomputable section

namespace Cert.Proof.OutProj

open Idealize.ShloMosaic Idealize.SL.Sem

theorem frame_kernel : Cert.quiescent_OutProj := fun m ρ _ => Cert.OutProj.Gen.frame m ρ

theorem frame_ideal : Cert.quiescent_OutProjIdeal := fun m ρ _ => Cert.OutProjIdeal.Gen.frame m ρ

theorem frame_reference : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- Both programs leave the residual plus the gated product. -/
theorem equal : Cert.algebraic_OutProjIdeal_OutProjRefIdeal := by
  intro m g m' g' _ agree
  refine ⟨fun c => Cert.OutProjIdeal.Tiles.G m c, ?_, ?_⟩
  · exact (θ_run _ _ _).mono (fun _ h c => ⟨(h c).1.trans (Cert.OutProjIdeal.Tiles.final m c), (h c).2⟩)
      (Cert.OutProjIdeal.Value.run_blocks (F := Ideal) m g)
  · refine (θ_run _ _ _).mono (fun _ h c => ⟨(h c).1.trans ?_, (h c).2⟩) (Cert.OutProjRefIdeal.Value.run (F := Ideal) m' g')
    rw [(agree c).1, (agree c).2.1, (agree c).2.2.1, (agree c).2.2.2]
    exact Cert.OutProjRefIdeal.Tiles.whole_eq _ _ _ _

end Cert.Proof.OutProj

end
-- ==== Proof.QueryValue.lean ====
/-
  The query projection: the tiled product is the plain product.
-/
module

public import proofs.«01_k».proof.Proof.Gen.QueryIdeal.Value
public import proofs.«01_k».proof.Proof.Gen.QueryRefIdeal.Run
public import proofs.«01_k».proof.Proof.Product
public import Idealize.ShloMosaic.Lib.Pipeline.ValueKit.Geometry
public import Idealize.ShloMosaic.Lib.StableHlo.ReadAt

@[expose] public section

set_option maxRecDepth 16384
noncomputable section

namespace Cert.QueryIdeal.Tiles

open Idealize.ShloMosaic Idealize.ShloMosaic.TcCoe Idealize.SL.Sem Cert.QueryIdeal Cert.QueryIdeal.Gen Cert.QueryIdeal.Value Cert.Products
open scoped BigOperators

variable (m : (l : Loc nD τ sig) → Buf (Elt Ideal) l) (c : Dev nD)

theorem origin : (![0, 0] : Fin 2 → Nat) = fun _ => 0 := funext fun a => by fin_cases a <;> rfl

/-- One tile's product, entry by entry. -/
theorem tile (x0 : Vec Ideal S1024x2048 .bf16) (x1 : Vec Ideal S2048x1024 .bf16) (i : Fin 1024) (j : Fin 1024) :
    out0_2 x0 x1 (ix2 i j) = ∑ k : Fin 2048, x0 (ix2 i k) * x1 (ix2 k j) := by
  unfold out0_2
  rw [View.canon_unit_zero origin]
  simp only [View.ld_unit_zero (S := S1024x2048) origin, View.ld_unit_zero (S := S2048x1024) origin]
  pointwise [k0_pay1]

/-- The product of the arguments. -/
def G : Vec Ideal S8192x2048 .f32 := prod (a := .f32) (b := .f32) (m (c, Proc.tc.devRef main_arg0)) (m (c, Proc.tc.devRef main_arg1))

theorem place0 : ∀ t : Fin cfg0.N, win0_0.index t (0 : Fin 2) = t.val / 2 ∧ win0_0.index t (1 : Fin 2) = 0 :=
  (by decide +kernel : ∀ t : Fin grid0.N, _)
theorem place1 : ∀ t : Fin cfg0.N, win0_1.index t (0 : Fin 2) = 0 ∧ win0_1.index t (1 : Fin 2) = t.val % 2 :=
  (by decide +kernel : ∀ t : Fin grid0.N, _)
theorem place2 : ∀ t : Fin cfg0.N, win0_2.index t (0 : Fin 2) = t.val / 2 ∧ win0_2.index t (1 : Fin 2) = t.val % 2 :=
  (by decide +kernel : ∀ t : Fin grid0.N, _)

theorem cast0 (i : Fin 8192) (k : Fin 2048) : V m c main_v0 (ix2 i k) = m (c, Proc.tc.devRef main_arg0) (ix2 i k) := by
  unfold V
  after_reads_at

theorem cast1 (k : Fin 2048) (j : Fin 2048) : V m c main_v1 (ix2 k j) = m (c, Proc.tc.devRef main_arg1) (ix2 k j) := by
  unfold V
  after_reads_at

theorem blk0 (t : Fin cfg0.N) (i : Fin 1024) (k : Fin 2048) (r : Fin 8192) (hr : r.val = t.val / 2 * 1024 + i.val) :
    iblk m c 0 t (ix2 i k) = m (c, Proc.tc.devRef main_arg0) (ix2 r k) := by
  obtain ⟨h0, h1⟩ := place0 t
  unfold iblk
  refine Eq.trans (congrArg (V m c main_v0) (funext fun a => Fin.ext ?_)) (cast0 m c r k)
  match a with
  | ⟨0, _⟩ => show win0_0.index t (0 : Fin 2) * 1024 + 1 * i.val = r.val; omega
  | ⟨1, _⟩ => show win0_0.index t (1 : Fin 2) * 2048 + 1 * k.val = k.val; omega

theorem blk1 (t : Fin cfg0.N) (k : Fin 2048) (j : Fin 1024) (s : Fin 2048) (hs : s.val = t.val % 2 * 1024 + j.val) :
    iblk m c 1 t (ix2 k j) = m (c, Proc.tc.devRef main_arg1) (ix2 k s) := by
  obtain ⟨h0, h1⟩ := place1 t
  unfold iblk
  refine Eq.trans (congrArg (V m c main_v1) (funext fun a => Fin.ext ?_)) (cast1 m c k s)
  match a with
  | ⟨0, _⟩ => show win0_1.index t (0 : Fin 2) * 2048 + 1 * k.val = k.val; omega
  | ⟨1, _⟩ => show win0_1.index t (1 : Fin 2) * 1024 + 1 * j.val = s.val; omega

theorem points : cfg0.N = 16 := by decide

/-- What a point writes back is its block of the product. -/
theorem flushed_eq (t : Fin cfg0.N) : (dats m 0 c).flushed 2 t = ((cfg0.win 2).blk t).view.read (Elt Ideal) (G m c) := by
  rw [flushed2]
  obtain ⟨h0, h1⟩ := place2 t
  have ht := Nat.lt_of_lt_of_eq t.isLt points
  funext y
  have hy0 : (y 0).val < 1024 := (y 0).isLt
  have hy1 : (y 1).val < 1024 := (y 1).isLt
  have ein : (cfg0.win 2).xinj (grid0.coords t) y = ix2 (⟨(y 0).val, hy0⟩ : Fin 1024) (⟨(y 1).val, hy1⟩ : Fin 1024) :=
    funext fun a => Fin.ext (match a with | ⟨0, _⟩ => rfl | ⟨1, _⟩ => rfl)
  have eout : ((cfg0.win 2).blk t).view.emb y = ix2 (⟨t.val / 2 * 1024 + (y 0).val, by omega⟩ : Fin 8192) (⟨t.val % 2 * 1024 + (y 1).val, by omega⟩ : Fin 2048) :=
    funext fun a => Fin.ext (match a with
      | ⟨0, _⟩ => by show win0_2.index t (0 : Fin 2) * 1024 + 1 * (y 0).val = t.val / 2 * 1024 + (y 0).val; omega
      | ⟨1, _⟩ => by show win0_2.index t (1 : Fin 2) * 1024 + 1 * (y 1).val = t.val % 2 * 1024 + (y 1).val; omega)
  show out0_2 (iblk m c 0 t) (iblk m c 1 t) ((cfg0.win 2).xinj (grid0.coords t) y) = G m c (((cfg0.win 2).blk t).view.emb y)
  rw [ein, eout]
  refine (tile (iblk m c 0 t) (iblk m c 1 t) _ _).trans ?_
  unfold G
  rw [prod_apply]
  exact Finset.sum_congr rfl fun k _ => congrArg₂ (fun x y : EReal => x * y) (blk0 m c t _ k _ rfl) (blk1 m c t k _ _ rfl)

/-- The blocks tile the array. -/
theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, ht⟩ : ∃ t : Fin cfg0.N, t.val = (i 0).val / 1024 * 2 + (i 1).val / 1024 := ⟨⟨_, by rw [points]; omega⟩, rfl⟩
  obtain ⟨p0, p1⟩ := place2 t
  refine ⟨t, flush0_2 t, ?_⟩
  show i ∈ ((View.whole main_v2).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The array ends as the product of the arguments. -/
theorem final : (dats m 0 c).arrAt 2 cfg0.N = G m c :=
  (dats m 0 c).arrAt_eq_of_cover 2 (G m c) (fun t _ => flushed_eq m c t) covered

end Cert.QueryIdeal.Tiles

namespace Cert.QueryRefIdeal.Tiles

open Idealize.ShloMosaic Idealize.ShloMosaic.TcCoe Idealize.SL.Sem Cert.QueryRefIdeal Cert.QueryRefIdeal.Gen Cert.Products

/-- The reference's product, as the plain sum. -/
theorem dot (A : FVec Ideal S8192x2048 .f32) (W : FVec Ideal S2048x2048 .f32) :
    Host.dotGeneral dot_S8192x2048_S2048x2048_S8192x2048_1_0_0_1_n_n none A W = prod (a := .f32) (b := .f32) A W := by
  funext j
  idx_vars j
  rw [prod_apply]
  pointwise

end Cert.QueryRefIdeal.Tiles

end
-- ==== Proof.QueryClaims.lean ====
/-
  The claims about the query projection.
-/
module

public import proofs.«01_k».proof.Defs
public import proofs.«01_k».proof.Proof.Gen.Query.Frame
public import proofs.«01_k».proof.Proof.QueryValue
public import Idealize.ShloMosaic.Lib.Quiescent

@[expose] public section

noncomputable section

namespace Cert.Proof.Query

open Idealize.ShloMosaic Idealize.SL.Sem

theorem frame_kernel : Cert.quiescent_Query := fun m ρ _ => Cert.Query.Gen.frame m ρ

theorem frame_ideal : Cert.quiescent_QueryIdeal := fun m ρ _ => Cert.QueryIdeal.Gen.frame m ρ

theorem frame_reference : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

/-- Both programs leave the product of the arguments. -/
theorem equal : Cert.algebraic_QueryIdeal_QueryRefIdeal := by
  intro m g m' g' _ agree
  refine ⟨fun c => Cert.QueryIdeal.Tiles.G m c, ?_, ?_⟩
  · exact (θ_run _ _ _).mono (fun _ h c => ⟨(h c).1.trans (Cert.QueryIdeal.Tiles.final m c), (h c).2⟩)
      (Cert.QueryIdeal.Value.run_blocks (F := Ideal) m g)
  · refine (θ_run _ _ _).mono (fun _ h c => ⟨(h c).1.trans ?_, (h c).2⟩) (Cert.QueryRefIdeal.Value.run (F := Ideal) m' g')
    rw [(agree c).1, (agree c).2]
    exact Cert.QueryRefIdeal.Tiles.dot _ _

end Cert.Proof.Query

end
-- ==== Proof.FinalValue.lean ====
/-
  The last residual and the final norm: a row of the result, of the rows of the residual stream and of the last layer's output.
-/
module

public import proofs.«01_k».proof.Proof.Gen.FinalIdeal.Value
public import proofs.«01_k».proof.Proof.Gen.FinalRefIdeal.Run
public import proofs.«01_k».proof.Proof.Product
public import Idealize.ShloMosaic.Lib.Pipeline.ValueKit.Geometry
public import Idealize.ShloMosaic.Lib.StableHlo.ReadAt

@[expose] public section

set_option maxRecDepth 16384
noncomputable section

namespace Cert.Products

open Idealize.ShloMosaic
open scoped BigOperators

/-- A row of 2048 channels over its root mean square. -/
def rms (x : Fin 2048 → EReal) (j : Fin 2048) : EReal :=
  x j * Ideal.rsqrt (Ideal.div (∑ k, x k * x k) (Ideal.ofBits FTy.f32 0x45000000#32) + Ideal.ofBits FTy.f32 0x358637BD#32)

end Cert.Products

namespace Cert.FinalIdeal.Tiles

open Idealize.ShloMosaic Idealize.ShloMosaic.TcCoe Idealize.SL.Sem Cert.FinalIdeal Cert.FinalIdeal.Gen Cert.FinalIdeal.Value Cert.Products
open scoped BigOperators

variable (m : (l : Loc nD τ sig) → Buf (Elt Ideal) l) (c : Dev nD)

theorem origin : (![0, 0] : Fin 2 → Nat) = fun _ => 0 := funext fun a => by fin_cases a <;> rfl
theorem origin3 : (![0, 0, 0] : Fin 3 → Nat) = fun _ => 0 := funext fun a => by fin_cases a <;> rfl

/-- One tile's result, entry by entry. -/
theorem tile (x0 x1 : Vec Ideal S512x2048 .f32) (x2 : Vec Ideal S1x1x2048 .f32) (x3 : Vec Ideal S1x2048 .f32) (i : Fin 512) (j : Fin 2048) :
    out0_4 x0 x1 x2 x3 (ix2 i j) = rms (fun k => x0 (ix2 i k) + x2 (ix3 0 0 k) * x1 (ix2 i k)) j * x3 (ix2 0 j) := by
  unfold out0_4 rms
  rw [View.canon_unit_zero origin]
  simp only [View.ld_unit_zero (S := S512x2048) origin, View.ld_unit_zero (S := S1x2048) origin, View.ld_unit_zero (S := S1x1x2048) origin3]
  pointwise [k0_pay1]

/-- The arguments. -/
def X : FVec Ideal S8192x2048 .f32 := m (c, Proc.tc.devRef main_arg0)
def E : FVec Ideal S8192x2048 .f32 := m (c, Proc.tc.devRef main_arg1)
def M : FVec Ideal S2x12288 .f32 := m (c, Proc.tc.devRef main_arg2)
def g : FVec Ideal S2048 .f32 := m (c, Proc.tc.devRef main_arg3)

/-- A row of the residual stream after the last gated addition. -/
def added (X E : FVec Ideal S8192x2048 .f32) (M : FVec Ideal S2x12288 .f32) (r : Fin 8192) (k : Fin 2048) : EReal :=
  X (ix2 r k) + M (ix2 (⟨r.val / 4096, by omega⟩ : Fin 2) (⟨10240 + k.val, by omega⟩ : Fin 12288)) * E (ix2 r k)

/-- Its rows over their root mean squares, weighted. -/
def normed (X E : FVec Ideal S8192x2048 .f32) (M : FVec Ideal S2x12288 .f32) (g : FVec Ideal S2048 .f32) : FVec Ideal S8192x2048 .f32 := fun i =>
  rms (added X E M (i 0)) (i 1) * g (ix1 (i 1))

def G : Vec Ideal S8192x2048 .f32 := normed (X m c) (E m c) (M m c) (g m c)

theorem arr0 (r : Fin 8192) (s : Fin 2048) : V m c main_arg0 (ix2 r s) = X m c (ix2 r s) := by
  unfold V X
  after_reads_at

theorem arr1 (r : Fin 8192) (s : Fin 2048) : V m c main_arg1 (ix2 r s) = E m c (ix2 r s) := by
  unfold V E
  after_reads_at

theorem arr2 (b : Fin 2) (s : Fin 12288) : V m c main_v0 (ix3 b 0 s) = M m c (ix2 b s) := by
  unfold V M
  after_reads_at

theorem arr3 (s : Fin 2048) : V m c main_v1 (ix2 0 s) = g m c (ix1 s) := by
  unfold V g
  after_reads_at

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = t.val ∧ win0_1.index t (1 : Fin 2) = 0 :=
  (by decide +kernel : ∀ t : Fin grid0.N, _)
theorem place2 : ∀ t : Fin cfg0.N, win0_2.index t (0 : Fin 3) = t.val / 8 ∧ win0_2.index t (1 : Fin 3) = 0 ∧ win0_2.index t (2 : Fin 3) = 5 :=
  (by decide +kernel : ∀ t : Fin grid0.N, _)
theorem place3 : ∀ t : Fin cfg0.N, win0_3.index t (0 : Fin 2) = 0 ∧ win0_3.index t (1 : Fin 2) = 0 :=
  (by decide +kernel : ∀ t : Fin grid0.N, _)
theorem place4 : ∀ t : Fin cfg0.N, win0_4.index t (0 : Fin 2) = t.val ∧ win0_4.index t (1 : Fin 2) = 0 :=
  (by decide +kernel : ∀ t : Fin grid0.N, _)

theorem blk0 (t : Fin cfg0.N) (i : Fin 512) (k : Fin 2048) (r : Fin 8192) (hr : r.val = t.val * 512 + i.val) :
    iblk m c 0 t (ix2 i k) = X m c (ix2 r k) := by
  obtain ⟨h0, h1⟩ := place0 t
  unfold iblk
  refine Eq.trans (congrArg (V m c main_arg0) (funext fun a => Fin.ext ?_)) (arr0 m c r k)
  match a with
  | ⟨0, _⟩ => show win0_0.index t (0 : Fin 2) * 512 + 1 * i.val = r.val; omega
  | ⟨1, _⟩ => show win0_0.index t (1 : Fin 2) * 2048 + 1 * k.val = k.val; omega

theorem blk1 (t : Fin cfg0.N) (i : Fin 512) (k : Fin 2048) (r : Fin 8192) (hr : r.val = t.val * 512 + i.val) :
    iblk m c 1 t (ix2 i k) = E m c (ix2 r k) := by
  obtain ⟨h0, h1⟩ := place1 t
  unfold iblk
  refine Eq.trans (congrArg (V m c main_arg1) (funext fun a => Fin.ext ?_)) (arr1 m c r k)
  match a with
  | ⟨0, _⟩ => show win0_1.index t (0 : Fin 2) * 512 + 1 * i.val = r.val; omega
  | ⟨1, _⟩ => show win0_1.index t (1 : Fin 2) * 2048 + 1 * k.val = k.val; omega

theorem blk2 (t : Fin cfg0.N) (j : Fin 2048) (b : Fin 2) (s : Fin 12288) (hb : b.val = t.val / 8) (hs : s.val = 10240 + j.val) :
    iblk m c 2 t (ix3 0 0 j) = M m c (ix2 b s) := by
  obtain ⟨h0, h1, h2⟩ := place2 t
  unfold iblk
  refine Eq.trans (congrArg (V m c main_v0) (funext fun a => Fin.ext ?_)) (arr2 m c b s)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 2048 + 1 * j.val = s.val; omega

theorem blk3 (t : Fin cfg0.N) (j : Fin 2048) : iblk m c 3 t (ix2 0 j) = g m c (ix1 j) := by
  obtain ⟨h0, h1⟩ := place3 t
  unfold iblk
  refine Eq.trans (congrArg (V m c main_v1) (funext fun a => Fin.ext ?_)) (arr3 m c j)
  match a with
  | ⟨0, _⟩ => show win0_3.index t (0 : Fin 2) * 1 + 1 * 0 = 0; omega
  | ⟨1, _⟩ => show win0_3.index t (1 : Fin 2) * 2048 + 1 * j.val = j.val; omega

theorem points : cfg0.N = 16 := by decide

/-- What a point writes back is its block of the result. -/
theorem flushed_eq (t : Fin cfg0.N) : (dats m 0 c).flushed 4 t = ((cfg0.win 4).blk t).view.read (Elt Ideal) (G m c) := by
  rw [flushed4]
  obtain ⟨h0, h1⟩ := place4 t
  have ht := Nat.lt_of_lt_of_eq t.isLt points
  funext y
  have hy0 : (y 0).val < 512 := (y 0).isLt
  have hy1 : (y 1).val < 2048 := (y 1).isLt
  have ein : (cfg0.win 4).xinj (grid0.coords t) y = ix2 (⟨(y 0).val, hy0⟩ : Fin 512) (⟨(y 1).val, hy1⟩ : Fin 2048) :=
    funext fun a => Fin.ext (match a with | ⟨0, _⟩ => rfl | ⟨1, _⟩ => rfl)
  obtain ⟨r, hr⟩ : ∃ r : Fin 8192, r.val = t.val * 512 + (y 0).val := ⟨⟨t.val * 512 + (y 0).val, by omega⟩, rfl⟩
  have eout : ((cfg0.win 4).blk t).view.emb y = ix2 r (⟨(y 1).val, hy1⟩ : Fin 2048) :=
    funext fun a => Fin.ext (match a with
      | ⟨0, _⟩ => by show win0_4.index t (0 : Fin 2) * 512 + 1 * (y 0).val = r.val; omega
      | ⟨1, _⟩ => by show win0_4.index t (1 : Fin 2) * 2048 + 1 * (y 1).val = (y 1).val; omega)
  show out0_4 (iblk m c 0 t) (iblk m c 1 t) (iblk m c 2 t) (iblk m c 3 t) ((cfg0.win 4).xinj (grid0.coords t) y) = G m c (((cfg0.win 4).blk t).view.emb y)
  rw [ein, eout]
  refine (tile (iblk m c 0 t) (iblk m c 1 t) (iblk m c 2 t) (iblk m c 3 t) _ _).trans ?_
  refine congrArg₂ (fun x y : EReal => x * y) (congrArg (fun x => rms x (⟨(y 1).val, hy1⟩ : Fin 2048)) (funext fun k => ?_)) (blk3 m c t _)
  exact congrArg₂ (fun x y : EReal => x + y) (blk0 m c t ⟨(y 0).val, hy0⟩ k r hr)
    (congrArg₂ (fun x y : EReal => x * y) (blk2 m c t k ⟨r.val / 4096, by omega⟩ ⟨10240 + k.val, by omega⟩ (by show r.val / 4096 = t.val / 8; omega) rfl)
      (blk1 m c t ⟨(y 0).val, hy0⟩ k r hr))

/-- The blocks tile the array. -/
theorem covered (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  obtain ⟨t, ht⟩ : ∃ t : Fin cfg0.N, t.val = (i 0).val / 512 := ⟨⟨_, by rw [points]; omega⟩, rfl⟩
  obtain ⟨p0, p1⟩ := place4 t
  refine ⟨t, flush0_4 t, ?_⟩
  show i ∈ ((View.whole main_v2).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The array ends as the weighted rows. -/
theorem final : (dats m 0 c).arrAt 4 cfg0.N = G m c :=
  (dats m 0 c).arrAt_eq_of_cover 4 (G m c) (fun t _ => flushed_eq m c t) covered

end Cert.FinalIdeal.Tiles

namespace Cert.FinalRefIdeal.Tiles

open Idealize.ShloMosaic Idealize.ShloMosaic.TcCoe Idealize.SL.Sem Cert.FinalRefIdeal Cert.FinalRefIdeal.Gen Cert.Products

/-- The reference's result. -/
def whole (X E : FVec Ideal S8192x2048 .f32) (M : FVec Ideal S2x12288 .f32) (g : FVec Ideal S2048 .f32) : FVec Ideal S8192x2048 .f32 :=
  shapeCast _ (mulf (mulf (addf (shapeCast _ X shapeCasts_S8192x2048_S2x4096x2048) (mulf (broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 M) slices_S2x1x12288_S2x1x2048_0_0_10240)) (shapeCast _ E shapeCasts_S8192x2048_S2x4096x2048))) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (addf (shapeCast _ X shapeCasts_S8192x2048_S2x4096x2048) (mulf (broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 M) slices_S2x1x12288_S2x1x2048_0_0_10240)) (shapeCast _ E shapeCasts_S8192x2048_S2x4096x2048))) (addf (shapeCast _ X shapeCasts_S8192x2048_S2x4096x2048) (mulf (broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 M) slices_S2x1x12288_S2x1x2048_0_0_10240)) (shapeCast _ E shapeCasts_S8192x2048_S2x4096x2048)))) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) shapeCasts_S2x4096x2048_S8192x2048

/-- The reference is the weighted rows. -/
theorem whole_eq (X E : FVec Ideal S8192x2048 .f32) (M : FVec Ideal S2x12288 .f32) (g : FVec Ideal S2048 .f32) :
    whole X E M g = Cert.FinalIdeal.Tiles.normed X E M g := by
  funext i
  idx_vars i
  show whole X E M g (ix2 _ _) = rms (Cert.FinalIdeal.Tiles.added X E M _) _ * g (ix1 _)
  unfold whole rms Cert.FinalIdeal.Tiles.added
  pointwise

end Cert.FinalRefIdeal.Tiles

end
-- ==== Proof.FinalClaims.lean ====
/-
  The claims about the last residual and the final norm.
-/
module

public import proofs.«01_k».proof.Defs
public import proofs.«01_k».proof.Proof.Gen.Final.Frame
public import proofs.«01_k».proof.Proof.FinalValue
public import Idealize.ShloMosaic.Lib.Quiescent

@[expose] public section

noncomputable section

namespace Cert.Proof.Final

open Idealize.ShloMosaic Idealize.SL.Sem

theorem frame_kernel : Cert.quiescent_Final := fun m ρ _ => Cert.Final.Gen.frame m ρ

theorem frame_ideal : Cert.quiescent_FinalIdeal := fun m ρ _ => Cert.FinalIdeal.Gen.frame m ρ

theorem frame_reference : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- Both programs leave the weighted rows. -/
theorem equal : Cert.algebraic_FinalIdeal_FinalRefIdeal := by
  intro m g m' g' _ agree
  refine ⟨fun c => Cert.FinalIdeal.Tiles.G m c, ?_, ?_⟩
  · exact (θ_run _ _ _).mono (fun _ h c => ⟨(h c).1.trans (Cert.FinalIdeal.Tiles.final m c), (h c).2⟩)
      (Cert.FinalIdeal.Value.run_blocks (F := Ideal) m g)
  · refine (θ_run _ _ _).mono (fun _ h c => ⟨(h c).1.trans ?_, (h c).2⟩) (Cert.FinalRefIdeal.Value.run (F := Ideal) m' g')
    rw [(agree c).1, (agree c).2.1, (agree c).2.2.1, (agree c).2.2.2]
    exact Cert.FinalRefIdeal.Tiles.whole_eq _ _ _ _

end Cert.Proof.Final

end
-- ==== Proof.ModValue.lean ====
/-
  The modulation: for every layer, the gated condition times the layer's weights plus its bias.
-/
module

public import proofs.«01_k».proof.Proof.Gen.ModIdeal.Value
public import proofs.«01_k».proof.Proof.Gen.ModRefIdeal.Run
public import proofs.«01_k».proof.Proof.Product
public import Idealize.ShloMosaic.Lib.Pipeline.ValueKit.Geometry
public import Idealize.ShloMosaic.Lib.StableHlo.ReadAt

@[expose] public section

set_option maxRecDepth 16384
noncomputable section

namespace Cert.ModIdeal.Tiles

open Idealize.ShloMosaic Idealize.ShloMosaic.TcCoe Idealize.SL.Sem Cert.ModIdeal Cert.ModIdeal.Gen Cert.ModIdeal.Value Cert.Products
open scoped BigOperators

variable (m : (l : Loc nD τ sig) → Buf (Elt Ideal) l) (c : Dev nD)

theorem origin : (![0, 0] : Fin 2 → Nat) = fun _ => 0 := funext fun a => by fin_cases a <;> rfl
theorem origin3 : (![0, 0, 0] : Fin 3 → Nat) = fun _ => 0 := funext fun a => by fin_cases a <;> rfl

/-- A value times its logistic. -/
def gated (x : EReal) : EReal := x * Ideal.div 1 (1 + Ideal.exp (-x))

/-- One tile's result, entry by entry. -/
theorem tile (x0 : Vec Ideal S2x2048 .f32) (x1 : Vec Ideal S1x2048x1024 .f32) (x2 : Vec Ideal S1x1x1024 .f32) (b : Fin 2) (j : Fin 1024) :
    out0_3 x0 x1 x2 (ix3 0 b j) = (∑ k, gated (x0 (ix2 b k)) * x1 (ix3 0 k j)) + x2 (ix3 0 0 j) := by
  unfold out0_3 gated
  rw [View.canon_unit_zero origin3]
  simp only [View.ld_unit_zero (S := S2x2048) origin, View.ld_unit_zero (S := S1x2048x1024) origin3, View.ld_unit_zero (S := S1x1x1024) origin3]
  pointwise [k0_pay1]
  simp only [zero_sub]

/-- The arguments. -/
def C : FVec Ideal S2x2048 .f32 := m (c, Proc.tc.devRef main_arg0)
def W : FVec Ideal S4x2048x12288 .f32 := m (c, Proc.tc.devRef main_arg1)
def B : FVec Ideal S4x12288 .f32 := m (c, Proc.tc.devRef main_arg2)

/-- One entry of one layer's modulation. -/
def entry (C : FVec Ideal S2x2048 .f32) (W : FVec Ideal S4x2048x12288 .f32) (B : FVec Ideal S4x12288 .f32) (l : Fin 4) (b : Fin 2) (s : Fin 12288) : EReal :=
  (∑ k : Fin 2048, gated (C (ix2 b k)) * W (ix3 l k s)) + B (ix2 l s)

/-- All of it. -/
def modulation (C : FVec Ideal S2x2048 .f32) (W : FVec Ideal S4x2048x12288 .f32) (B : FVec Ideal S4x12288 .f32) : FVec Ideal S4x2x12288 .f32 := fun i => entry C W B (i 0) (i 1) (i 2)

def G : Vec Ideal S4x2x12288 .f32 := modulation (C m c) (W m c) (B m c)

theorem arr0 (r : Fin 2) (s : Fin 2048) : V m c main_arg0 (ix2 r s) = C m c (ix2 r s) := by
  unfold V C
  after_reads_at

theorem arr1 (l : Fin 4) (k : Fin 2048) (s : Fin 12288) : V m c main_arg1 (ix3 l k s) = W m c (ix3 l k s) := by
  unfold V W
  after_reads_at

theorem arr2 (l : Fin 4) (s : Fin 12288) : V m c main_v0 (ix3 l 0 s) = B m c (ix2 l s) := by
  unfold V B
  after_reads_at

theorem place0 : ∀ t : Fin cfg0.N, win0_0.index t (0 : Fin 2) = 0 ∧ win0_0.index t (1 : Fin 2) = 0 :=
  (by decide +kernel : ∀ t : Fin grid0.N, _)
theorem place1 : ∀ t : Fin cfg0.N, win0_1.index t (0 : Fin 3) = t.val / 12 ∧ win0_1.index t (1 : Fin 3) = 0 ∧ win0_1.index t (2 : Fin 3) = t.val % 12 :=
  (by decide +kernel : ∀ t : Fin grid0.N, _)
theorem place2 : ∀ t : Fin cfg0.N, win0_2.index t (0 : Fin 3) = t.val / 12 ∧ win0_2.index t (1 : Fin 3) = 0 ∧ win0_2.index t (2 : Fin 3) = t.val % 12 :=
  (by decide +kernel : ∀ t : Fin grid0.N, _)
theorem place3 : ∀ t : Fin cfg0.N, win0_3.index t (0 : Fin 3) = t.val / 12 ∧ win0_3.index t (1 : Fin 3) = 0 ∧ win0_3.index t (2 : Fin 3) = t.val % 12 :=
  (by decide +kernel : ∀ t : Fin grid0.N, _)

theorem blk0 (t : Fin cfg0.N) (b : Fin 2) (k : Fin 2048) : iblk m c 0 t (ix2 b k) = C m c (ix2 b k) := by
  obtain ⟨h0, h1⟩ := place0 t
  unfold iblk
  refine Eq.trans (congrArg (V m c main_arg0) (funext fun a => Fin.ext ?_)) (arr0 m c b k)
  match a with
  | ⟨0, _⟩ => show win0_0.index t (0 : Fin 2) * 2 + 1 * b.val = b.val; omega
  | ⟨1, _⟩ => show win0_0.index t (1 : Fin 2) * 2048 + 1 * k.val = k.val; omega

theorem blk1 (t : Fin cfg0.N) (k : Fin 2048) (j : Fin 1024) (l : Fin 4) (s : Fin 12288) (hl : l.val = t.val / 12) (hs : s.val = t.val % 12 * 1024 + j.val) :
    iblk m c 1 t (ix3 0 k j) = W m c (ix3 l k s) := by
  obtain ⟨h0, h1, h2⟩ := place1 t
  unfold iblk
  refine Eq.trans (congrArg (V m c main_arg1) (funext fun a => Fin.ext ?_)) (arr1 m c l k s)
  match a with
  | ⟨0, _⟩ => show win0_1.index t (0 : Fin 3) * 1 + 1 * 0 = l.val; omega
  | ⟨1, _⟩ => show win0_1.index t (1 : Fin 3) * 2048 + 1 * k.val = k.val; omega
  | ⟨2, _⟩ => show win0_1.index t (2 : Fin 3) * 1024 + 1 * j.val = s.val; omega

theorem blk2 (t : Fin cfg0.N) (j : Fin 1024) (l : Fin 4) (s : Fin 12288) (hl : l.val = t.val / 12) (hs : s.val = t.val % 12 * 1024 + j.val) :
    iblk m c 2 t (ix3 0 0 j) = B m c (ix2 l s) := by
  obtain ⟨h0, h1, h2⟩ := place2 t
  unfold iblk
  refine Eq.trans (congrArg (V m c main_v0) (funext fun a => Fin.ext ?_)) (arr2 m c l s)
  match a with
  | ⟨0, _⟩ => show win0_2.index t (0 : Fin 3) * 1 + 1 * 0 = l.val; omega
  | ⟨1, _⟩ => show win0_2.index t (1 : Fin 3) * 1 + 1 * 0 = 0; omega
  | ⟨2, _⟩ => show win0_2.index t (2 : Fin 3) * 1024 + 1 * j.val = s.val; omega

theorem points : cfg0.N = 48 := by decide

/-- What a point writes back is its block of the result. -/
theorem flushed_eq (t : Fin cfg0.N) : (dats m 0 c).flushed 3 t = ((cfg0.win 3).blk t).view.read (Elt Ideal) (G m c) := by
  rw [flushed3]
  obtain ⟨h0, h1, h2⟩ := place3 t
  have ht := Nat.lt_of_lt_of_eq t.isLt points
  funext y
  have hy0 : (y 0).val < 1 := (y 0).isLt
  have hy1 : (y 1).val < 2 := (y 1).isLt
  have hy2 : (y 2).val < 1024 := (y 2).isLt
  have ein : (cfg0.win 3).xinj (grid0.coords t) y = ix3 (0 : Fin 1) (⟨(y 1).val, hy1⟩ : Fin 2) (⟨(y 2).val, hy2⟩ : Fin 1024) :=
    funext fun a => Fin.ext (match a with | ⟨0, _⟩ => by show (y 0).val = 0; omega | ⟨1, _⟩ => rfl | ⟨2, _⟩ => rfl)
  obtain ⟨l, hl⟩ : ∃ l : Fin 4, l.val = t.val / 12 := ⟨⟨t.val / 12, by omega⟩, rfl⟩
  obtain ⟨s, hs⟩ : ∃ s : Fin 12288, s.val = t.val % 12 * 1024 + (y 2).val := ⟨⟨t.val % 12 * 1024 + (y 2).val, by omega⟩, rfl⟩
  have eout : ((cfg0.win 3).blk t).view.emb y = ix3 l (⟨(y 1).val, hy1⟩ : Fin 2) s :=
    funext fun a => Fin.ext (match a with
      | ⟨0, _⟩ => by show win0_3.index t (0 : Fin 3) * 1 + 1 * (y 0).val = l.val; omega
      | ⟨1, _⟩ => by show win0_3.index t (1 : Fin 3) * 2 + 1 * (y 1).val = (y 1).val; omega
      | ⟨2, _⟩ => by show win0_3.index t (2 : Fin 3) * 1024 + 1 * (y 2).val = s.val; omega)
  show out0_3 (iblk m c 0 t) (iblk m c 1 t) (iblk m c 2 t) ((cfg0.win 3).xinj (grid0.coords t) y) = G m c (((cfg0.win 3).blk t).view.emb y)
  rw [ein, eout]
  refine (tile (iblk m c 0 t) (iblk m c 1 t) (iblk m c 2 t) _ _).trans ?_
  refine congrArg₂ (fun x y : EReal => x + y) (Finset.sum_congr rfl fun k _ => ?_) (blk2 m c t ⟨(y 2).val, hy2⟩ l s hl hs)
  exact congrArg₂ (fun x y : EReal => gated x * y) (blk0 m c t ⟨(y 1).val, hy1⟩ k) (blk1 m c t k ⟨(y 2).val, hy2⟩ l s hl hs)

/-- The blocks tile the array. -/
theorem covered (i : S4x2x12288.Idx) : ∃ t : Fin cfg0.N, (cfg0.win 3).flush t = true ∧ i ∈ ((cfg0.win 3).blk t).view.set := by
  have h0 : (i 0).val < 4 := (i 0).isLt
  have h1 : (i 1).val < 2 := (i 1).isLt
  have h2 : (i 2).val < 12288 := (i 2).isLt
  obtain ⟨t, ht⟩ : ∃ t : Fin cfg0.N, t.val = (i 0).val * 12 + (i 2).val / 1024 := ⟨⟨_, by rw [points]; omega⟩, rfl⟩
  obtain ⟨p0, p1, p2⟩ := place3 t
  refine ⟨t, flush0_3 t, ?_⟩
  show i ∈ ((View.whole main_v1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2 ≤ (i 1).val ∧ (i 1).val < win0_3.index t (1 : Fin 3) * 2 + 2; omega
  | ⟨2, _⟩ => show win0_3.index t (2 : Fin 3) * 1024 ≤ (i 2).val ∧ (i 2).val < win0_3.index t (2 : Fin 3) * 1024 + 1024; omega

/-- The array ends as the modulation. -/
theorem final : (dats m 0 c).arrAt 3 cfg0.N = G m c :=
  (dats m 0 c).arrAt_eq_of_cover 3 (G m c) (fun t _ => flushed_eq m c t) covered

end Cert.ModIdeal.Tiles

namespace Cert.ModRefIdeal.Tiles

open Idealize.ShloMosaic Idealize.ShloMosaic.TcCoe Idealize.SL.Sem Cert.ModRefIdeal Cert.ModRefIdeal.Gen

/-- The reference's result. -/
def whole (C : FVec Ideal S2x2048 .f32) (W : FVec Ideal S4x2048x12288 .f32) (B : FVec Ideal S4x12288 .f32) : FVec Ideal S4x2x12288 .f32 :=
  (concatenate S4x2x12288 0 [⟨S1x2x12288, ((broadcastInDim S1x2x12288 ![1, 2] bcast_S2x12288_S1x2x12288_1_2 (addf (Host.dotGeneral dot_S2x2048_S2048x12288_S2x12288_1_0_0_1_n_n none (mulf C (Host.divf (broadcastInDim S2x2048 ![] bcast_S_S2x2048 (constant S_ .f32 0x3F800000#32)) (addf (broadcastInDim S2x2048 ![] bcast_S_S2x2048 (constant S_ .f32 0x3F800000#32)) (Host.exp (Host.negf C))))) (shapeCast _ (extractStridedSlice S1x2048x12288 ![0, 0, 0] W slices_S4x2048x12288_S1x2048x12288_0_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![0, 0] B slices_S4x12288_S1x12288_0_0) shapeCasts_S1x12288_S12288))))) : (⟨S1x2x12288, .f32⟩ : BufTy).Contents (Elt Ideal))⟩, ⟨S1x2x12288, ((broadcastInDim S1x2x12288 ![1, 2] bcast_S2x12288_S1x2x12288_1_2 (addf (Host.dotGeneral dot_S2x2048_S2048x12288_S2x12288_1_0_0_1_n_n none (mulf C (Host.divf (broadcastInDim S2x2048 ![] bcast_S_S2x2048 (constant S_ .f32 0x3F800000#32)) (addf (broadcastInDim S2x2048 ![] bcast_S_S2x2048 (constant S_ .f32 0x3F800000#32)) (Host.exp (Host.negf C))))) (shapeCast _ (extractStridedSlice S1x2048x12288 ![1, 0, 0] W slices_S4x2048x12288_S1x2048x12288_1_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![1, 0] B slices_S4x12288_S1x12288_1_0) shapeCasts_S1x12288_S12288))))) : (⟨S1x2x12288, .f32⟩ : BufTy).Contents (Elt Ideal))⟩, ⟨S1x2x12288, ((broadcastInDim S1x2x12288 ![1, 2] bcast_S2x12288_S1x2x12288_1_2 (addf (Host.dotGeneral dot_S2x2048_S2048x12288_S2x12288_1_0_0_1_n_n none (mulf C (Host.divf (broadcastInDim S2x2048 ![] bcast_S_S2x2048 (constant S_ .f32 0x3F800000#32)) (addf (broadcastInDim S2x2048 ![] bcast_S_S2x2048 (constant S_ .f32 0x3F800000#32)) (Host.exp (Host.negf C))))) (shapeCast _ (extractStridedSlice S1x2048x12288 ![2, 0, 0] W slices_S4x2048x12288_S1x2048x12288_2_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![2, 0] B slices_S4x12288_S1x12288_2_0) shapeCasts_S1x12288_S12288))))) : (⟨S1x2x12288, .f32⟩ : BufTy).Contents (Elt Ideal))⟩, ⟨S1x2x12288, ((broadcastInDim S1x2x12288 ![1, 2] bcast_S2x12288_S1x2x12288_1_2 (addf (Host.dotGeneral dot_S2x2048_S2048x12288_S2x12288_1_0_0_1_n_n none (mulf C (Host.divf (broadcastInDim S2x2048 ![] bcast_S_S2x2048 (constant S_ .f32 0x3F800000#32)) (addf (broadcastInDim S2x2048 ![] bcast_S_S2x2048 (constant S_ .f32 0x3F800000#32)) (Host.exp (Host.negf C))))) (shapeCast _ (extractStridedSlice S1x2048x12288 ![3, 0, 0] W slices_S4x2048x12288_S1x2048x12288_3_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![3, 0] B slices_S4x12288_S1x12288_3_0) shapeCasts_S1x12288_S12288))))) : (⟨S1x2x12288, .f32⟩ : BufTy).Contents (Elt Ideal))⟩] concatenates_S1x2x12288_S1x2x12288_S1x2x12288_S1x2x12288_S4x2x12288_d0 : (⟨S4x2x12288, .f32⟩ : BufTy).Contents (Elt Ideal))

/-- The reference is the modulation. -/
theorem whole_eq (C : FVec Ideal S2x2048 .f32) (W : FVec Ideal S4x2048x12288 .f32) (B : FVec Ideal S4x12288 .f32) : whole C W B = Cert.ModIdeal.Tiles.modulation C W B := by
  funext i
  obtain ⟨l, b, s, rfl⟩ : ∃ l b s, i = ix3 l b s := ⟨i 0, i 1, i 2, by funext a; fin_cases a <;> rfl⟩
  show whole C W B (ix3 _ _ _) = Cert.ModIdeal.Tiles.entry C W B _ _ _
  unfold whole Cert.ModIdeal.Tiles.entry Cert.ModIdeal.Tiles.gated
  fin_cases l <;> pointwise

end Cert.ModRefIdeal.Tiles

end
-- ==== Proof.ModClaims.lean ====
/-
  The claims about the modulation.
-/
module

public import proofs.«01_k».proof.Defs
public import proofs.«01_k».proof.Proof.Gen.Mod.Frame
public import proofs.«01_k».proof.Proof.ModValue
public import Idealize.ShloMosaic.Lib.Quiescent

@[expose] public section

noncomputable section

namespace Cert.Proof.Mod

open Idealize.ShloMosaic Idealize.SL.Sem

theorem frame_kernel : Cert.quiescent_Mod := fun m ρ _ => Cert.Mod.Gen.frame m ρ

theorem frame_ideal : Cert.quiescent_ModIdeal := fun m ρ _ => Cert.ModIdeal.Gen.frame m ρ

theorem frame_reference : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- Both programs leave the modulation. -/
theorem equal : Cert.algebraic_ModIdeal_ModRefIdeal := by
  intro m g m' g' _ agree
  refine ⟨fun c => Cert.ModIdeal.Tiles.G m c, ?_, ?_⟩
  · exact (θ_run _ _ _).mono (fun _ h c => ⟨(h c).1.trans (Cert.ModIdeal.Tiles.final m c), (h c).2⟩)
      (Cert.ModIdeal.Value.run_blocks (F := Ideal) m g)
  · refine (θ_run _ _ _).mono (fun _ h c => ⟨(h c).1.trans ?_, (h c).2⟩) (Cert.ModRefIdeal.Value.run (F := Ideal) m' g')
    rw [(agree c).1, (agree c).2.1, (agree c).2.2]
    exact Cert.ModRefIdeal.Tiles.whole_eq _ _ _

end Cert.Proof.Mod

end
-- ==== Proof.NormValue.lean ====
/-
  The norm before the retrieval: rows over their root mean squares, weighted, scaled and shifted by the modulation.
-/
module

public import proofs.«01_k».proof.Proof.Gen.NormIdeal.Value
public import proofs.«01_k».proof.Proof.Gen.NormRefIdeal.Run
public import proofs.«01_k».proof.Proof.FinalValue

@[expose] public section

set_option maxRecDepth 16384
noncomputable section

namespace Cert.Products

open Idealize.ShloMosaic

/-- A value scaled by one and a part of the modulation, then shifted by another. -/
def shifted (y sc sh : EReal) : EReal := y * (Ideal.ofBits FTy.f32 0x3F800000#32 + sc) + sh

theorem shifted_congr {y y' sc sc' sh sh' : EReal} (h : y = y') (h1 : sc = sc') (h2 : sh = sh') : shifted y sc sh = shifted y' sc' sh' := by
  rw [h, h1, h2]

end Cert.Products

namespace Cert.NormIdeal.Tiles

open Idealize.ShloMosaic Idealize.ShloMosaic.TcCoe Idealize.SL.Sem Cert.NormIdeal Cert.NormIdeal.Gen Cert.NormIdeal.Value Cert.Products
open scoped BigOperators

variable (m : (l : Loc nD τ sig) → Buf (Elt Ideal) l) (c : Dev nD)

theorem origin : (![0, 0] : Fin 2 → Nat) = fun _ => 0 := funext fun a => by fin_cases a <;> rfl
theorem origin3 : (![0, 0, 0] : Fin 3 → Nat) = fun _ => 0 := funext fun a => by fin_cases a <;> rfl

/-- One tile's result, entry by entry. -/
theorem tile (x0 : Vec Ideal S512x2048 .f32) (x1 : Vec Ideal S1x2048 .f32) (x2 x3 : Vec Ideal S1x1x2048 .f32) (i : Fin 512) (j : Fin 2048) :
    out0_4 x0 x1 x2 x3 (ix2 i j) = shifted (rms (fun k => x0 (ix2 i k)) j * x1 (ix2 0 j)) (x3 (ix3 0 0 j)) (x2 (ix3 0 0 j)) := by
  unfold out0_4 rms shifted
  rw [View.canon_unit_zero origin]
  simp only [View.ld_unit_zero (S := S512x2048) origin, View.ld_unit_zero (S := S1x2048) origin, View.ld_unit_zero (S := S1x1x2048) origin3]
  pointwise [k0_pay1]

/-- The arguments. -/
def X : FVec Ideal S8192x2048 .f32 := m (c, Proc.tc.devRef main_arg0)
def g : FVec Ideal S2048 .f32 := m (c, Proc.tc.devRef main_arg1)
def M : FVec Ideal S2x12288 .f32 := m (c, Proc.tc.devRef main_arg2)

/-- The rows over their root mean squares, weighted and modulated by the fourth and fifth parts of the modulation. -/
def normed (X : FVec Ideal S8192x2048 .f32) (g : FVec Ideal S2048 .f32) (M : FVec Ideal S2x12288 .f32) : FVec Ideal S8192x2048 .bf16 := fun i =>
  shifted (rms (fun k => X (ix2 (i 0) k)) (i 1) * g (ix1 (i 1)))
    (M (ix2 (⟨(i 0).val / 4096, by have h := (i 0).isLt; change _ < 8192 at h; omega⟩ : Fin 2) (⟨8192 + (i 1).val, by have h := (i 1).isLt; change _ < 2048 at h; omega⟩ : Fin 12288)))
    (M (ix2 (⟨(i 0).val / 4096, by have h := (i 0).isLt; change _ < 8192 at h; omega⟩ : Fin 2) (⟨6144 + (i 1).val, by have h := (i 1).isLt; change _ < 2048 at h; omega⟩ : Fin 12288)))

def G : Vec Ideal S8192x2048 .bf16 := normed (X m c) (g m c) (M m c)

theorem arr0 (r : Fin 8192) (s : Fin 2048) : V m c main_arg0 (ix2 r s) = X m c (ix2 r s) := by
  unfold V X
  after_reads_at

theorem arr1 (s : Fin 2048) : V m c main_v1 (ix2 0 s) = g m c (ix1 s) := by
  unfold V g
  after_reads_at

theorem arr2 (b : Fin 2) (s : Fin 12288) : V m c main_v0 (ix3 b 0 s) = M m c (ix2 b s) := by
  unfold V M
  after_reads_at

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 3) = t.val / 8 ∧ win0_2.index t (1 : Fin 3) = 0 ∧ win0_2.index t (2 : Fin 3) = 3 :=
  (by decide +kernel : ∀ t : Fin grid0.N, _)
theorem place3 : ∀ t : Fin cfg0.N, win0_3.index t (0 : Fin 3) = t.val / 8 ∧ win0_3.index t (1 : Fin 3) = 0 ∧ win0_3.index t (2 : Fin 3) = 4 :=
  (by decide +kernel : ∀ t : Fin grid0.N, _)
theorem place4 : ∀ t : Fin cfg0.N, win0_4.index t (0 : Fin 2) = t.val ∧ win0_4.index t (1 : Fin 2) = 0 :=
  (by decide +kernel : ∀ t : Fin grid0.N, _)

theorem blk0 (t : Fin cfg0.N) (i : Fin 512) (k : Fin 2048) (r : Fin 8192) (hr : r.val = t.val * 512 + i.val) :
    iblk m c 0 t (ix2 i k) = X m c (ix2 r k) := by
  obtain ⟨h0, h1⟩ := place0 t
  unfold iblk
  refine Eq.trans (congrArg (V m c main_arg0) (funext fun a => Fin.ext ?_)) (arr0 m c r k)
  match a with
  | ⟨0, _⟩ => show win0_0.index t (0 : Fin 2) * 512 + 1 * i.val = r.val; omega
  | ⟨1, _⟩ => show win0_0.index t (1 : Fin 2) * 2048 + 1 * k.val = k.val; omega

theorem blk1 (t : Fin cfg0.N) (j : Fin 2048) : iblk m c 1 t (ix2 0 j) = g m c (ix1 j) := by
  obtain ⟨h0, h1⟩ := place1 t
  unfold iblk
  refine Eq.trans (congrArg (V m c main_v1) (funext fun a => Fin.ext ?_)) (arr1 m c j)
  match a with
  | ⟨0, _⟩ => show win0_1.index t (0 : Fin 2) * 1 + 1 * 0 = 0; omega
  | ⟨1, _⟩ => show win0_1.index t (1 : Fin 2) * 2048 + 1 * j.val = j.val; omega

theorem blk2 (t : Fin cfg0.N) (j : Fin 2048) (b : Fin 2) (s : Fin 12288) (hb : b.val = t.val / 8) (hs : s.val = 6144 + j.val) :
    iblk m c 2 t (ix3 0 0 j) = M m c (ix2 b s) := by
  obtain ⟨h0, h1, h2⟩ := place2 t
  unfold iblk
  refine Eq.trans (congrArg (V m c main_v0) (funext fun a => Fin.ext ?_)) (arr2 m c b s)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 2048 + 1 * j.val = s.val; omega

theorem blk3 (t : Fin cfg0.N) (j : Fin 2048) (b : Fin 2) (s : Fin 12288) (hb : b.val = t.val / 8) (hs : s.val = 8192 + j.val) :
    iblk m c 3 t (ix3 0 0 j) = M m c (ix2 b s) := by
  obtain ⟨h0, h1, h2⟩ := place3 t
  unfold iblk
  refine Eq.trans (congrArg (V m c main_v0) (funext fun a => Fin.ext ?_)) (arr2 m c b s)
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 2048 + 1 * j.val = s.val; omega

theorem points : cfg0.N = 16 := by decide

/-- What a point writes back is its block of the result. -/
theorem flushed_eq (t : Fin cfg0.N) : (dats m 0 c).flushed 4 t = ((cfg0.win 4).blk t).view.read (Elt Ideal) (G m c) := by
  rw [flushed4]
  obtain ⟨h0, h1⟩ := place4 t
  have ht := Nat.lt_of_lt_of_eq t.isLt points
  funext y
  have hy0 : (y 0).val < 512 := (y 0).isLt
  have hy1 : (y 1).val < 2048 := (y 1).isLt
  have ein : (cfg0.win 4).xinj (grid0.coords t) y = ix2 (⟨(y 0).val, hy0⟩ : Fin 512) (⟨(y 1).val, hy1⟩ : Fin 2048) :=
    funext fun a => Fin.ext (match a with | ⟨0, _⟩ => rfl | ⟨1, _⟩ => rfl)
  obtain ⟨r, hr⟩ : ∃ r : Fin 8192, r.val = t.val * 512 + (y 0).val := ⟨⟨t.val * 512 + (y 0).val, by omega⟩, rfl⟩
  have eout : ((cfg0.win 4).blk t).view.emb y = ix2 r (⟨(y 1).val, hy1⟩ : Fin 2048) :=
    funext fun a => Fin.ext (match a with
      | ⟨0, _⟩ => by show win0_4.index t (0 : Fin 2) * 512 + 1 * (y 0).val = r.val; omega
      | ⟨1, _⟩ => by show win0_4.index t (1 : Fin 2) * 2048 + 1 * (y 1).val = (y 1).val; omega)
  show out0_4 (iblk m c 0 t) (iblk m c 1 t) (iblk m c 2 t) (iblk m c 3 t) ((cfg0.win 4).xinj (grid0.coords t) y) = G m c (((cfg0.win 4).blk t).view.emb y)
  rw [ein, eout]
  refine (tile (iblk m c 0 t) (iblk m c 1 t) (iblk m c 2 t) (iblk m c 3 t) _ _).trans ?_
  refine shifted_congr (congrArg₂ (fun x y : EReal => x * y) (congrArg (fun x => rms x (⟨(y 1).val, hy1⟩ : Fin 2048)) (funext fun k => ?_)) (blk1 m c t _)) ?_ ?_
  · exact blk0 m c t ⟨(y 0).val, hy0⟩ k r hr
  · exact blk3 m c t ⟨(y 1).val, hy1⟩ ⟨r.val / 4096, by omega⟩ ⟨8192 + (y 1).val, by omega⟩ (by show r.val / 4096 = t.val / 8; omega) rfl
  · exact blk2 m c t ⟨(y 1).val, hy1⟩ ⟨r.val / 4096, by omega⟩ ⟨6144 + (y 1).val, by omega⟩ (by show r.val / 4096 = t.val / 8; omega) rfl

/-- The blocks tile the array. -/
theorem covered (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  obtain ⟨t, ht⟩ : ∃ t : Fin cfg0.N, t.val = (i 0).val / 512 := ⟨⟨_, by rw [points]; omega⟩, rfl⟩
  obtain ⟨p0, p1⟩ := place4 t
  refine ⟨t, flush0_4 t, ?_⟩
  show i ∈ ((View.whole main_v2).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

theorem final : (dats m 0 c).arrAt 4 cfg0.N = G m c :=
  (dats m 0 c).arrAt_eq_of_cover 4 (G m c) (fun t _ => flushed_eq m c t) covered

end Cert.NormIdeal.Tiles

namespace Cert.NormRefIdeal.Tiles

open Idealize.ShloMosaic Idealize.ShloMosaic.TcCoe Idealize.SL.Sem Cert.NormRefIdeal Cert.NormRefIdeal.Gen Cert.Products

/-- The reference's result. -/
def whole (X : FVec Ideal S8192x2048 .f32) (g : FVec Ideal S2048 .f32) (M : FVec Ideal S2x12288 .f32) : FVec Ideal S8192x2048 .bf16 :=
  truncf .bf16 (shapeCast _ (addf (mulf (mulf (mulf (shapeCast _ X shapeCasts_S8192x2048_S2x4096x2048) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (shapeCast _ X shapeCasts_S8192x2048_S2x4096x2048) (shapeCast _ X shapeCasts_S8192x2048_S2x4096x2048)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 0, 8192] (broadcastInDim S2x1x12288 ![0, 2] bcast_S2x12288_S2x1x12288_0_2 M) slices_S2x1x12288_S2x1x2048_0_0_8192)))) (broadcastInDim S2x4096x2048 ![0, 1, 2] bcast_S2x1x2048_S2x4096x2048_0_1_2 (extractStridedSlice S2x1x2048 ![0, 0, 6144] (broadcastInDim S2x1x12288 ![0, 2] bcast_S2x12288_S2x1x12288_0_2 M) slices_S2x1x12288_S2x1x2048_0_0_6144))) shapeCasts_S2x4096x2048_S8192x2048) bitsLt_bf16_f32

/-- The reference is the modulated rows. -/
theorem whole_eq (X : FVec Ideal S8192x2048 .f32) (g : FVec Ideal S2048 .f32) (M : FVec Ideal S2x12288 .f32) : whole X g M = Cert.NormIdeal.Tiles.normed X g M := by
  funext i
  idx_vars i
  show whole X g M (ix2 _ _) = shifted (rms _ _ * g (ix1 _)) (M (ix2 _ _)) (M (ix2 _ _))
  unfold whole rms shifted
  pointwise

end Cert.NormRefIdeal.Tiles

end
-- ==== Proof.NormClaims.lean ====
/-
  The claims about the norm before the retrieval.
-/
module

public import proofs.«01_k».proof.Defs
public import proofs.«01_k».proof.Proof.Gen.Norm.Frame
public import proofs.«01_k».proof.Proof.NormValue
public import Idealize.ShloMosaic.Lib.Quiescent

@[expose] public section

noncomputable section

namespace Cert.Proof.Norm

open Idealize.ShloMosaic Idealize.SL.Sem

theorem frame_kernel : Cert.quiescent_Norm := fun m ρ _ => Cert.Norm.Gen.frame m ρ

theorem frame_ideal : Cert.quiescent_NormIdeal := fun m ρ _ => Cert.NormIdeal.Gen.frame m ρ

theorem frame_reference : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- Both programs leave the modulated rows. -/
theorem equal : Cert.algebraic_NormIdeal_NormRefIdeal := by
  intro m g m' g' _ agree
  refine ⟨fun c => Cert.NormIdeal.Tiles.G m c, ?_, ?_⟩
  · exact (θ_run _ _ _).mono (fun _ h c => ⟨(h c).1.trans (Cert.NormIdeal.Tiles.final m c), (h c).2⟩)
      (Cert.NormIdeal.Value.run_blocks (F := Ideal) m g)
  · refine (θ_run _ _ _).mono (fun _ h c => ⟨(h c).1.trans ?_, (h c).2⟩) (Cert.NormRefIdeal.Value.run (F := Ideal) m' g')
    rw [(agree c).1, (agree c).2.1, (agree c).2.2]
    exact Cert.NormRefIdeal.Tiles.whole_eq _ _ _

end Cert.Proof.Norm

end
-- ==== Proof.ResidValue.lean ====
/-
  The residual addition with the norm at the start of a layer: both results, of the rows of the residual stream and of the layer before.
-/
module

public import proofs.«01_k».proof.Proof.Gen.ResidIdeal.Value
public import proofs.«01_k».proof.Proof.Gen.ResidRefIdeal.Run
public import proofs.«01_k».proof.Proof.NormValue

@[expose] public section

set_option maxRecDepth 16384
noncomputable section

namespace Cert.ResidIdeal.Tiles

open Idealize.ShloMosaic Idealize.ShloMosaic.TcCoe Idealize.SL.Sem Cert.ResidIdeal Cert.ResidIdeal.Gen Cert.ResidIdeal.Value Cert.Products
open scoped BigOperators

variable (m : (l : Loc nD τ sig) → Buf (Elt Ideal) l) (c : Dev nD)

theorem origin : (![0, 0] : Fin 2 → Nat) = fun _ => 0 := funext fun a => by fin_cases a <;> rfl
theorem origin3 : (![0, 0, 0] : Fin 3 → Nat) = fun _ => 0 := funext fun a => by fin_cases a <;> rfl

/-- One tile's residual stream, entry by entry. -/
theorem tile_x (x0 x1 : Vec Ideal S512x2048 .f32) (x2 : Vec Ideal S1x1x2048 .f32) (x3 : Vec Ideal S1x2048 .f32) (x4 x5 : Vec Ideal S1x1x2048 .f32)
    (i : Fin 512) (j : Fin 2048) : out0_6 x0 x1 x2 x3 x4 x5 (ix2 i j) = x0 (ix2 i j) + x2 (ix3 0 0 j) * x1 (ix2 i j) := by
  unfold out0_6
  rw [View.canon_unit_zero origin]
  simp only [View.ld_unit_zero (S := S512x2048) origin, View.ld_unit_zero (S := S1x2048) origin, View.ld_unit_zero (S := S1x1x2048) origin3]
  pointwise [k0_pay1]

/-- One tile's norm, entry by entry. -/
theorem tile_h (x0 x1 : Vec Ideal S512x2048 .f32) (x2 : Vec Ideal S1x1x2048 .f32) (x3 : Vec Ideal S1x2048 .f32) (x4 x5 : Vec Ideal S1x1x2048 .f32)
    (i : Fin 512) (j : Fin 2048) : out0_7 x0 x1 x2 x3 x4 x5 (ix2 i j)
      = shifted (rms (fun k => x0 (ix2 i k) + x2 (ix3 0 0 k) * x1 (ix2 i k)) j * x3 (ix2 0 j)) (x5 (ix3 0 0 j)) (x4 (ix3 0 0 j)) := by
  unfold out0_7 rms shifted
  rw [View.canon_unit_zero origin]
  simp only [View.ld_unit_zero (S := S512x2048) origin, View.ld_unit_zero (S := S1x2048) origin, View.ld_unit_zero (S := S1x1x2048) origin3]
  pointwise [k0_pay2, k0_pay1]

/-- The arguments. -/
def X : FVec Ideal S8192x2048 .f32 := m (c, Proc.tc.devRef main_arg0)
def E : FVec Ideal S8192x2048 .f32 := m (c, Proc.tc.devRef main_arg1)
def L : FVec Ideal S2x12288 .f32 := m (c, Proc.tc.devRef main_arg2)
def g : FVec Ideal S2048 .f32 := m (c, Proc.tc.devRef main_arg3)
def M : FVec Ideal S2x12288 .f32 := m (c, Proc.tc.devRef main_arg4)

/-- The residual stream after the gated addition. -/
def summed (X E : FVec Ideal S8192x2048 .f32) (L : FVec Ideal S2x12288 .f32) : FVec Ideal S8192x2048 .f32 := fun i => Cert.FinalIdeal.Tiles.added X E L (i 0) (i 1)

/-- Its rows over their root mean squares, weighted and modulated by the first two parts of the modulation. -/
def normed (X E : FVec Ideal S8192x2048 .f32) (L : FVec Ideal S2x12288 .f32) (g : FVec Ideal S2048 .f32) (M : FVec Ideal S2x12288 .f32) : FVec Ideal S8192x2048 .bf16 := fun i =>
  shifted (rms (Cert.FinalIdeal.Tiles.added X E L (i 0)) (i 1) * g (ix1 (i 1)))
    (M (ix2 (⟨(i 0).val / 4096, by have h := (i 0).isLt; change _ < 8192 at h; omega⟩ : Fin 2) (⟨2048 + (i 1).val, by have h := (i 1).isLt; change _ < 2048 at h; omega⟩ : Fin 12288)))
    (M (ix2 (⟨(i 0).val / 4096, by have h := (i 0).isLt; change _ < 8192 at h; omega⟩ : Fin 2) (⟨(i 1).val, by have h := (i 1).isLt; change _ < 2048 at h; omega⟩ : Fin 12288)))

def Gx : Vec Ideal S8192x2048 .f32 := summed (X m c) (E m c) (L m c)
def Gh : Vec Ideal S8192x2048 .bf16 := normed (X m c) (E m c) (L m c) (g m c) (M m c)

theorem arr0 (r : Fin 8192) (s : Fin 2048) : V m c main_arg0 (ix2 r s) = X m c (ix2 r s) := by
  unfold V X
  after_reads_at

theorem arr1 (r : Fin 8192) (s : Fin 2048) : V m c main_arg1 (ix2 r s) = E m c (ix2 r s) := by
  unfold V E
  after_reads_at

theorem arr2 (b : Fin 2) (s : Fin 12288) : V m c main_v0 (ix3 b 0 s) = L m c (ix2 b s) := by
  unfold V L
  after_reads_at

theorem arr3 (s : Fin 2048) : V m c main_v2 (ix2 0 s) = g m c (ix1 s) := by
  unfold V g
  after_reads_at

theorem arr4 (b : Fin 2) (s : Fin 12288) : V m c main_v1 (ix3 b 0 s) = M m c (ix2 b s) := by
  unfold V M
  after_reads_at

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = t.val ∧ win0_1.index t (1 : Fin 2) = 0 :=
  (by decide +kernel : ∀ t : Fin grid0.N, _)
theorem place2 : ∀ t : Fin cfg0.N, win0_2.index t (0 : Fin 3) = t.val / 8 ∧ win0_2.index t (1 : Fin 3) = 0 ∧ win0_2.index t (2 : Fin 3) = 5 :=
  (by decide +kernel : ∀ t : Fin grid0.N, _)
theorem place3 : ∀ t : Fin cfg0.N, win0_3.index t (0 : Fin 2) = 0 ∧ win0_3.index t (1 : Fin 2) = 0 :=
  (by decide +kernel : ∀ t : Fin grid0.N, _)
theorem place4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem place5 : ∀ t : Fin cfg0.N, win0_5.index t (0 : Fin 3) = t.val / 8 ∧ win0_5.index t (1 : Fin 3) = 0 ∧ win0_5.index t (2 : Fin 3) = 1 :=
  (by decide +kernel : ∀ t : Fin grid0.N, _)
theorem place6 : ∀ t : Fin cfg0.N, win0_6.index t (0 : Fin 2) = t.val ∧ win0_6.index t (1 : Fin 2) = 0 :=
  (by decide +kernel : ∀ t : Fin grid0.N, _)
theorem place7 : ∀ t : Fin cfg0.N, win0_7.index t (0 : Fin 2) = t.val ∧ win0_7.index t (1 : Fin 2) = 0 :=
  (by decide +kernel : ∀ t : Fin grid0.N, _)

theorem blk0 (t : Fin cfg0.N) (i : Fin 512) (k : Fin 2048) (r : Fin 8192) (hr : r.val = t.val * 512 + i.val) :
    iblk m c 0 t (ix2 i k) = X m c (ix2 r k) := by
  obtain ⟨h0, h1⟩ := place0 t
  unfold iblk
  refine Eq.trans (congrArg (V m c main_arg0) (funext fun a => Fin.ext ?_)) (arr0 m c r k)
  match a with
  | ⟨0, _⟩ => show win0_0.index t (0 : Fin 2) * 512 + 1 * i.val = r.val; omega
  | ⟨1, _⟩ => show win0_0.index t (1 : Fin 2) * 2048 + 1 * k.val = k.val; omega

theorem blk1 (t : Fin cfg0.N) (i : Fin 512) (k : Fin 2048) (r : Fin 8192) (hr : r.val = t.val * 512 + i.val) :
    iblk m c 1 t (ix2 i k) = E m c (ix2 r k) := by
  obtain ⟨h0, h1⟩ := place1 t
  unfold iblk
  refine Eq.trans (congrArg (V m c main_arg1) (funext fun a => Fin.ext ?_)) (arr1 m c r k)
  match a with
  | ⟨0, _⟩ => show win0_1.index t (0 : Fin 2) * 512 + 1 * i.val = r.val; omega
  | ⟨1, _⟩ => show win0_1.index t (1 : Fin 2) * 2048 + 1 * k.val = k.val; omega

theorem blk2 (t : Fin cfg0.N) (j : Fin 2048) (b : Fin 2) (s : Fin 12288) (hb : b.val = t.val / 8) (hs : s.val = 10240 + j.val) :
    iblk m c 2 t (ix3 0 0 j) = L m c (ix2 b s) := by
  obtain ⟨h0, h1, h2⟩ := place2 t
  unfold iblk
  refine Eq.trans (congrArg (V m c main_v0) (funext fun a => Fin.ext ?_)) (arr2 m c b s)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 2048 + 1 * j.val = s.val; omega

theorem blk3 (t : Fin cfg0.N) (j : Fin 2048) : iblk m c 3 t (ix2 0 j) = g m c (ix1 j) := by
  obtain ⟨h0, h1⟩ := place3 t
  unfold iblk
  refine Eq.trans (congrArg (V m c main_v2) (funext fun a => Fin.ext ?_)) (arr3 m c j)
  match a with
  | ⟨0, _⟩ => show win0_3.index t (0 : Fin 2) * 1 + 1 * 0 = 0; omega
  | ⟨1, _⟩ => show win0_3.index t (1 : Fin 2) * 2048 + 1 * j.val = j.val; omega

theorem blk4 (t : Fin cfg0.N) (j : Fin 2048) (b : Fin 2) (s : Fin 12288) (hb : b.val = t.val / 8) (hs : s.val = 0 + j.val) :
    iblk m c 4 t (ix3 0 0 j) = M m c (ix2 b s) := by
  obtain ⟨h0, h1, h2⟩ := place4 t
  unfold iblk
  refine Eq.trans (congrArg (V m c main_v1) (funext fun a => Fin.ext ?_)) (arr4 m c b s)
  match a with
  | ⟨0, _⟩ => show win0_4.index t (0 : Fin 3) * 1 + 1 * 0 = b.val; omega
  | ⟨1, _⟩ => show win0_4.index t (1 : Fin 3) * 1 + 1 * 0 = 0; omega
  | ⟨2, _⟩ => show win0_4.index t (2 : Fin 3) * 2048 + 1 * j.val = s.val; omega

theorem blk5 (t : Fin cfg0.N) (j : Fin 2048) (b : Fin 2) (s : Fin 12288) (hb : b.val = t.val / 8) (hs : s.val = 2048 + j.val) :
    iblk m c 5 t (ix3 0 0 j) = M m c (ix2 b s) := by
  obtain ⟨h0, h1, h2⟩ := place5 t
  unfold iblk
  refine Eq.trans (congrArg (V m c main_v1) (funext fun a => Fin.ext ?_)) (arr4 m c b s)
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 2048 + 1 * j.val = s.val; omega

theorem points : cfg0.N = 16 := by decide

/-- A tile's entry of the residual stream. -/
theorem added_eq (t : Fin cfg0.N) (i : Fin 512) (k : Fin 2048) (r : Fin 8192) (hr : r.val = t.val * 512 + i.val) :
    (show EReal from iblk m c 0 t (ix2 i k)) + (show EReal from iblk m c 2 t (ix3 0 0 k)) * (show EReal from iblk m c 1 t (ix2 i k))
      = Cert.FinalIdeal.Tiles.added (X m c) (E m c) (L m c) r k := by
  have ht := Nat.lt_of_lt_of_eq t.isLt points
  exact congrArg₂ (fun x y : EReal => x + y) (blk0 m c t i k r hr)
    (congrArg₂ (fun x y : EReal => x * y) (blk2 m c t k ⟨r.val / 4096, by omega⟩ ⟨10240 + k.val, by omega⟩ (by show r.val / 4096 = t.val / 8; omega) rfl)
      (blk1 m c t i k r hr))

/-- What a point writes back is its block of the residual stream. -/
theorem flushed_eq_x (t : Fin cfg0.N) : (dats m 0 c).flushed 6 t = ((cfg0.win 6).blk t).view.read (Elt Ideal) (Gx m c) := by
  rw [flushed6]
  obtain ⟨h0, h1⟩ := place6 t
  have ht := Nat.lt_of_lt_of_eq t.isLt points
  funext y
  have hy0 : (y 0).val < 512 := (y 0).isLt
  have hy1 : (y 1).val < 2048 := (y 1).isLt
  have ein : (cfg0.win 6).xinj (grid0.coords t) y = ix2 (⟨(y 0).val, hy0⟩ : Fin 512) (⟨(y 1).val, hy1⟩ : Fin 2048) :=
    funext fun a => Fin.ext (match a with | ⟨0, _⟩ => rfl | ⟨1, _⟩ => rfl)
  obtain ⟨r, hr⟩ : ∃ r : Fin 8192, r.val = t.val * 512 + (y 0).val := ⟨⟨t.val * 512 + (y 0).val, by omega⟩, rfl⟩
  have eout : ((cfg0.win 6).blk t).view.emb y = ix2 r (⟨(y 1).val, hy1⟩ : Fin 2048) :=
    funext fun a => Fin.ext (match a with
      | ⟨0, _⟩ => by show win0_6.index t (0 : Fin 2) * 512 + 1 * (y 0).val = r.val; omega
      | ⟨1, _⟩ => by show win0_6.index t (1 : Fin 2) * 2048 + 1 * (y 1).val = (y 1).val; omega)
  show out0_6 (iblk m c 0 t) (iblk m c 1 t) (iblk m c 2 t) (iblk m c 3 t) (iblk m c 4 t) (iblk m c 5 t) ((cfg0.win 6).xinj (grid0.coords t) y) = Gx m c (((cfg0.win 6).blk t).view.emb y)
  rw [ein, eout]
  refine (tile_x (iblk m c 0 t) (iblk m c 1 t) (iblk m c 2 t) (iblk m c 3 t) (iblk m c 4 t) (iblk m c 5 t) _ _).trans ?_
  exact added_eq m c t ⟨(y 0).val, hy0⟩ ⟨(y 1).val, hy1⟩ r hr

/-- What a point writes back is its block of the norm. -/
theorem flushed_eq_h (t : Fin cfg0.N) : (dats m 0 c).flushed 7 t = ((cfg0.win 7).blk t).view.read (Elt Ideal) (Gh m c) := by
  rw [flushed7]
  obtain ⟨h0, h1⟩ := place7 t
  have ht := Nat.lt_of_lt_of_eq t.isLt points
  funext y
  have hy0 : (y 0).val < 512 := (y 0).isLt
  have hy1 : (y 1).val < 2048 := (y 1).isLt
  have ein : (cfg0.win 7).xinj (grid0.coords t) y = ix2 (⟨(y 0).val, hy0⟩ : Fin 512) (⟨(y 1).val, hy1⟩ : Fin 2048) :=
    funext fun a => Fin.ext (match a with | ⟨0, _⟩ => rfl | ⟨1, _⟩ => rfl)
  obtain ⟨r, hr⟩ : ∃ r : Fin 8192, r.val = t.val * 512 + (y 0).val := ⟨⟨t.val * 512 + (y 0).val, by omega⟩, rfl⟩
  have eout : ((cfg0.win 7).blk t).view.emb y = ix2 r (⟨(y 1).val, hy1⟩ : Fin 2048) :=
    funext fun a => Fin.ext (match a with
      | ⟨0, _⟩ => by show win0_7.index t (0 : Fin 2) * 512 + 1 * (y 0).val = r.val; omega
      | ⟨1, _⟩ => by show win0_7.index t (1 : Fin 2) * 2048 + 1 * (y 1).val = (y 1).val; omega)
  show out0_7 (iblk m c 0 t) (iblk m c 1 t) (iblk m c 2 t) (iblk m c 3 t) (iblk m c 4 t) (iblk m c 5 t) ((cfg0.win 7).xinj (grid0.coords t) y) = Gh m c (((cfg0.win 7).blk t).view.emb y)
  rw [ein, eout]
  refine (tile_h (iblk m c 0 t) (iblk m c 1 t) (iblk m c 2 t) (iblk m c 3 t) (iblk m c 4 t) (iblk m c 5 t) _ _).trans ?_
  refine shifted_congr (congrArg₂ (fun x y : EReal => x * y) (congrArg (fun x => rms x (⟨(y 1).val, hy1⟩ : Fin 2048)) (funext fun k => ?_)) (blk3 m c t _)) ?_ ?_
  · exact added_eq m c t ⟨(y 0).val, hy0⟩ k r hr
  · exact blk5 m c t ⟨(y 1).val, hy1⟩ ⟨r.val / 4096, by omega⟩ ⟨2048 + (y 1).val, by omega⟩ (by show r.val / 4096 = t.val / 8; omega) rfl
  · exact blk4 m c t ⟨(y 1).val, hy1⟩ ⟨r.val / 4096, by omega⟩ ⟨(y 1).val, by omega⟩ (by show r.val / 4096 = t.val / 8; omega) (by show (y 1).val = 0 + (y 1).val; omega)

/-- The blocks tile the array. -/
theorem covered_x (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  obtain ⟨t, ht⟩ : ∃ t : Fin cfg0.N, t.val = (i 0).val / 512 := ⟨⟨_, by rw [points]; omega⟩, rfl⟩
  obtain ⟨p0, p1⟩ := place6 t
  refine ⟨t, flush0_6 t, ?_⟩
  show i ∈ ((View.whole main_v3_0).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

theorem final_x : (dats m 0 c).arrAt 6 cfg0.N = Gx m c :=
  (dats m 0 c).arrAt_eq_of_cover 6 (Gx m c) (fun t _ => flushed_eq_x m c t) covered_x

/-- The blocks tile the array. -/
theorem covered_h (i : S8192x2048.Idx) : ∃ t : Fin cfg0.N, (cfg0.win 7).flush t = true ∧ i ∈ ((cfg0.win 7).blk t).view.set := by
  have h0 : (i 0).val < 8192 := (i 0).isLt
  have h1 : (i 1).val < 2048 := (i 1).isLt
  obtain ⟨t, ht⟩ : ∃ t : Fin cfg0.N, t.val = (i 0).val / 512 := ⟨⟨_, by rw [points]; omega⟩, rfl⟩
  obtain ⟨p0, p1⟩ := place7 t
  refine ⟨t, flush0_7 t, ?_⟩
  show i ∈ ((View.whole main_v3_1).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 2048 ≤ (i 1).val ∧ (i 1).val < win0_7.index t (1 : Fin 2) * 2048 + 2048; omega

theorem final_h : (dats m 0 c).arrAt 7 cfg0.N = Gh m c :=
  (dats m 0 c).arrAt_eq_of_cover 7 (Gh m c) (fun t _ => flushed_eq_h m c t) covered_h

end Cert.ResidIdeal.Tiles

namespace Cert.ResidRefIdeal.Tiles

open Idealize.ShloMosaic Idealize.ShloMosaic.TcCoe Idealize.SL.Sem Cert.ResidRefIdeal Cert.ResidRefIdeal.Gen Cert.Products

/-- The reference's first result. -/
def stream (X E : FVec Ideal S8192x2048 .f32) (L : FVec Ideal S2x12288 .f32) : FVec Ideal S8192x2048 .f32 :=
  shapeCast _ (addf (shapeCast _ X shapeCasts_S8192x2048_S2x4096x2048) (mulf (broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 L) slices_S2x1x12288_S2x1x2048_0_0_10240)) (shapeCast _ E shapeCasts_S8192x2048_S2x4096x2048))) shapeCasts_S2x4096x2048_S8192x2048

/-- The reference's second result. -/
def whole (X E : FVec Ideal S8192x2048 .f32) (L : FVec Ideal S2x12288 .f32) (g : FVec Ideal S2048 .f32) (M : FVec Ideal S2x12288 .f32) : FVec Ideal S8192x2048 .bf16 :=
  truncf .bf16 (shapeCast _ (addf (mulf (mulf (mulf (addf (shapeCast _ X shapeCasts_S8192x2048_S2x4096x2048) (mulf (broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 L) slices_S2x1x12288_S2x1x2048_0_0_10240)) (shapeCast _ E shapeCasts_S8192x2048_S2x4096x2048))) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (addf (shapeCast _ X shapeCasts_S8192x2048_S2x4096x2048) (mulf (broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 L) slices_S2x1x12288_S2x1x2048_0_0_10240)) (shapeCast _ E shapeCasts_S8192x2048_S2x4096x2048))) (addf (shapeCast _ X shapeCasts_S8192x2048_S2x4096x2048) (mulf (broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 L) slices_S2x1x12288_S2x1x2048_0_0_10240)) (shapeCast _ E shapeCasts_S8192x2048_S2x4096x2048)))) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 0, 2048] (broadcastInDim S2x1x12288 ![0, 2] bcast_S2x12288_S2x1x12288_0_2 M) slices_S2x1x12288_S2x1x2048_0_0_2048)))) (broadcastInDim S2x4096x2048 ![0, 1, 2] bcast_S2x1x2048_S2x4096x2048_0_1_2 (extractStridedSlice S2x1x2048 ![0, 0, 0] (broadcastInDim S2x1x12288 ![0, 2] bcast_S2x12288_S2x1x12288_0_2 M) slices_S2x1x12288_S2x1x2048_0_0_0))) shapeCasts_S2x4096x2048_S8192x2048) bitsLt_bf16_f32

/-- The first is the residual stream after the gated addition. -/
theorem stream_eq (X E : FVec Ideal S8192x2048 .f32) (L : FVec Ideal S2x12288 .f32) : stream X E L = Cert.ResidIdeal.Tiles.summed X E L := by
  funext i
  idx_vars i
  show stream X E L (ix2 _ _) = Cert.FinalIdeal.Tiles.added X E L _ _
  unfold stream Cert.FinalIdeal.Tiles.added
  pointwise

/-- The second is its modulated rows. -/
theorem whole_eq (X E : FVec Ideal S8192x2048 .f32) (L : FVec Ideal S2x12288 .f32) (g : FVec Ideal S2048 .f32) (M : FVec Ideal S2x12288 .f32) : whole X E L g M = Cert.ResidIdeal.Tiles.normed X E L g M := by
  funext i
  idx_vars i
  show whole X E L g M (ix2 _ _) = shifted (rms (Cert.FinalIdeal.Tiles.added X E L _) _ * g (ix1 _)) (M (ix2 _ _)) (M (ix2 _ _))
  unfold whole rms shifted Cert.FinalIdeal.Tiles.added
  pointwise

end Cert.ResidRefIdeal.Tiles

end
-- ==== Proof.ResidClaims.lean ====
/-
  The claims about the residual addition with the norm after it.
-/
module

public import proofs.«01_k».proof.Defs
public import proofs.«01_k».proof.Proof.Gen.Resid.Frame
public import proofs.«01_k».proof.Proof.ResidValue
public import Idealize.ShloMosaic.Lib.Quiescent

@[expose] public section

noncomputable section

namespace Cert.Proof.Resid

open Idealize.ShloMosaic Idealize.SL.Sem

theorem frame_kernel : Cert.quiescent_Resid := fun m ρ _ => Cert.Resid.Gen.frame m ρ

theorem frame_ideal : Cert.quiescent_ResidIdeal := fun m ρ _ => Cert.ResidIdeal.Gen.frame m ρ

theorem frame_reference : Cert.quiescent_ResidRefIdeal := fun m ρ _ =>
  (θ_run Cert.ResidRefIdeal.defs _ _).mono (fun r h => ⟨fun c => (h c).2.2, sem_eq_zero_of_no_sems (by decide) r.2⟩)
    (Cert.ResidRefIdeal.Value.run (F := Ideal) m ρ)

/-- Both programs leave the residual stream and its modulated rows. -/
theorem equal : Cert.algebraic_ResidIdeal_ResidRefIdeal := by
  intro m g m' g' _ agree
  refine ⟨fun c => Cert.ResidIdeal.Tiles.Gx m c, fun c => Cert.ResidIdeal.Tiles.Gh m c, ?_, ?_⟩
  · exact (θ_run _ _ _).mono (fun _ h c => ⟨(h c).1.trans (Cert.ResidIdeal.Tiles.final_x m c), (h c).2.1.trans (Cert.ResidIdeal.Tiles.final_h m c), (h c).2.2⟩)
      (Cert.ResidIdeal.Value.run_blocks (F := Ideal) m g)
  · refine (θ_run _ _ _).mono (fun _ h c => ⟨(h c).1.trans ?_, (h c).2.1.trans ?_, (h c).2.2⟩) (Cert.ResidRefIdeal.Value.run (F := Ideal) m' g')
    · rw [(agree c).1, (agree c).2.1, (agree c).2.2.1]
      exact Cert.ResidRefIdeal.Tiles.stream_eq _ _ _
    · rw [(agree c).1, (agree c).2.1, (agree c).2.2.1, (agree c).2.2.2.1, (agree c).2.2.2.2]
      exact Cert.ResidRefIdeal.Tiles.whole_eq _ _ _ _ _

end Cert.Proof.Resid

end
-- ==== Proof.PoolStep.lean ====
/-
  Causal average pooling: what one grid point computes of the tile it is given and of the sixteen rows before it.
-/
module

public import proofs.«01_k».proof.Proof.Gen.PoolIdeal.Value
public import proofs.«01_k».proof.Proof.Product
public import Idealize.ShloMosaic.Lib.Pipeline.ValueKit.Geometry

@[expose] public section

set_option maxRecDepth 16384
noncomputable section

namespace Cert.Pooled

open Idealize.ShloMosaic
open scoped BigOperators

/-- The sum of the `win` entries that end at place `t`; entries before the first are left out. -/
def trail (win : ℕ) (f : Fin 4096 → EReal) (t : Fin 4096) : EReal :=
  ∑ j : Fin win, if j.val ≤ t.val then f ⟨t.val - j.val, by omega⟩ else 0

/-- A trailing average, counted over at most `k` places, less the entry itself. -/
def gap (win : ℕ) (k : BitVec 32) (f : Fin 4096 → EReal) (t : Fin 4096) : EReal :=
  Ideal.div (trail win f t) (min (1 + ((t.val : ℝ) : EReal)) (Ideal.ofBits FTy.f32 k)) - f t

/-- The four groups' window lengths. -/
def len : Fin 4 → ℕ := ![2, 4, 8, 16]

/-- The four groups' window lengths, as float words. -/
def lenWord : Fin 4 → BitVec 32 := ![0x40000000#32, 0x40800000#32, 0x41000000#32, 0x41800000#32]

/-- Lane `x` of group `g`. -/
def lane (g : Fin 4) (x : Fin 128) : Fin 512 := ⟨128 * g.val + x.val, by omega⟩

/-- The row `j` places before row `r` of the tile, counted with the sixteen earlier rows. -/
def back (j : ℕ) (r : Fin 512) : Fin 528 := ⟨16 - j + r.val, by omega⟩

theorem len_le (g : Fin 4) : len g ≤ 16 := by revert g; decide

end Cert.Pooled

namespace Cert.PoolIdeal.Pooled

open Idealize.ShloMosaic Idealize.ShloMosaic.TcCoe Cert.PoolIdeal Cert.PoolIdeal.Gen Cert.Pooled
open scoped BigOperators

/-- The sixteen rows kept from before, followed by the tile's rows. -/
def ext (H : Fin 16 → Fin 512 → EReal) (x0 : Vec Ideal S512x512 .f32) (n : Fin 528) (l : Fin 512) : EReal :=
  if h : n.val < 16 then H ⟨n.val, h⟩ l else x0 (ix2 ⟨n.val - 16, by omega⟩ l)

/-- What a point writes in row `r`, lane `e` of group `g`. -/
def stepOut (x0 : Vec Ideal S512x512 .f32) (x1 : Vec Ideal S4x128x128 .f32) (x2 : Vec Ideal S1x512 .f32) (pos : EReal)
    (E : Fin 528 → Fin 512 → EReal) (g : Fin 4) (r : Fin 512) (e : Fin 128) : EReal :=
  (∑ x : Fin 128, (Ideal.div (∑ j : Fin (len g), E (back j.val r) (lane g x)) (min pos (Ideal.ofBits FTy.f32 (lenWord g)))
      - x0 (ix2 r (lane g x))) * x1 (ix3 g x e)) * x2 (ix2 0 (lane g e))

section
variable (i : grid0.Coords) (x0 : Vec Ideal S512x512 .f32) (x1 : Vec Ideal S4x128x128 .f32) (x2 : Vec Ideal S1x512 .f32)
  (E : Fin 528 → Fin 512 → EReal) (hE : ∀ (r : Fin 512) (l : Fin 512), E (back 0 r) l = x0 (ix2 r l))
  (L : Fin 16 → FVec Ideal S512x128 .f32) (W : FVec Ideal S1x128x128 .f32) (sc : FVec Ideal S1x128 .f32)
  (r : Fin 512) (e : Fin 128)
include hE

theorem body0 (hL : ∀ (j : Fin 16) (x : Fin 128), L j (ix2 r x) = E (back j.val r) (lane 0 x))
    (hW : ∀ x, W (ix3 0 x e) = x1 (ix3 0 x e)) (hs : sc (ix2 0 e) = x2 (ix2 0 (lane 0 e))) :
    k0_pay6 i x0 (L 1) W sc (ix2 r e)
      = stepOut x0 x1 x2 (k0_pay5 (F := Ideal) i (ix2 r 0)) E 0 r e := by
  unfold stepOut
  rw [← hs]
  simp only [← hW]
  have hl : ∀ x : Fin 128, ∑ j : Fin (len 0), E (back j.val r) (lane 0 x)
      = x0 (ix2 r (lane 0 x)) + L 1 (ix2 r x) := by
    intro x
    rw [← hE]
    simp only [hL]
    show ∑ j : Fin 2, _ = _
    simp only [Fin.sum_univ_castSucc, Fin.sum_univ_zero, zero_add]
    rfl
  have ha : ∀ x : Fin 128, lane 0 x = ⟨x.val, by omega⟩ := fun x => Fin.ext (by show 128 * 0 + x.val = x.val; omega)
  simp only [hl]
  simp only [ha]
  pointwise [k0_pay6, k0_pay3]
  rfl

theorem body1 (hL : ∀ (j : Fin 16) (x : Fin 128), L j (ix2 r x) = E (back j.val r) (lane 1 x))
    (hW : ∀ x, W (ix3 0 x e) = x1 (ix3 1 x e)) (hs : sc (ix2 0 e) = x2 (ix2 0 (lane 1 e))) :
    k0_pay8 (k0_pay3 x0) (k0_pay5 i) (k0_pay7 x0) (L 1) (L 2) (L 3) W sc (ix2 r e)
      = stepOut x0 x1 x2 (k0_pay5 (F := Ideal) i (ix2 r 0)) E 1 r e := by
  unfold stepOut
  rw [← hs]
  simp only [← hW]
  have hl : ∀ x : Fin 128, ∑ j : Fin (len 1), E (back j.val r) (lane 1 x)
      = x0 (ix2 r (lane 1 x)) + L 1 (ix2 r x) + L 2 (ix2 r x) + L 3 (ix2 r x) := by
    intro x
    rw [← hE]
    simp only [hL]
    show ∑ j : Fin 4, _ = _
    simp only [Fin.sum_univ_castSucc, Fin.sum_univ_zero, zero_add]
    rfl
  have ha : ∀ x : Fin 128, lane 1 x = ⟨128 + x.val, by omega⟩ := fun x => Fin.ext (by show 128 * 1 + x.val = 128 + x.val; omega)
  simp only [hl]
  simp only [ha]
  pointwise [k0_pay8, k0_pay7, k0_pay3]
  rfl

theorem body2 (hL : ∀ (j : Fin 16) (x : Fin 128), L j (ix2 r x) = E (back j.val r) (lane 2 x))
    (hW : ∀ x, W (ix3 0 x e) = x1 (ix3 2 x e)) (hs : sc (ix2 0 e) = x2 (ix2 0 (lane 2 e))) :
    k0_pay10 (k0_pay3 x0) (k0_pay5 i) (k0_pay9 (k0_pay3 x0) (L 1) (L 2) (L 3) (L 4) (L 5)) (L 6) (L 7) W sc (ix2 r e)
      = stepOut x0 x1 x2 (k0_pay5 (F := Ideal) i (ix2 r 0)) E 2 r e := by
  unfold stepOut
  rw [← hs]
  simp only [← hW]
  have hl : ∀ x : Fin 128, ∑ j : Fin (len 2), E (back j.val r) (lane 2 x)
      = x0 (ix2 r (lane 2 x)) + L 1 (ix2 r x) + L 2 (ix2 r x) + L 3 (ix2 r x) + L 4 (ix2 r x) + L 5 (ix2 r x) + L 6 (ix2 r x) + L 7 (ix2 r x) := by
    intro x
    rw [← hE]
    simp only [hL]
    show ∑ j : Fin 8, _ = _
    simp only [Fin.sum_univ_castSucc, Fin.sum_univ_zero, zero_add]
    rfl
  have ha : ∀ x : Fin 128, lane 2 x = ⟨256 + x.val, by omega⟩ := fun x => Fin.ext (by show 128 * 2 + x.val = 256 + x.val; omega)
  simp only [hl]
  simp only [ha]
  pointwise [k0_pay10, k0_pay9, k0_pay3]
  rfl

theorem body3 (hL : ∀ (j : Fin 16) (x : Fin 128), L j (ix2 r x) = E (back j.val r) (lane 3 x))
    (hW : ∀ x, W (ix3 0 x e) = x1 (ix3 3 x e)) (hs : sc (ix2 0 e) = x2 (ix2 0 (lane 3 e))) :
    k0_pay12 (k0_pay3 x0) (k0_pay5 i) (k0_pay11 (k0_pay3 x0) (L 1) (L 2) (L 3) (L 4) (L 5) (L 6)) (L 7) (L 8) (L 9) (L 10) (L 11) (L 12) (L 13) (L 14) (L 15) W sc (ix2 r e)
      = stepOut x0 x1 x2 (k0_pay5 (F := Ideal) i (ix2 r 0)) E 3 r e := by
  unfold stepOut
  rw [← hs]
  simp only [← hW]
  have hl : ∀ x : Fin 128, ∑ j : Fin (len 3), E (back j.val r) (lane 3 x)
      = x0 (ix2 r (lane 3 x)) + L 1 (ix2 r x) + L 2 (ix2 r x) + L 3 (ix2 r x) + L 4 (ix2 r x) + L 5 (ix2 r x) + L 6 (ix2 r x) + L 7 (ix2 r x) + L 8 (ix2 r x) + L 9 (ix2 r x) + L 10 (ix2 r x) + L 11 (ix2 r x) + L 12 (ix2 r x) + L 13 (ix2 r x) + L 14 (ix2 r x) + L 15 (ix2 r x) := by
    intro x
    rw [← hE]
    simp only [hL]
    show ∑ j : Fin 16, _ = _
    simp only [Fin.sum_univ_castSucc, Fin.sum_univ_zero, zero_add]
    rfl
  have ha : ∀ x : Fin 128, lane 3 x = ⟨384 + x.val, by omega⟩ := fun x => Fin.ext (by show 128 * 3 + x.val = 384 + x.val; omega)
  simp only [hl]
  simp only [ha]
  pointwise [k0_pay12, k0_pay11, k0_pay3]
  rfl

end

/-! ### What the point loads and stores -/

theorem inbLoad (g : Fin 4) (j : Fin 16) : ∀ a : Fin 2, (![16 - j.val, 128 * g.val] : Fin 2 → ℕ) a + S512x128.size a ≤ S528x512.size a := by
  decide +revert

theorem inbGroup (g : Fin 4) : ∀ a : Fin 2, (![0, 128 * g.val] : Fin 2 → ℕ) a + S512x128.size a ≤ S512x512.size a := by
  decide +revert

theorem inbWeight (g : Fin 4) : ∀ a : Fin 3, (![g.val, 0, 0] : Fin 3 → ℕ) a + S1x128x128.size a ≤ S4x128x128.size a := by
  decide +revert

theorem inbScale (g : Fin 4) : ∀ a : Fin 2, (![0, 128 * g.val] : Fin 2 → ℕ) a + S1x128.size a ≤ S1x512.size a := by
  decide +revert

section
variable {F : FTy → Type} [FloatOps F]

/-- The four groups' parts of the output block, of the tile, the earlier rows, the weights and the scales. -/
def parts (i : grid0.Coords) (X : Vec F S512x512 .f32) (L : Fin 4 → Fin 16 → Vec F S512x128 .f32) (W : Fin 4 → Vec F S1x128x128 .f32)
    (sc : Fin 4 → Vec F S1x128 .f32) : Fin 4 → FVec F S512x128 .bf16
  | 0 => k0_pay6 i X (L 0 1) (W 0) (sc 0)
  | 1 => k0_pay8 (k0_pay3 X) (k0_pay5 i) (k0_pay7 X) (L 1 1) (L 1 2) (L 1 3) (W 1) (sc 1)
  | 2 => k0_pay10 (k0_pay3 X) (k0_pay5 i) (k0_pay9 (k0_pay3 X) (L 2 1) (L 2 2) (L 2 3) (L 2 4) (L 2 5)) (L 2 6) (L 2 7) (W 2) (sc 2)
  | 3 => k0_pay12 (k0_pay3 X) (k0_pay5 i) (k0_pay11 (k0_pay3 X) (L 3 1) (L 3 2) (L 3 3) (L 3 4) (L 3 5) (L 3 6)) (L 3 7) (L 3 8) (L 3 9)
      (L 3 10) (L 3 11) (L 3 12) (L 3 13) (L 3 14) (L 3 15) (W 3) (sc 3)

/-- The output block's pieces, the last group's first. -/
def outList (P : Fin 4 → Vec F S512x128 .bf16) : List (View.Piece (Elt F) S512x512 .bf16) :=
  [3, 2, 1, 0].map fun g : Fin 4 => ⟨Rect.unit (s := S512x512) ![0, 128 * g.val] S512x128.size (inbGroup g), P g⟩

/-- The piece that stores the tile behind the sixteen earlier rows. -/
def tilePiece (X : Vec F S512x512 .f32) : View.Piece (Elt F) S528x512 .f32 :=
  ⟨Rect.unit (s := S528x512) ![16, 0] S512x512.size inb_S528x512_S512x512_16_0, k0_pay4 X⟩

/-- The piece that clears the sixteen earlier rows. -/
def zeroPiece : View.Piece (Elt F) S528x512 .f32 :=
  ⟨Rect.unit (s := S528x512) ![0, 0] S16x512.size inb_S528x512_S16x512_0_0, k0_pay2⟩

/-- The piece that keeps the tile's last sixteen rows for the next point. -/
def keepPiece (w : Vec F S16x512 .f32) : View.Piece (Elt F) S528x512 .f32 :=
  ⟨Rect.unit (s := S528x512) ![0, 0] S16x512.size inb_S528x512_S16x512_0_0, k0_pay1 w⟩

variable (c : Dev nD) (i : grid0.Coords)
  (arg2 : Memref sig .tc .vmem S512x512 .f32) (harg2 : arg2.IsWhole)
  (arg3 : Memref sig .tc .vmem S4x128x128 .f32) (harg3 : arg3.IsWhole)
  (arg4 : Memref sig .tc .vmem S1x512 .f32) (harg4 : arg4.IsWhole)
  (arg5 : Memref sig .tc .vmem S512x512 .bf16) (harg5 : arg5.IsWhole)
  (arg6 : Memref sig .tc .vmem S528x512 .f32) (harg6 : arg6.IsWhole)
  (x0 : Vec F S512x512 .f32) (x1 : Vec F S4x128x128 .f32) (x2 : Vec F S1x512 .f32)

/-- The tile, as loaded. -/
def tileLoad : Vec F S512x512 .f32 :=
  arg2.view.readAt (Elt F) (Rect.unit (s := S512x512) ![0, 0] S512x512.size inb_S512x512_S512x512_0_0).toLoadRect (harg2.unread x0)

/-- A group's weights, as loaded. -/
def weightLoad (g : Fin 4) : Vec F S1x128x128 .f32 :=
  arg3.view.readAt (Elt F) (Rect.unit (s := S4x128x128) ![g.val, 0, 0] S1x128x128.size (inbWeight g)).toLoadRect (harg3.unread x1)

/-- A group's scales, as loaded. -/
def scaleLoad (g : Fin 4) : Vec F S1x128 .f32 :=
  arg4.view.readAt (Elt F) (Rect.unit (s := S1x512) ![0, 128 * g.val] S1x128.size (inbScale g)).toLoadRect (harg4.unread x2)

/-- A group's lanes of the rows `j` places earlier, as loaded after the tile is stored. -/
def rowsLoad (f : arg6.view.ty.Contents (Elt F)) (X : Vec F S512x512 .f32) (M : List (View.Piece (Elt F) S528x512 .f32)) (g : Fin 4) (j : Fin 16) :
    Vec F S512x128 .f32 :=
  arg6.view.readAt (Elt F) (Rect.unit (s := S528x512) ![16 - j.val, 128 * g.val] S512x128.size (inbLoad g j)).toLoadRect
    (arg6.view.writes (Elt F) f (tilePiece X :: M))

/-- The same at a first point, where the earlier rows are cleared first. -/
def rowsFirst (X : Vec F S512x512 .f32) (g : Fin 4) (j : Fin 16) : Vec F S512x128 .f32 :=
  arg6.view.readCov (Val := Elt F) [tilePiece X, zeroPiece]
    (Rect.unit (s := S528x512) ![16 - j.val, 128 * g.val] S512x128.size (inbLoad g j)).toLoadRect

theorem rowsFirst_eq (X : Vec F S512x512 .f32) (g : Fin 4) (j : Fin 16) :
    rowsFirst arg6 X g j = rowsLoad arg6 arg6.view.junk X [zeroPiece] g j := rfl

/-- The last sixteen rows, as loaded after the tile is stored. -/
def lastLoad (X : Vec F S512x512 .f32) (M : List (View.Piece (Elt F) S528x512 .f32)) : Vec F S16x512 .f32 :=
  arg6.view.readCov (Val := Elt F) (tilePiece X :: M) (Rect.unit (s := S528x512) ![512, 0] S16x512.size inb_S528x512_S16x512_512_0).toLoadRect

/-- The pieces of the output block at a first point. -/
theorem outPieces_A (hc0 : cond0_0 i) :
    (kernelRun0_A c i arg2 harg2 arg3 harg3 arg4 harg4 arg5 harg5 arg6 harg6 hc0 x0 x1 x2).1
      = outList (parts i (tileLoad arg2 harg2 x0) (rowsFirst arg6 (tileLoad arg2 harg2 x0))
          (weightLoad arg3 harg3 x1) (scaleLoad arg4 harg4 x2)) := rfl

/-- The pieces of the kept rows at a first point. -/
theorem keptPieces_A (hc0 : cond0_0 i) :
    (kernelRun0_A c i arg2 harg2 arg3 harg3 arg4 harg4 arg5 harg5 arg6 harg6 hc0 x0 x1 x2).2.1
      = [keepPiece (lastLoad arg6 (tileLoad arg2 harg2 x0) [zeroPiece]), tilePiece (tileLoad arg2 harg2 x0), zeroPiece] := rfl

/-- The pieces of the output block at a later point. -/
theorem outPieces_B (hc0 : ¬cond0_0 i) (xs0 : Vec F S528x512 .f32) :
    (kernelRun0_B c i arg2 harg2 arg3 harg3 arg4 harg4 arg5 harg5 arg6 harg6 hc0 x0 x1 x2 xs0).1
      = outList (parts i (tileLoad arg2 harg2 x0) (rowsLoad arg6 (harg6.unread xs0) (tileLoad arg2 harg2 x0) [])
          (weightLoad arg3 harg3 x1) (scaleLoad arg4 harg4 x2)) := rfl

/-- The pieces of the kept rows at a later point. -/
theorem keptPieces_B (hc0 : ¬cond0_0 i) (xs0 : Vec F S528x512 .f32) :
    (kernelRun0_B c i arg2 harg2 arg3 harg3 arg4 harg4 arg5 harg5 arg6 harg6 hc0 x0 x1 x2 xs0).2.1
      = [keepPiece (lastLoad arg6 (tileLoad arg2 harg2 x0) []), tilePiece (tileLoad arg2 harg2 x0)] := rfl

end

end Cert.PoolIdeal.Pooled

end
-- ==== Proof.PoolPoint.lean ====
/-
  Causal average pooling: what each grid point leaves in the output block and in the sixteen kept rows.
-/
module

public import proofs.«01_k».proof.Proof.PoolStep
public import Idealize.ShloMosaic.Lib.WritesUnit

@[expose] public section

set_option maxRecDepth 16384
noncomputable section

namespace Cert.PoolIdeal.Pooled

open Idealize.ShloMosaic Idealize.ShloMosaic.TcCoe Cert.PoolIdeal Cert.PoolIdeal.Gen Cert.PoolIdeal.Value Cert.Pooled
open scoped BigOperators

/-- A load of consecutive entries reads the window's contents there. -/
theorem load_apply {s : Shape} {e : EltTy} {sp : Space} (a : Memref sig .tc sp s e) (ha : a.IsWhole) (x : Vec Ideal s e)
    {off size : Fin s.rank → ℕ} (inb : ∀ k, off k + size k ≤ s.size k) (y : (Rect.unit off size inb).shape.Idx) (z : s.Idx)
    (hz : ∀ k, (z k).val = off k + (y k).val) :
    a.view.readAt (Elt Ideal) (Rect.unit off size inb).toLoadRect (ha.unread x) y = x z := by
  rw [View.readAt_apply]
  refine (congrFun (ha.read_unread x) _).trans ?_
  exact congrArg x (funext fun k => Fin.ext (by
    show off k + 1 * (y k).val = (z k).val
    rw [hz k, Nat.one_mul]))

section
variable (arg2 : Memref sig .tc .vmem S512x512 .f32) (harg2 : arg2.IsWhole)
  (arg3 : Memref sig .tc .vmem S4x128x128 .f32) (harg3 : arg3.IsWhole)
  (arg4 : Memref sig .tc .vmem S1x512 .f32) (harg4 : arg4.IsWhole)
  (arg6 : Memref sig .tc .vmem S528x512 .f32) (harg6 : arg6.IsWhole)
  (x0 : Vec Ideal S512x512 .f32) (x1 : Vec Ideal S4x128x128 .f32) (x2 : Vec Ideal S1x512 .f32)

theorem tileLoad_eq : tileLoad arg2 harg2 x0 = x0 := by
  funext y
  refine load_apply arg2 harg2 x0 _ y y fun k => ?_
  match k with
  | ⟨0, _⟩ => exact (Nat.zero_add _).symm
  | ⟨1, _⟩ => exact (Nat.zero_add _).symm

theorem weightLoad_apply (g : Fin 4) (x e : Fin 128) : weightLoad arg3 harg3 x1 g (ix3 0 x e) = x1 (ix3 g x e) := by
  refine load_apply arg3 harg3 x1 _ _ _ fun k => ?_
  match k with
  | ⟨0, _⟩ => rfl
  | ⟨1, _⟩ => exact (Nat.zero_add _).symm
  | ⟨2, _⟩ => exact (Nat.zero_add _).symm

theorem scaleLoad_apply (g : Fin 4) (e : Fin 128) : scaleLoad arg4 harg4 x2 g (ix2 0 e) = x2 (ix2 0 (lane g e)) := by
  refine load_apply arg4 harg4 x2 _ _ _ fun k => ?_
  match k with
  | ⟨0, _⟩ => rfl
  | ⟨1, _⟩ => rfl

end

section
variable {sp : Space} (v : View sig .tc sp S528x512 .f32) (f : v.ty.Contents (Elt Ideal)) (X : Vec Ideal S512x512 .f32)
  (M : List (View.Piece (Elt Ideal) S528x512 .f32))

theorem pay4_apply (r l : Fin 512) : k0_pay4 X (ix2 r l) = X (ix2 r l) := by
  pointwise [k0_pay4, k0_pay3]

/-- After the tile is stored the buffer holds the earlier rows and then the tile. -/
theorem stored_apply (n : Fin 528) (l : Fin 512) :
    v.read (Elt Ideal) (v.writes (Elt Ideal) f (tilePiece X :: M)) (ix2 n l)
      = ext (fun n l => v.read (Elt Ideal) (v.writes (Elt Ideal) f M) (ix2 (⟨n.val, by omega⟩ : Fin 528) l)) X n l := by
  unfold ext
  by_cases h : n.val < 16
  · rw [dif_pos h]
    refine View.read_writes_cons_unit_of_not_mem v f _ _ M _ rfl 0 ?_
    show n.val < 16 ∨ 16 + 512 ≤ n.val
    omega
  · rw [dif_neg h]
    refine Eq.trans ?_ (pay4_apply X _ _)
    refine View.read_writes_cons_unit_of_mem v f _ _ M _ (ix2 (⟨n.val - 16, by omega⟩ : Fin 512) l) rfl fun a => ?_
    match a with
    | ⟨0, _⟩ => show n.val = 16 + (n.val - 16); omega
    | ⟨1, _⟩ => exact (Nat.zero_add _).symm

/-- The cleared rows are zero. -/
theorem zero_apply (n : Fin 16) (l : Fin 512) :
    v.read (Elt Ideal) (v.writes (Elt Ideal) f [zeroPiece]) (ix2 (⟨n.val, by omega⟩ : Fin 528) l) = (0 : EReal) := by
  refine (View.read_writes_cons_unit_of_mem v f _ _ [] _ (ix2 n l) rfl fun a => ?_).trans ?_
  · match a with
    | ⟨0, _⟩ => exact (Nat.zero_add _).symm
    | ⟨1, _⟩ => exact (Nat.zero_add _).symm
  · pointwise [k0_pay2]

/-- The kept rows are what was loaded for them. -/
theorem keep_apply (w : Vec Ideal S16x512 .f32) (n : Fin 16) (l : Fin 512) :
    v.read (Elt Ideal) (v.writes (Elt Ideal) f (keepPiece w :: M)) (ix2 (⟨n.val, by omega⟩ : Fin 528) l) = w (ix2 n l) := by
  refine (View.read_writes_cons_unit_of_mem v f _ _ M _ (ix2 n l) rfl fun a => ?_).trans ?_
  · match a with
    | ⟨0, _⟩ => exact (Nat.zero_add _).symm
    | ⟨1, _⟩ => exact (Nat.zero_add _).symm
  · pointwise [k0_pay1]

end

section
variable (arg6 : Memref sig .tc .vmem S528x512 .f32) (f : arg6.view.ty.Contents (Elt Ideal)) (X : Vec Ideal S512x512 .f32)
  (M : List (View.Piece (Elt Ideal) S528x512 .f32))

theorem rowsLoad_apply (g : Fin 4) (j : Fin 16) (r : Fin 512) (x : Fin 128) :
    rowsLoad arg6 f X M g j (ix2 r x)
      = ext (fun n l => arg6.view.read (Elt Ideal) (arg6.view.writes (Elt Ideal) f M) (ix2 (⟨n.val, by omega⟩ : Fin 528) l)) X
          (back j.val r) (lane g x) := by
  unfold rowsLoad
  rw [View.readAt_apply]
  refine Eq.trans (congrArg _ (funext fun a => Fin.ext ?_)) (stored_apply arg6.view f X M (back j.val r) (lane g x))
  match a with
  | ⟨0, _⟩ => show 16 - j.val + 1 * r.val = 16 - j.val + r.val; omega
  | ⟨1, _⟩ => show 128 * g.val + 1 * x.val = 128 * g.val + x.val; omega

theorem lastLoad_apply (n : Fin 16) (l : Fin 512) : lastLoad arg6 X M (ix2 n l) = X (ix2 (⟨496 + n.val, by omega⟩ : Fin 512) l) := by
  unfold lastLoad View.readCov
  rw [View.readAt_apply]
  refine Eq.trans (congrArg _ (funext fun a => Fin.ext ?_)) ((stored_apply arg6.view _ X M ⟨512 + n.val, by omega⟩ l).trans ?_)
  · match a with
    | ⟨0, _⟩ => show 512 + 1 * n.val = 512 + n.val; omega
    | ⟨1, _⟩ => show 0 + 1 * l.val = l.val; omega
  · unfold ext
    rw [dif_neg (by show ¬(512 + n.val < 16); omega)]
    exact congrArg (fun z => X (ix2 z l)) (Fin.ext (by show 512 + n.val - 16 = 496 + n.val; omega))

end

/-- The four groups' parts, entry by entry. -/
theorem parts_apply (i : grid0.Coords) (x0 : Vec Ideal S512x512 .f32) (x1 : Vec Ideal S4x128x128 .f32) (x2 : Vec Ideal S1x512 .f32)
    (E : Fin 528 → Fin 512 → EReal) (hE : ∀ (r : Fin 512) (l : Fin 512), E (back 0 r) l = x0 (ix2 r l))
    (L : Fin 4 → Fin 16 → FVec Ideal S512x128 .f32) (W : Fin 4 → FVec Ideal S1x128x128 .f32) (sc : Fin 4 → FVec Ideal S1x128 .f32)
    (g : Fin 4) (r : Fin 512) (e : Fin 128)
    (hL : ∀ (j : Fin 16) (x : Fin 128), L g j (ix2 r x) = E (back j.val r) (lane g x))
    (hW : ∀ x, W g (ix3 0 x e) = x1 (ix3 g x e)) (hs : sc g (ix2 0 e) = x2 (ix2 0 (lane g e))) :
    parts i x0 L W sc g (ix2 r e) = stepOut x0 x1 x2 (k0_pay5 (F := Ideal) i (ix2 r 0)) E g r e := by
  match g with
  | 0 => exact body0 i x0 x1 x2 E hE (L 0) (W 0) (sc 0) r e hL hW hs
  | 1 => exact body1 i x0 x1 x2 E hE (L 1) (W 1) (sc 1) r e hL hW hs
  | 2 => exact body2 i x0 x1 x2 E hE (L 2) (W 2) (sc 2) r e hL hW hs
  | 3 => exact body3 i x0 x1 x2 E hE (L 3) (W 3) (sc 3) r e hL hW hs

/-! ### The output block's pieces, read back -/

section
variable {sp : Space} (v : View sig .tc sp S512x512 .bf16)

theorem out_skip (f : v.ty.Contents (Elt Ideal)) (h : Fin 4) (w : Vec Ideal S512x128 .bf16)
    (L : List (View.Piece (Elt Ideal) S512x512 .bf16)) (g : Fin 4) (r : Fin 512) (e : Fin 128) (hne : h ≠ g) :
    v.read (Elt Ideal) (v.writes (Elt Ideal) f (⟨Rect.unit (s := S512x512) ![0, 128 * h.val] S512x128.size (inbGroup h), w⟩ :: L)) (ix2 r (lane g e))
      = v.read (Elt Ideal) (v.writes (Elt Ideal) f L) (ix2 r (lane g e)) := by
  have hh : h.val ≠ g.val := fun q => hne (Fin.ext q)
  refine View.read_writes_cons_unit_of_not_mem v f _ w L _ rfl 1 ?_
  show 128 * g.val + e.val < 128 * h.val ∨ 128 * h.val + 128 ≤ 128 * g.val + e.val
  omega

theorem out_hit (f : v.ty.Contents (Elt Ideal)) (w : Vec Ideal S512x128 .bf16)
    (L : List (View.Piece (Elt Ideal) S512x512 .bf16)) (g : Fin 4) (r : Fin 512) (e : Fin 128) :
    v.read (Elt Ideal) (v.writes (Elt Ideal) f (⟨Rect.unit (s := S512x512) ![0, 128 * g.val] S512x128.size (inbGroup g), w⟩ :: L)) (ix2 r (lane g e))
      = w (ix2 r e) :=
  View.read_writes_cons_unit_of_mem v f _ w L _ (ix2 r e) rfl fun a => by
    match a with
    | ⟨0, _⟩ => exact (Nat.zero_add _).symm
    | ⟨1, _⟩ => rfl

/-- Each group's lanes hold its piece. -/
theorem outList_apply (f : v.ty.Contents (Elt Ideal)) (P : Fin 4 → Vec Ideal S512x128 .bf16) (g : Fin 4) (r : Fin 512) (e : Fin 128) :
    v.read (Elt Ideal) (v.writes (Elt Ideal) f (outList P)) (ix2 r (lane g e)) = P g (ix2 r e) := by
  unfold outList
  have key : ∀ L : List (Fin 4), g ∈ L →
      v.read (Elt Ideal) (v.writes (Elt Ideal) f (L.map fun g : Fin 4 =>
        ⟨Rect.unit (s := S512x512) ![0, 128 * g.val] S512x128.size (inbGroup g), P g⟩)) (ix2 r (lane g e)) = P g (ix2 r e) := by
    intro L
    induction L with
    | nil => intro h; simp at h
    | cons p L ih =>
      intro h
      rw [List.map_cons]
      by_cases hp : p = g
      · subst hp; exact out_hit v f _ _ p r e
      · refine (out_skip v f p _ _ g r e hp).trans (ih ?_)
        rcases List.mem_cons.1 h with h | h
        · exact absurd h.symm hp
        · exact h
  exact key _ ((by decide : ∀ g : Fin 4, g ∈ ([3, 2, 1, 0] : List (Fin 4))) g)

end

section
variable (c : Dev nD) (i : grid0.Coords)
  (arg2 : Memref sig .tc .vmem S512x512 .f32) (harg2 : arg2.IsWhole)
  (arg3 : Memref sig .tc .vmem S4x128x128 .f32) (harg3 : arg3.IsWhole)
  (arg4 : Memref sig .tc .vmem S1x512 .f32) (harg4 : arg4.IsWhole)
  (arg5 : Memref sig .tc .vmem S512x512 .bf16) (harg5 : arg5.IsWhole)
  (arg6 : Memref sig .tc .vmem S528x512 .f32) (harg6 : arg6.IsWhole)
  (x0 : Vec Ideal S512x512 .f32) (x1 : Vec Ideal S4x128x128 .f32) (x2 : Vec Ideal S1x512 .f32)

theorem ext_tile (H : Fin 16 → Fin 512 → EReal) (r : Fin 512) (l : Fin 512) : ext H x0 (back 0 r) l = x0 (ix2 r l) := by
  unfold ext
  rw [dif_neg (by show ¬(16 + r.val < 16); omega)]
  exact congrArg (fun z => x0 (ix2 z l)) (Fin.ext (by show 16 + r.val - 16 = r.val; omega))

/-- The output block of a first point: the rows before the tile count as zero. -/
theorem out_A (hc0 : cond0_0 i) (g : Fin 4) (r : Fin 512) (e : Fin 128) :
    out0_A_3 c i arg2 harg2 arg3 harg3 arg4 harg4 arg5 harg5 arg6 harg6 hc0 x0 x1 x2 (ix2 r (lane g e))
      = stepOut x0 x1 x2 (k0_pay5 (F := Ideal) i (ix2 r 0)) (ext (fun _ _ => 0) x0) g r e := by
  unfold out0_A_3
  rw [outPieces_A, tileLoad_eq]
  refine (outList_apply _ _ _ g r e).trans (parts_apply i x0 x1 x2 _ (ext_tile x0 _) _ _ _ g r e (fun j x => ?_)
    (fun x => weightLoad_apply arg3 harg3 x1 g x e) (scaleLoad_apply arg4 harg4 x2 g e))
  rw [rowsFirst_eq]
  refine (rowsLoad_apply arg6 _ x0 [zeroPiece] g j r x).trans ?_
  exact congrArg (fun H => ext H x0 (back j.val r) (lane g x)) (funext fun n => funext fun l => zero_apply _ _ n l)

/-- The output block of a later point: the rows before the tile are the kept ones. -/
theorem out_B (hc0 : ¬cond0_0 i) (xs0 : Vec Ideal S528x512 .f32) (g : Fin 4) (r : Fin 512) (e : Fin 128) :
    out0_B_3 c i arg2 harg2 arg3 harg3 arg4 harg4 arg5 harg5 arg6 harg6 hc0 x0 x1 x2 xs0 (ix2 r (lane g e))
      = stepOut x0 x1 x2 (k0_pay5 (F := Ideal) i (ix2 r 0)) (ext (fun n l => xs0 (ix2 (⟨n.val, by omega⟩ : Fin 528) l)) x0) g r e := by
  unfold out0_B_3
  rw [outPieces_B, tileLoad_eq]
  refine (outList_apply _ _ _ g r e).trans (parts_apply i x0 x1 x2 _ (ext_tile x0 _) _ _ _ g r e (fun j x => ?_)
    (fun x => weightLoad_apply arg3 harg3 x1 g x e) (scaleLoad_apply arg4 harg4 x2 g e))
  refine (rowsLoad_apply arg6 _ x0 [] g j r x).trans ?_
  exact congrArg (fun H => ext H x0 (back j.val r) (lane g x)) (funext fun n => funext fun l => congrFun (harg6.read_unread xs0) _)

/-- A first point keeps the tile's last sixteen rows. -/
theorem kept_A (hc0 : cond0_0 i) (n : Fin 16) (l : Fin 512) :
    sout0_A_0 c i arg2 harg2 arg3 harg3 arg4 harg4 arg5 harg5 arg6 harg6 hc0 x0 x1 x2 (ix2 (⟨n.val, by omega⟩ : Fin 528) l)
      = x0 (ix2 (⟨496 + n.val, by omega⟩ : Fin 512) l) := by
  unfold sout0_A_0
  rw [keptPieces_A, tileLoad_eq]
  exact (keep_apply _ _ _ _ n l).trans (lastLoad_apply arg6 x0 _ n l)

/-- A later point keeps the tile's last sixteen rows. -/
theorem kept_B (hc0 : ¬cond0_0 i) (xs0 : Vec Ideal S528x512 .f32) (n : Fin 16) (l : Fin 512) :
    sout0_B_0 c i arg2 harg2 arg3 harg3 arg4 harg4 arg5 harg5 arg6 harg6 hc0 x0 x1 x2 xs0 (ix2 (⟨n.val, by omega⟩ : Fin 528) l)
      = x0 (ix2 (⟨496 + n.val, by omega⟩ : Fin 512) l) := by
  unfold sout0_B_0
  rw [keptPieces_B, tileLoad_eq]
  exact (keep_apply _ _ _ _ n l).trans (lastLoad_apply arg6 x0 _ n l)

end

end Cert.PoolIdeal.Pooled

end
-- ==== Proof.PoolValue.lean ====
/-
  Causal average pooling: the tiled call and the plain computation both leave the mixed trailing averages.
-/
module

public import proofs.«01_k».proof.Proof.PoolPoint
public import proofs.«01_k».proof.Proof.Gen.PoolRefIdeal.Run
public import Idealize.ShloMosaic.Lib.StableHlo.ReadAt

@[expose] public section

set_option maxRecDepth 16384
noncomputable section

namespace Cert.Pooled

open Idealize.ShloMosaic
open scoped BigOperators

/-- Lane `e` of group `g` at place `t`: the trailing averages less the entries, mixed by the group's weights and scaled. -/
def mixed (P : Fin 512 → Fin 4096 → EReal) (w : Fin 4 → Fin 128 → Fin 128 → EReal) (sc : Fin 512 → EReal) (t : Fin 4096)
    (g : Fin 4) (e : Fin 128) : EReal :=
  (∑ x : Fin 128, gap (len g) (lenWord g) (P (lane g x)) t * w g x e) * sc (lane g e)

/-- The same, over both batches' places one after the other and all lanes. -/
def pooled (P : Fin 2 → Fin 512 → Fin 4096 → EReal) (w : Fin 4 → Fin 128 → Fin 128 → EReal) (sc : Fin 512 → EReal) (n : Fin 8192)
    (l : Fin 512) : EReal :=
  mixed (P ⟨n.val / 4096, by omega⟩) w sc ⟨n.val % 4096, by omega⟩ ⟨l.val / 128, by omega⟩ ⟨l.val % 128, by omega⟩

end Cert.Pooled

namespace Cert.PoolIdeal.Pooled

open Idealize.ShloMosaic Idealize.ShloMosaic.TcCoe Idealize.SL.Sem Cert.PoolIdeal Cert.PoolIdeal.Gen Cert.PoolIdeal.Value Cert.Pooled
open scoped BigOperators

variable (m : (l : Loc nD τ sig) → Buf (Elt Ideal) l) (c : Dev nD)

/-! ### What the windows hold -/

/-- The buffers after the operations before the concatenation. -/
def pre (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10]) (fun b => m (c, b)) 30 b

/-- The projected activations' pooling lanes. -/
def src (b : Fin 2) (l : Fin 512) (s : Fin 4096) : EReal := m (c, Proc.tc.devRef main_arg0) (ix3 b s ⟨l.val, by omega⟩)

theorem pre_pool (b : Fin 2) (s : Fin 4096) (l : Fin 512) : pre m c main_v0 (ix3 b s l) = src m c b l s := by
  unfold pre src
  after_reads_at

theorem laid_pool (n : Fin 8192) (l : Fin 512) (z : Fin 6272) (hz : z.val = 2560 + l.val) :
    V m c main_v21 (ix2 n z) = pre m c main_v0 (ix3 (⟨n.val / 4096, by omega⟩ : Fin 2) (⟨n.val % 4096, by omega⟩ : Fin 4096) l) := by
  have h := l.isLt
  have hn := n.isLt
  unfold V
  after_reads_at
  rw [dif_neg (by omega), dif_pos (by omega)]
  refine congrArg (pre m c main_v0) (funext fun a => Fin.ext ?_)
  match a with
  | ⟨0, _⟩ => rfl
  | ⟨1, _⟩ => rfl
  | ⟨2, _⟩ => show z.val - 2560 = l.val; omega

theorem scale_at (l : Fin 512) : V m c main_v22 (ix2 0 l) = m (c, Proc.tc.devRef main_arg2) (ix1 l) := by
  unfold V
  after_reads_at

theorem weights_at (g : Fin 4) (x e : Fin 128) : V m c main_arg1 (ix3 g x e) = m (c, Proc.tc.devRef main_arg1) (ix3 g x e) := by
  unfold V
  after_reads_at

theorem points : cfg0.N = 16 := by decide

theorem place0 : ∀ t : Fin cfg0.N, win0_0.index t (0 : Fin 2) = t.val ∧ win0_0.index t (1 : Fin 2) = 5 :=
  (by decide +kernel : ∀ t : Fin grid0.N, _)
theorem place1 : ∀ t : Fin cfg0.N, win0_1.index t (0 : Fin 3) = 0 ∧ win0_1.index t (1 : Fin 3) = 0 ∧ win0_1.index t (2 : Fin 3) = 0 :=
  (by decide +kernel : ∀ t : Fin grid0.N, _)
theorem place2 : ∀ t : Fin cfg0.N, win0_2.index t (0 : Fin 2) = 0 ∧ win0_2.index t (1 : Fin 2) = 0 :=
  (by decide +kernel : ∀ t : Fin grid0.N, _)
theorem place3 : ∀ t : Fin cfg0.N, win0_3.index t (0 : Fin 2) = t.val ∧ win0_3.index t (1 : Fin 2) = 0 :=
  (by decide +kernel : ∀ t : Fin grid0.N, _)
theorem coord : ∀ t : Fin cfg0.N, (cfg0.grid.coords t (1 : Fin 2)).val = t.val % 8 :=
  (by decide +kernel : ∀ t : Fin grid0.N, (grid0.coords t (1 : Fin 2)).val = t.val % 8)

/-- The batch of a point. -/
def batch (t : Fin cfg0.N) : Fin 2 := ⟨t.val / 8, by have h := Nat.lt_of_lt_of_eq t.isLt points; omega⟩

/-- The place of row `r` of a point's tile. -/
def placeOf (t : Fin cfg0.N) (r : Fin 512) : Fin 4096 := ⟨512 * (t.val % 8) + r.val, by omega⟩

theorem blk0 (f : Buf (Elt Ideal) ((c : Thread nD τ).loc main_v21)) (t : Fin cfg0.N) (y : ((cfg0.win 0).xblock (cfg0.grid.coords t)).Idx)
    (r : Fin 512) (l : Fin 512) (y0 : (y (0 : Fin 2)).val = r.val) (y1 : (y (1 : Fin 2)).val = l.val) :
    ((cfg0.win 0).blk t).view.read (Elt Ideal) f y
      = f (ix2 (⟨512 * t.val + r.val, by have h := Nat.lt_of_lt_of_eq t.isLt points; omega⟩ : Fin 8192) (⟨2560 + l.val, by omega⟩ : Fin 6272)) := by
  obtain ⟨h0, h1⟩ := place0 t
  show f (((cfg0.win 0).blk t).view.emb y) = _
  refine congrArg f (funext fun a => Fin.ext ?_)
  match a with
  | ⟨0, _⟩ => show win0_0.index t (0 : Fin 2) * 512 + 1 * (y (0 : Fin 2)).val = 512 * t.val + r.val; omega
  | ⟨1, _⟩ => show win0_0.index t (1 : Fin 2) * 512 + 1 * (y (1 : Fin 2)).val = 2560 + l.val; omega

/-- A point's tile. -/
theorem win_tile (t : Fin cfg0.N) (r l : Fin 512) : X0_0 m c t (ix2 r l) = src m c (batch t) l (placeOf t r) := by
  have ht := Nat.lt_of_lt_of_eq t.isLt points
  unfold X0_0 Pipeline.Window.fill
  rw [dif_pos (moved0_0 t _)]
  unfold iblk
  refine (blk0 c (V m c main_v21) t _ r l rfl rfl).trans ?_
  refine (laid_pool m c _ l _ rfl).trans ((congrArg₂ (fun b s => pre m c main_v0 (ix3 b s l)) (Fin.ext ?_) (Fin.ext ?_)).trans
    (pre_pool m c (batch t) (placeOf t r) l))
  · show (512 * t.val + r.val) / 4096 = t.val / 8; omega
  · show (512 * t.val + r.val) % 4096 = 512 * (t.val % 8) + r.val; omega

theorem blk1 (t : Fin cfg0.N) (g : Fin 4) (x e : Fin 128) : iblk m c 1 t (ix3 g x e) = m (c, Proc.tc.devRef main_arg1) (ix3 g x e) := by
  obtain ⟨h0, h1, h2⟩ := place1 t
  unfold iblk
  refine Eq.trans (congrArg (V m c main_arg1) (funext fun a => Fin.ext ?_)) (weights_at m c g x e)
  match a with
  | ⟨0, _⟩ => show win0_1.index t (0 : Fin 3) * 4 + 1 * g.val = g.val; omega
  | ⟨1, _⟩ => show win0_1.index t (1 : Fin 3) * 128 + 1 * x.val = x.val; omega
  | ⟨2, _⟩ => show win0_1.index t (2 : Fin 3) * 128 + 1 * e.val = e.val; omega

theorem blk2 (t : Fin cfg0.N) (l : Fin 512) : iblk m c 2 t (ix2 0 l) = m (c, Proc.tc.devRef main_arg2) (ix1 l) := by
  obtain ⟨h0, h1⟩ := place2 t
  unfold iblk
  refine Eq.trans (congrArg (V m c main_v22) (funext fun a => Fin.ext ?_)) (scale_at m c l)
  match a with
  | ⟨0, _⟩ => show win0_2.index t (0 : Fin 2) * 1 + 1 * 0 = 0; omega
  | ⟨1, _⟩ => show win0_2.index t (1 : Fin 2) * 512 + 1 * l.val = l.val; omega

/-! ### A point's block is its rows of the pooled array -/

/-- The count of places up to a row, as the kernel finds it. -/
theorem pos_word (n : ℕ) (hn : n < 8) (r : Fin 512) :
    (FloatOps.sitofp FTy.f32 (IntOp.addi (IntOp.addi (Scalar.muli (BitVec.ofNat 32 n) 512#32) (BitVec.ofNat 32 r.val)) 1#32) : Ideal .f32)
      = 1 + (((512 * n + r.val : ℕ) : ℝ) : EReal) := by
  have hr := r.isLt
  have e : IntOp.addi (IntOp.addi (Scalar.muli (BitVec.ofNat 32 n) 512#32) (BitVec.ofNat 32 r.val)) 1#32 = BitVec.ofNat 32 (512 * n + r.val + 1) := by
    apply BitVec.eq_of_toNat_eq
    show ((n % 2 ^ 32 * 512 % 2 ^ 32 + r.val % 2 ^ 32) % 2 ^ 32 + 1) % 2 ^ 32 = (512 * n + r.val + 1) % 2 ^ 32
    omega
  rw [e]
  show (((((BitVec.ofNat 32 (512 * n + r.val + 1)).toInt : ℝ)) : EReal)) = _
  rw [WordCmp.toInt_ofNat_of_lt (by omega), add_comm (1 : EReal)]
  push_cast
  rfl

theorem pos_at (t : Fin cfg0.N) (r : Fin 512) :
    k0_pay5 (F := Ideal) (grid0.coords t) (ix2 r 0) = 1 + (((placeOf t r).val : ℝ) : EReal) := by
  have h : k0_pay5 (F := Ideal) (grid0.coords t) (ix2 r 0)
      = FloatOps.sitofp FTy.f32 (IntOp.addi (IntOp.addi (Scalar.muli (BitVec.ofNat 32 (grid0.coords t (1 : Fin 2)).val) 512#32) (BitVec.ofNat 32 r.val)) 1#32) := by
    pointwise [k0_pay5]
  rw [h, show (grid0.coords t (1 : Fin 2)).val = t.val % 8 from coord t]
  exact pos_word _ (by omega) r

/-- The rows before a tile: zero before a batch's first place. -/
def halo (t : Fin cfg0.N) (n : Fin 16) (l : Fin 512) : EReal :=
  if h : t.val % 8 = 0 then 0 else src m c (batch t) l ⟨512 * (t.val % 8) - 16 + n.val, by omega⟩

theorem ext_halo (t : Fin cfg0.N) (j : ℕ) (hj : j < 16) (r : Fin 512) (l : Fin 512) :
    ext (halo m c t) (X0_0 m c t) (back j r) l
      = if j ≤ (placeOf t r).val then src m c (batch t) l ⟨(placeOf t r).val - j, by omega⟩ else 0 := by
  have hr := r.isLt
  have hp : (placeOf t r).val = 512 * (t.val % 8) + r.val := rfl
  unfold ext
  by_cases h : (back j r).val < 16
  · have hb : 16 - j + r.val < 16 := h
    rw [dif_pos h]
    unfold halo
    by_cases h0 : t.val % 8 = 0
    · rw [dif_pos h0, if_neg (by omega)]
    · rw [dif_neg h0, if_pos (by omega)]
      refine congrArg (src m c (batch t) l) (Fin.ext ?_)
      show 512 * (t.val % 8) - 16 + (16 - j + r.val) = 512 * (t.val % 8) + r.val - j
      omega
  · have hb : ¬(16 - j + r.val < 16) := h
    rw [dif_neg h, win_tile, if_pos (by omega)]
    refine congrArg (src m c (batch t) l) (Fin.ext ?_)
    show 512 * (t.val % 8) + (16 - j + r.val - 16) = 512 * (t.val % 8) + r.val - j
    omega

/-- A point writes the mixed averages of its rows. -/
theorem step_eq (t : Fin cfg0.N) (g : Fin 4) (r : Fin 512) (e : Fin 128) :
    stepOut (X0_0 m c t) (iblk m c 1 t) (iblk m c 2 t) (k0_pay5 (F := Ideal) (grid0.coords t) (ix2 r 0)) (ext (halo m c t) (X0_0 m c t)) g r e
      = mixed (src m c (batch t)) (fun g x e => m (c, Proc.tc.devRef main_arg1) (ix3 g x e)) (fun l => m (c, Proc.tc.devRef main_arg2) (ix1 l))
          (placeOf t r) g e := by
  unfold stepOut mixed gap trail
  rw [pos_at, blk2]
  refine congrArg (fun x : EReal => x * _) (Finset.sum_congr rfl fun x _ => ?_)
  rw [blk1, win_tile]
  refine congrArg (fun s : EReal => (Ideal.div s _ - _) * _) (Finset.sum_congr rfl fun j _ => ?_)
  exact ext_halo m c t j.val (Nat.lt_of_lt_of_le j.isLt (len_le g)) r (lane g x)

theorem block_A (t : Fin cfg0.N) (h0 : t.val % 8 = 0) : (outsAt0 m c t.val t.isLt).1
    = out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (X0_0 m c t) (iblk m c 1 t) (iblk m c 2 t) := by
  rw [outsAt0_A m c t h0]

theorem rows_A (t : Fin cfg0.N) (h0 : t.val % 8 = 0) : (outsAt0 m c t.val t.isLt).2
    = sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (X0_0 m c t) (iblk m c 1 t) (iblk m c 2 t) := by
  rw [outsAt0_A m c t h0]

theorem block_B (t : Fin cfg0.N) (h0 : ¬t.val % 8 = 0) : (outsAt0 m c t.val t.isLt).1
    = out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (X0_0 m c t) (iblk m c 1 t) (iblk m c 2 t) (outsAt0 m c (t.val - 1) (Nat.lt_of_le_of_lt (Nat.sub_le _ _) t.isLt)).2 := by
  rw [outsAt0_B m c t h0]

theorem rows_B (t : Fin cfg0.N) (h0 : ¬t.val % 8 = 0) : (outsAt0 m c t.val t.isLt).2
    = sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (X0_0 m c t) (iblk m c 1 t) (iblk m c 2 t) (outsAt0 m c (t.val - 1) (Nat.lt_of_le_of_lt (Nat.sub_le _ _) t.isLt)).2 := by
  rw [outsAt0_B m c t h0]

/-- Every point keeps its tile's last sixteen rows. -/
theorem kept (t : Fin cfg0.N) (n : Fin 16) (l : Fin 512) :
    (outsAt0 m c t.val t.isLt).2 (ix2 (⟨n.val, by omega⟩ : Fin 528) l) = X0_0 m c t (ix2 (⟨496 + n.val, by omega⟩ : Fin 512) l) := by
  by_cases h0 : t.val % 8 = 0
  · have e := kept_A c (grid0.coords t) (ms0_0 t) (hs0_0 t) (ms0_1 t) (hs0_1 t) (ms0_2 t) (hs0_2 t) (ms0_3 t) (hs0_3 t) scM0_0 (Memref.isWhole_whole _) (X0_0 m c t) (iblk m c 1 t) (iblk m c 2 t) ((hcond0_0 t).mpr h0) n l
    exact (congrFun (rows_A m c t h0) _).trans e
  · have e := kept_B c (grid0.coords t) (ms0_0 t) (hs0_0 t) (ms0_1 t) (hs0_1 t) (ms0_2 t) (hs0_2 t) (ms0_3 t) (hs0_3 t) scM0_0 (Memref.isWhole_whole _) (X0_0 m c t) (iblk m c 1 t) (iblk m c 2 t) (fun h => h0 ((hcond0_0 t).mp h))
      (outsAt0 m c (t.val - 1) (Nat.lt_of_le_of_lt (Nat.sub_le _ _) t.isLt)).2 n l
    exact (congrFun (rows_B m c t h0) _).trans e

/-- What a point leaves in the output block. -/
theorem out_eq (t : Fin cfg0.N) (g : Fin 4) (r : Fin 512) (e : Fin 128) :
    (outsAt0 m c t.val t.isLt).1 (ix2 r (lane g e))
      = mixed (src m c (batch t)) (fun g x e => m (c, Proc.tc.devRef main_arg1) (ix3 g x e)) (fun l => m (c, Proc.tc.devRef main_arg2) (ix1 l))
          (placeOf t r) g e := by
  refine Eq.trans ?_ (step_eq m c t g r e)
  have ht := Nat.lt_of_lt_of_eq t.isLt points
  by_cases h0 : t.val % 8 = 0
  · have q := out_A c (grid0.coords t) (ms0_0 t) (hs0_0 t) (ms0_1 t) (hs0_1 t) (ms0_2 t) (hs0_2 t) (ms0_3 t) (hs0_3 t) scM0_0 (Memref.isWhole_whole _) (X0_0 m c t) (iblk m c 1 t) (iblk m c 2 t) ((hcond0_0 t).mpr h0) g r e
    refine (congrFun (block_A m c t h0) _).trans (q.trans ?_)
    refine congrArg (fun H => stepOut _ _ _ _ (ext H _) g r e) (funext fun n => funext fun l => ?_)
    unfold halo
    rw [dif_pos h0]
  · have q := out_B c (grid0.coords t) (ms0_0 t) (hs0_0 t) (ms0_1 t) (hs0_1 t) (ms0_2 t) (hs0_2 t) (ms0_3 t) (hs0_3 t) scM0_0 (Memref.isWhole_whole _) (X0_0 m c t) (iblk m c 1 t) (iblk m c 2 t) (fun h => h0 ((hcond0_0 t).mp h))
      (outsAt0 m c (t.val - 1) (Nat.lt_of_le_of_lt (Nat.sub_le _ _) t.isLt)).2 g r e
    refine (congrFun (block_B m c t h0) _).trans (q.trans ?_)
    refine congrArg (fun H => stepOut _ _ _ _ (ext H _) g r e) (funext fun n => funext fun l => ?_)
    unfold halo
    rw [dif_neg h0]
    refine (kept m c ⟨t.val - 1, by omega⟩ n l).trans ((win_tile m c _ _ l).trans ?_)
    refine congrArg₂ (fun b s => src m c b l s) (Fin.ext ?_) (Fin.ext ?_)
    · show (t.val - 1) / 8 = t.val / 8; omega
    · show 512 * ((t.val - 1) % 8) + (496 + n.val) = 512 * (t.val % 8) - 16 + n.val; omega

/-- The pooled array of the arguments. -/
def G : Vec Ideal S8192x512 .bf16 := fun i =>
  pooled (src m c) (fun g x e => m (c, Proc.tc.devRef main_arg1) (ix3 g x e)) (fun l => m (c, Proc.tc.devRef main_arg2) (ix1 l)) (i 0) (i 1)

theorem G_apply (n : Fin 8192) (l : Fin 512) :
    G m c (ix2 n l) = pooled (src m c) (fun g x e => m (c, Proc.tc.devRef main_arg1) (ix3 g x e)) (fun l => m (c, Proc.tc.devRef main_arg2) (ix1 l)) n l := rfl

/-- What a point writes back is its block of the pooled array. -/
theorem flushed_eq (t : Fin cfg0.N) : (dats m 0 c).flushed 3 t = ((cfg0.win 3).blk t).view.read (Elt Ideal) (G m c) := by
  rw [flushed3]
  obtain ⟨h0, h1⟩ := place3 t
  have ht := Nat.lt_of_lt_of_eq t.isLt points
  funext y
  have hy0 : (y 0).val < 512 := (y 0).isLt
  have hy1 : (y 1).val < 512 := (y 1).isLt
  have ein : (cfg0.win 3).xinj (grid0.coords t) y = ix2 (⟨(y 0).val, hy0⟩ : Fin 512) (lane ⟨(y 1).val / 128, by omega⟩ ⟨(y 1).val % 128, by omega⟩) :=
    funext fun a => Fin.ext (match a with
      | ⟨0, _⟩ => rfl
      | ⟨1, _⟩ => by show (y 1).val = 128 * ((y 1).val / 128) + (y 1).val % 128; omega)
  have eout : ((cfg0.win 3).blk t).view.emb y = ix2 (⟨512 * t.val + (y 0).val, by omega⟩ : Fin 8192) (⟨(y 1).val, hy1⟩ : Fin 512) :=
    funext fun a => Fin.ext (match a with
      | ⟨0, _⟩ => by show win0_3.index t (0 : Fin 2) * 512 + 1 * (y 0).val = 512 * t.val + (y 0).val; omega
      | ⟨1, _⟩ => by show win0_3.index t (1 : Fin 2) * 512 + 1 * (y 1).val = (y 1).val; omega)
  show (outsAt0 m c t.val t.isLt).1 ((cfg0.win 3).xinj (grid0.coords t) y) = G m c (((cfg0.win 3).blk t).view.emb y)
  rw [ein, eout, out_eq, G_apply]
  unfold pooled
  refine congrArg₂ (fun b s => mixed (src m c b) _ _ s _ _) (Fin.ext ?_) (Fin.ext ?_)
  · show t.val / 8 = (512 * t.val + (y 0).val) / 4096; omega
  · show 512 * (t.val % 8) + (y 0).val = (512 * t.val + (y 0).val) % 4096; omega

/-- The blocks tile the array. -/
theorem covered (i : S8192x512.Idx) : ∃ t : Fin cfg0.N, (cfg0.win 3).flush t = true ∧ i ∈ ((cfg0.win 3).blk t).view.set := by
  have h0 : (i 0).val < 8192 := (i 0).isLt
  have h1 : (i 1).val < 512 := (i 1).isLt
  exact (covered_iff3 i).2 (by omega)

/-- The array ends as the pooled array of the arguments. -/
theorem final : (dats m 0 c).arrAt 3 cfg0.N = G m c :=
  (dats m 0 c).arrAt_eq_of_cover 3 (G m c) (fun t _ => flushed_eq m c t) covered

end Cert.PoolIdeal.Pooled

end
-- ==== Proof.PoolRef.lean ====
/-
  Causal average pooling: the plain computation, with each trailing sum as a product with a band of ones.
-/
module

public import proofs.«01_k».proof.Proof.PoolValue

@[expose] public section

set_option maxRecDepth 16384
noncomputable section

namespace Cert.Pooled

open Idealize.ShloMosaic
open scoped BigOperators

/-- Summing against the band of the last `win` places gives the trailing sum. -/
theorem sum_band (win : ℕ) (f : Fin 4096 → EReal) (t : Fin 4096) :
    ∑ s : Fin 4096, f s * (if s.val ≤ t.val ∧ t.val < s.val + win then (1 : EReal) else 0) = trail win f t := by
  have e1 : ∀ j : Fin win, (if j.val ≤ t.val then f ⟨t.val - j.val, by omega⟩ else 0) = ∑ s : Fin 4096, if s.val + j.val = t.val then f s else 0 := by
    intro j
    by_cases h : j.val ≤ t.val
    · rw [if_pos h, Finset.sum_eq_single (⟨t.val - j.val, by omega⟩ : Fin 4096)]
      · rw [if_pos (by show t.val - j.val + j.val = t.val; omega)]
      · intro s _ hs
        exact if_neg fun q => hs (Fin.ext (by show s.val = t.val - j.val; omega))
      · exact fun h => absurd (Finset.mem_univ _) h
    · rw [if_neg h]
      exact (Finset.sum_eq_zero fun s _ => if_neg (by omega)).symm
  unfold trail
  simp only [e1]
  rw [Finset.sum_comm]
  refine Finset.sum_congr rfl fun s _ => ?_
  by_cases h : s.val ≤ t.val ∧ t.val < s.val + win
  · rw [if_pos h, mul_one, Finset.sum_eq_single (⟨t.val - s.val, by omega⟩ : Fin win)]
    · rw [if_pos (by show s.val + (t.val - s.val) = t.val; omega)]
    · intro j _ hj
      exact if_neg fun q => hj (Fin.ext (by show j.val = t.val - s.val; omega))
    · exact fun h => absurd (Finset.mem_univ _) h
  · rw [if_neg h, mul_zero]
    exact (Finset.sum_eq_zero fun j _ => if_neg (by have := j.isLt; omega)).symm

/-- The band's words: one at the last `win` places. -/
theorem band_word (t s : Fin 4096) (win : ℕ) (hw : win ≤ 16) :
    (Scalar.select (IntOp.andi (IntOp.cmpi .sge (IntOp.subi (BitVec.ofNat 32 t.val) (BitVec.ofNat 32 s.val)) 0#32)
      (IntOp.cmpi .slt (IntOp.subi (BitVec.ofNat 32 t.val) (BitVec.ofNat 32 s.val)) (BitVec.ofNat 32 win))) (1 : EReal) 0)
      = if s.val ≤ t.val ∧ t.val < s.val + win then (1 : EReal) else 0 := by
  have ht := t.isLt
  have hs := s.isLt
  have e : (IntOp.subi (BitVec.ofNat 32 t.val) (BitVec.ofNat 32 s.val)).toInt = (t.val : Int) - s.val := by
    show (BitVec.ofNat 32 t.val - BitVec.ofNat 32 s.val).toInt = _
    rw [BitVec.toInt_sub, WordCmp.toInt_ofNat_of_lt (by omega), WordCmp.toInt_ofNat_of_lt (by omega)]
    refine Int.bmod_eq_of_le ?_ ?_ <;> omega
  rw [WordCmp.cmpi_sge_eq, WordCmp.cmpi_slt_eq, e, WordCmp.toInt_ofNat_of_lt (a := win) (by omega), WordCmp.andi_ofBool, ← Bool.decide_and,
    show (0#32 : BitVec 32).toInt = 0 from rfl]
  by_cases h : s.val ≤ t.val ∧ t.val < s.val + win
  · rw [if_pos h, decide_eq_true (by omega)]
    rfl
  · rw [if_neg h, decide_eq_false (by omega)]
    rfl

end Cert.Pooled

namespace Cert.PoolRefIdeal.Pooled

open Idealize.ShloMosaic Idealize.ShloMosaic.TcCoe Idealize.SL.Sem Cert.PoolRefIdeal Cert.PoolRefIdeal.Gen Cert.Pooled
open scoped BigOperators

/-- The band of the last places, as the program builds it. -/
def band (w : BitVec 32) : FVec Ideal S4096x4096 .f32 :=
  select (andi (cmpi .sge (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) (broadcastInDim S4096x4096 ![] bcast_S_S4096x4096 (constantI S_ 32 0#32))) (cmpi .slt (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) (broadcastInDim S4096x4096 ![] bcast_S_S4096x4096 (constantI S_ 32 w)))) (broadcastInDim S4096x4096 ![] bcast_S_S4096x4096 (constant (F := Ideal) S_ .f32 0x3F800000#32)) (broadcastInDim S4096x4096 ![] bcast_S_S4096x4096 (constant (F := Ideal) S_ .f32 0x00000000#32))

theorem band_apply (win : ℕ) (hw : win ≤ 16) (t s : Fin 4096) :
    band (BitVec.ofNat 32 win) (ix2 t s) = if s.val ≤ t.val ∧ t.val < s.val + win then (1 : EReal) else 0 := by
  refine Eq.trans ?_ (band_word t s win hw)
  unfold band
  pointwise

/-- One group's trailing averages less the entries, as the program computes them of the group's lanes and the band. -/
def apart (B : FVec Ideal S2x4096x128 .f32) (L : FVec Ideal S4096x4096 .f32) (k : BitVec 32) : FVec Ideal S2x4096x128 .f32 :=
  subf (Host.divf (transpose S2x4096x128 [0, 2, 1] (Host.dotGeneral dot_S2x4096x128_S4096x4096_S2x128x4096_1_1_02_0_n_n none B L) transposes_S2x128x4096_S2x4096x128_0_2_1) (broadcastInDim S2x4096x128 ![0, 1, 2] bcast_S1x4096x1_S2x4096x128_0_1_2 (broadcastInDim S1x4096x1 ![1] bcast_S4096_S1x4096x1_1 (minimumf (addf (broadcastInDim S4096 ![] bcast_S_S4096 (constant (F := Ideal) S_ .f32 0x3F800000#32)) (sitofp .f32 (iotaInDim S4096 32 0))) (broadcastInDim S4096 ![] bcast_S_S4096 (constant (F := Ideal) S_ .f32 k)))))) B

theorem apart_raw (B : FVec Ideal S2x4096x128 .f32) (L : FVec Ideal S4096x4096 .f32) (k : BitVec 32) (b : Fin 2) (t : Fin 4096) (x : Fin 128) :
    apart B L k (ix3 b t x)
      = Ideal.div (∑ s : Fin 4096, B (ix3 b s x) * L (ix2 t s)) (min (1 + FloatOps.sitofp (F := Ideal) FTy.f32 (BitVec.ofNat 32 t.val)) (Ideal.ofBits FTy.f32 k))
        - B (ix3 b t x) := by
  unfold apart
  pointwise

theorem apart_apply (B : FVec Ideal S2x4096x128 .f32) (win : ℕ) (hw : win ≤ 16) (k : BitVec 32) (b : Fin 2) (t : Fin 4096) (x : Fin 128) :
    apart B (band (BitVec.ofNat 32 win)) k (ix3 b t x) = gap win k (fun s => B (ix3 b s x)) t := by
  have ht := t.isLt
  rw [apart_raw]
  simp only [band_apply win hw]
  rw [sum_band win (fun s => B (ix3 b s x)) t]
  unfold gap
  have e : FloatOps.sitofp (F := Ideal) FTy.f32 (BitVec.ofNat 32 t.val) = ((t.val : ℝ) : EReal) := by
    show (((((BitVec.ofNat 32 t.val).toInt : ℝ)) : EReal)) = _
    rw [WordCmp.toInt_ofNat_of_lt (by omega)]
    rfl
  rw [e]

variable (A : FVec Ideal S2x4096x5392 .f32) (W : FVec Ideal S4x128x128 .f32) (sc : FVec Ideal S512 .f32)

def lanes0 : FVec Ideal S2x4096x128 .f32 := extractStridedSlice S2x4096x128 ![0, 0, 0] (extractStridedSlice S2x4096x512 ![0, 0, 0] A slices_S2x4096x5392_S2x4096x512_0_0_0) slices_S2x4096x512_S2x4096x128_0_0_0

theorem lanes0_at (b : Fin 2) (t : Fin 4096) (x : Fin 128) : lanes0 A (ix3 b t x) = A (ix3 b t ⟨(lane 0 x).val, by omega⟩) := by
  have e : lanes0 A (ix3 b t x) = A (ix3 b t ⟨x.val, by omega⟩) := by
    unfold lanes0
    pointwise
  exact e.trans (congrArg (fun z => A (ix3 b t z)) (Fin.ext (by show x.val = 128 * 0 + x.val; omega)))

def lanes1 : FVec Ideal S2x4096x128 .f32 := extractStridedSlice S2x4096x128 ![0, 0, 128] (extractStridedSlice S2x4096x512 ![0, 0, 0] A slices_S2x4096x5392_S2x4096x512_0_0_0) slices_S2x4096x512_S2x4096x128_0_0_128

theorem lanes1_at (b : Fin 2) (t : Fin 4096) (x : Fin 128) : lanes1 A (ix3 b t x) = A (ix3 b t ⟨(lane 1 x).val, by omega⟩) := by
  have e : lanes1 A (ix3 b t x) = A (ix3 b t ⟨128 + x.val, by omega⟩) := by
    unfold lanes1
    pointwise
  exact e.trans (congrArg (fun z => A (ix3 b t z)) (Fin.ext (by show 128 + x.val = 128 * 1 + x.val; omega)))

def lanes2 : FVec Ideal S2x4096x128 .f32 := extractStridedSlice S2x4096x128 ![0, 0, 256] (extractStridedSlice S2x4096x512 ![0, 0, 0] A slices_S2x4096x5392_S2x4096x512_0_0_0) slices_S2x4096x512_S2x4096x128_0_0_256

theorem lanes2_at (b : Fin 2) (t : Fin 4096) (x : Fin 128) : lanes2 A (ix3 b t x) = A (ix3 b t ⟨(lane 2 x).val, by omega⟩) := by
  have e : lanes2 A (ix3 b t x) = A (ix3 b t ⟨256 + x.val, by omega⟩) := by
    unfold lanes2
    pointwise
  exact e.trans (congrArg (fun z => A (ix3 b t z)) (Fin.ext (by show 256 + x.val = 128 * 2 + x.val; omega)))

def lanes3 : FVec Ideal S2x4096x128 .f32 := extractStridedSlice S2x4096x128 ![0, 0, 384] (extractStridedSlice S2x4096x512 ![0, 0, 0] A slices_S2x4096x5392_S2x4096x512_0_0_0) slices_S2x4096x512_S2x4096x128_0_0_384

theorem lanes3_at (b : Fin 2) (t : Fin 4096) (x : Fin 128) : lanes3 A (ix3 b t x) = A (ix3 b t ⟨(lane 3 x).val, by omega⟩) := by
  have e : lanes3 A (ix3 b t x) = A (ix3 b t ⟨384 + x.val, by omega⟩) := by
    unfold lanes3
    pointwise
  exact e.trans (congrArg (fun z => A (ix3 b t z)) (Fin.ext (by show 384 + x.val = 128 * 3 + x.val; omega)))

/-- The four groups' trailing averages less the entries. -/
def gaps : Fin 4 → FVec Ideal S2x4096x128 .f32
  | 0 => apart (lanes0 A) (band 2#32) 0x40000000#32
  | 1 => apart (lanes1 A) (band 4#32) 0x40800000#32
  | 2 => apart (lanes2 A) (band 8#32) 0x41000000#32
  | 3 => apart (lanes3 A) (band 16#32) 0x41800000#32

theorem gaps_apply (g : Fin 4) (b : Fin 2) (t : Fin 4096) (x : Fin 128) :
    gaps A g (ix3 b t x) = gap (len g) (lenWord g) (fun s => A (ix3 b s ⟨(lane g x).val, by omega⟩)) t := by
  match g with
  | 0 => exact (apart_apply (lanes0 A) 2 (by omega) 0x40000000#32 b t x).trans (congrArg (fun f => gap 2 0x40000000#32 f t) (funext fun s => lanes0_at A b s x))
  | 1 => exact (apart_apply (lanes1 A) 4 (by omega) 0x40800000#32 b t x).trans (congrArg (fun f => gap 4 0x40800000#32 f t) (funext fun s => lanes1_at A b s x))
  | 2 => exact (apart_apply (lanes2 A) 8 (by omega) 0x41000000#32 b t x).trans (congrArg (fun f => gap 8 0x41000000#32 f t) (funext fun s => lanes2_at A b s x))
  | 3 => exact (apart_apply (lanes3 A) 16 (by omega) 0x41800000#32 b t x).trans (congrArg (fun f => gap 16 0x41800000#32 f t) (funext fun s => lanes3_at A b s x))

/-- Four groups' arrays, one beside the other. -/
def stacked (D : Fin 4 → FVec Ideal S2x4096x128 .f32) : FVec Ideal S2x4096x4x128 .f32 :=
  concatenate S2x4096x4x128 2 [⟨S2x4096x1x128, broadcastInDim S2x4096x1x128 ![0, 1, 3] bcast_S2x4096x128_S2x4096x1x128_0_1_3 (D 0)⟩, ⟨S2x4096x1x128, broadcastInDim S2x4096x1x128 ![0, 1, 3] bcast_S2x4096x128_S2x4096x1x128_0_1_3 (D 1)⟩, ⟨S2x4096x1x128, broadcastInDim S2x4096x1x128 ![0, 1, 3] bcast_S2x4096x128_S2x4096x1x128_0_1_3 (D 2)⟩, ⟨S2x4096x1x128, broadcastInDim S2x4096x1x128 ![0, 1, 3] bcast_S2x4096x128_S2x4096x1x128_0_1_3 (D 3)⟩] concatenates_S2x4096x1x128_S2x4096x1x128_S2x4096x1x128_S2x4096x1x128_S2x4096x4x128_d2

theorem stacked_apply (D : Fin 4 → FVec Ideal S2x4096x128 .f32) (b : Fin 2) (t : Fin 4096) (g : Fin 4) (x : Fin 128) :
    stacked D (ix4 b t g x) = D g (ix3 b t x) := by
  unfold stacked
  fin_cases g <;> pointwise

/-- The program's result of the four groups' arrays. -/
def mixAll (D : FVec Ideal S2x4096x4x128 .f32) : FVec Ideal S8192x512 .bf16 :=
  truncf .bf16 (shapeCast _ (mulf (shapeCast _ (transpose S2x4096x4x128 [2, 3, 0, 1] (Host.dotGeneral dot_S4x128x128_S2x4096x4x128_S4x128x2x4096_1_3_2_01_0_2 none W D) transposes_S4x128x2x4096_S2x4096x4x128_2_3_0_1) shapeCasts_S2x4096x4x128_S2x4096x512) (broadcastInDim S2x4096x512 ![0, 1, 2] bcast_S1x1x512_S2x4096x512_0_1_2 (broadcastInDim S1x1x512 ![2] bcast_S512_S1x1x512_2 sc))) shapeCasts_S2x4096x512_S8192x512) bitsLt_bf16_f32

theorem mixAll_apply (D : FVec Ideal S2x4096x4x128 .f32) (n : Fin 8192) (l : Fin 512) :
    mixAll W sc D (ix2 n l)
      = (∑ x : Fin 128, W (ix3 ⟨l.val / 128, by omega⟩ x ⟨l.val % 128, by omega⟩)
          * D (ix4 ⟨n.val / 4096, by omega⟩ ⟨n.val % 4096, by omega⟩ ⟨l.val / 128, by omega⟩ x)) * sc (ix1 l) := by
  unfold mixAll
  pointwise

/-- The reference's result. -/
def whole : FVec Ideal S8192x512 .bf16 := mixAll W sc (stacked (gaps A))

theorem whole_eq (m : (l : Loc nD τ sig) → Buf (Elt Ideal) l) (c : Dev nD) :
    Cert.PoolRefIdeal.Value.res_main_v83 m c
      = whole (m (c, Proc.tc.devRef main_arg0)) (m (c, Proc.tc.devRef main_arg1)) (m (c, Proc.tc.devRef main_arg2)) := rfl

theorem whole_at (n : Fin 8192) (l : Fin 512) :
    whole A W sc (ix2 n l) = pooled (fun b l s => A (ix3 b s ⟨l.val, by omega⟩)) (fun g x e => W (ix3 g x e)) (fun l => sc (ix1 l)) n l := by
  unfold whole pooled mixed
  rw [mixAll_apply]
  simp only [stacked_apply, gaps_apply]
  refine congrArg₂ (fun x y : EReal => x * y) (Finset.sum_congr rfl fun x _ => mul_comm _ _) (congrArg (fun z => sc (ix1 z)) (Fin.ext ?_))
  show l.val = 128 * (l.val / 128) + l.val % 128
  omega

/-- The reference leaves the pooled array. -/
theorem whole_pooled :
    whole A W sc = fun i => pooled (fun b l s => A (ix3 b s ⟨l.val, by omega⟩)) (fun g x e => W (ix3 g x e)) (fun l => sc (ix1 l)) (i 0) (i 1) := by
  funext i
  have hi : i = ix2 (i 0) (i 1) := funext fun a => match a with
    | ⟨0, _⟩ => rfl
    | ⟨1, _⟩ => rfl
  exact (congrArg (whole A W sc) hi).trans (whole_at A W sc (i 0) (i 1))

end Cert.PoolRefIdeal.Pooled

end
-- ==== Proof.PoolClaims.lean ====
/-
  The claims about causal average pooling.
-/
module

public import proofs.«01_k».proof.Defs
public import proofs.«01_k».proof.Proof.Gen.Pool.Frame
public import proofs.«01_k».proof.Proof.PoolRef
public import Idealize.ShloMosaic.Lib.Quiescent

@[expose] public section

noncomputable section

namespace Cert.Proof.Pool

open Idealize.ShloMosaic Idealize.SL.Sem

theorem frame_kernel : Cert.quiescent_Pool := fun m ρ _ => Cert.Pool.Gen.frame m ρ

theorem frame_ideal : Cert.quiescent_PoolIdeal := fun m ρ _ => Cert.PoolIdeal.Gen.frame m ρ

theorem frame_reference : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- Both programs leave the pooled array of the arguments. -/
theorem equal : Cert.algebraic_PoolIdeal_PoolRefIdeal := by
  intro m g m' g' _ agree
  refine ⟨fun c => Cert.PoolIdeal.Pooled.G m c, ?_, ?_⟩
  · exact (θ_run _ _ _).mono (fun _ h c => ⟨(h c).1.trans (Cert.PoolIdeal.Pooled.final m c), (h c).2⟩)
      (Cert.PoolIdeal.Value.run_blocks (F := Ideal) m g)
  · refine (θ_run _ _ _).mono (fun _ h c => ⟨(h c).1.trans ?_, (h c).2⟩) (Cert.PoolRefIdeal.Value.run (F := Ideal) m' g')
    refine (Cert.PoolRefIdeal.Pooled.whole_eq m' c).trans ?_
    refine (Cert.PoolRefIdeal.Pooled.whole_pooled _ _ _).trans ?_
    rw [(agree c).1, (agree c).2.1, (agree c).2.2]
    rfl

end Cert.Proof.Pool

end
-- ==== Proof.lean ====
/-
  The certificate: every printed program runs and leaves its arguments,
  the ideal programs are the printed ones (the attention up to one named constant), and their results are the references'.
-/
module

public import proofs.«01_k».proof.Defs
public import proofs.«01_k».proof.Proof.Gen.Query.Frame
public import proofs.«01_k».proof.Proof.Gen.InProj.Frame
public import proofs.«01_k».proof.Proof.Gen.OutProj.Frame
public import proofs.«01_k».proof.Proof.Gen.Final.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.InProjIdeal.Value
public import proofs.«01_k».proof.Proof.Gen.InProjRefIdeal.Run
public import proofs.«01_k».proof.Proof.Gen.OutProjIdeal.Value
public import proofs.«01_k».proof.Proof.Gen.OutProjRefIdeal.Run
public import proofs.«01_k».proof.Proof.Gen.QueryIdeal.Value
public import proofs.«01_k».proof.Proof.Gen.QueryRefIdeal.Run
public import proofs.«01_k».proof.Proof.Gen.FinalIdeal.Value
public import proofs.«01_k».proof.Proof.Gen.FinalRefIdeal.Run
public import proofs.«01_k».proof.Proof.Gen.Mod.Frame
public import proofs.«01_k».proof.Proof.Gen.ModIdeal.Value
public import proofs.«01_k».proof.Proof.Gen.ModRefIdeal.Run
public import proofs.«01_k».proof.Proof.Gen.Norm.Frame
public import proofs.«01_k».proof.Proof.Gen.NormIdeal.Value
public import proofs.«01_k».proof.Proof.Gen.NormRefIdeal.Run
public import proofs.«01_k».proof.Proof.Gen.Resid.Frame
public import proofs.«01_k».proof.Proof.Gen.ResidIdeal.Value
public import proofs.«01_k».proof.Proof.Gen.ResidRefIdeal.Run
public import proofs.«01_k».proof.Proof.Gen.Pool.Frame
public import proofs.«01_k».proof.Proof.Gen.PoolIdeal.Value
public import proofs.«01_k».proof.Proof.Gen.PoolRefIdeal.Run
public import proofs.«01_k».proof.Proof.Equation
public import proofs.«01_k».proof.Proof.InProjClaims
public import proofs.«01_k».proof.Proof.OutProjClaims
public import proofs.«01_k».proof.Proof.QueryClaims
public import proofs.«01_k».proof.Proof.FinalClaims
public import proofs.«01_k».proof.Proof.ModClaims
public import proofs.«01_k».proof.Proof.NormClaims
public import proofs.«01_k».proof.Proof.ResidClaims
public import proofs.«01_k».proof.Proof.PoolClaims
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference runs, leaves its arguments and uses no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The printed literal stands for one over 192, the width of a value head. -/
theorem named : Cert.preserves_Kernel_KernelIdeal :=
  IdealRules.named_const.statement Cert.KernelIdeal.κ "inv_dv" .f32 0x3BAAAAAB#32 ((192⁻¹ : ℝ) : EReal) rfl

/-- From arguments that agree the chunked kernel and the plain recurrence leave one array. -/
theorem equal : Cert.algebraic_KernelIdeal_ReferenceIdeal := by
  intro m g m' g' _ agree
  refine ⟨fun c => Cert.KernelIdeal.Value.G8 m c, Cert.KernelIdeal.Value.run (F := Ideal) m g, ?_⟩
  refine (θ_run _ _ _).mono (fun _ h c => ⟨(h c).1.trans ?_, (h c).2⟩) (Cert.ReferenceIdeal.Value.run (F := Ideal) m' g')
  exact Cert.Gla.results_agree m m' c (agree c).1 (agree c).2.1 (agree c).2.2.1 (agree c).2.2.2

/-- All the claims of the certificate. -/
theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.Query.Gen.facts, Cert.QueryIdeal.Gen.facts, Cert.QueryRefIdeal.Gen.facts,
    Cert.Final.Gen.facts, Cert.FinalIdeal.Gen.facts, Cert.FinalRefIdeal.Gen.facts,
    Cert.Mod.Gen.facts, Cert.ModIdeal.Gen.facts, Cert.ModRefIdeal.Gen.facts,
    Cert.Norm.Gen.facts, Cert.NormIdeal.Gen.facts, Cert.NormRefIdeal.Gen.facts,
    Cert.Resid.Gen.facts, Cert.ResidIdeal.Gen.facts, Cert.ResidRefIdeal.Gen.facts,
    Cert.Pool.Gen.facts, Cert.PoolIdeal.Gen.facts, Cert.PoolRefIdeal.Gen.facts,
    fun m ρ _ => Cert.Kernel.Gen.frame m ρ, fun m ρ _ => Cert.KernelIdeal.Gen.frame m ρ, frame_reference,
    InProj.frame_kernel, InProj.frame_ideal, InProj.frame_reference,
    OutProj.frame_kernel, OutProj.frame_ideal, OutProj.frame_reference,
    Query.frame_kernel, Query.frame_ideal, Query.frame_reference,
    Final.frame_kernel, Final.frame_ideal, Final.frame_reference,
    Mod.frame_kernel, Mod.frame_ideal, Mod.frame_reference,
    Norm.frame_kernel, Norm.frame_ideal, Norm.frame_reference,
    Resid.frame_kernel, Resid.frame_ideal, Resid.frame_reference,
    Pool.frame_kernel, Pool.frame_ideal, Pool.frame_reference,
    named, equal, trivial, InProj.equal, trivial, OutProj.equal, trivial, Query.equal, trivial, Final.equal,
    trivial, Mod.equal, trivial, Norm.equal, trivial, Resid.equal, trivial, Pool.equal⟩

end Cert.Proof

end
